-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 8]⟩ ⟨2, ![1024, 16]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![8, 1024, 4096]⟩ ⟨3, ![16, 1024, 4096]⟩ (Layout.meshBlock [2, 2, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![8, 4096, 1024]⟩ ⟨3, ![16, 4096, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = Layout.blockN ⟨2, ![1024, 1024]⟩ ⟨2, ![2048, 1024]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S_ : Shape := ⟨0, ![]⟩
abbrev S1024x16 : Shape := ⟨2, ![1024, 16]⟩
abbrev S6 : Shape := ⟨1, ![6]⟩
abbrev S1 : Shape := ⟨1, ![1]⟩
abbrev S2048x16 : Shape := ⟨2, ![2048, 16]⟩
abbrev S2048x2 : Shape := ⟨2, ![2048, 2]⟩
abbrev S2048 : Shape := ⟨1, ![2048]⟩
abbrev S2048x1 : Shape := ⟨2, ![2048, 1]⟩
abbrev S8 : Shape := ⟨1, ![8]⟩
abbrev S1x2048x2 : Shape := ⟨3, ![1, 2048, 2]⟩
abbrev S8x1x1 : Shape := ⟨3, ![8, 1, 1]⟩
abbrev S8x2048x2 : Shape := ⟨3, ![8, 2048, 2]⟩
abbrev S8x2048 : Shape := ⟨2, ![8, 2048]⟩
abbrev S8x320 : Shape := ⟨2, ![8, 320]⟩
abbrev S8x320x1 : Shape := ⟨3, ![8, 320, 1]⟩
abbrev S8x1x320 : Shape := ⟨3, ![8, 1, 320]⟩
abbrev S8x2048x1 : Shape := ⟨3, ![8, 2048, 1]⟩
abbrev S1x320x1 : Shape := ⟨3, ![1, 320, 1]⟩
abbrev S1x1x320 : Shape := ⟨3, ![1, 1, 320]⟩
abbrev S1x2048x1 : Shape := ⟨3, ![1, 2048, 1]⟩
abbrev S1x1024x1024 : Shape := ⟨3, ![1, 1024, 1024]⟩
abbrev S320x1024 : Shape := ⟨2, ![320, 1024]⟩
abbrev S320x2048 : Shape := ⟨2, ![320, 2048]⟩
abbrev S320x1 : Shape := ⟨2, ![320, 1]⟩
abbrev S1024x320 : Shape := ⟨2, ![1024, 320]⟩
abbrev S1x320 : Shape := ⟨2, ![1, 320]⟩
abbrev S1x1024x1 : Shape := ⟨3, ![1, 1024, 1]⟩
abbrev S1024x1 : Shape := ⟨2, ![1024, 1]⟩

abbrev nBuf : Space → Nat
  | .hbm => 57
  | .vmem => 28
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x4096, .f32⟩
  | .hbm, ⟨3, _⟩ => ⟨S8x4096x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024x1024, .bf16⟩
  | .hbm, ⟨11, _⟩ => ⟨S1024x1024, .bf16⟩
  | .hbm, ⟨12, _⟩ => ⟨S1024x16, .f32⟩
  | .hbm, ⟨13, _⟩ => ⟨S1024x16, .f32⟩
  | .hbm, ⟨14, _⟩ => ⟨S2048x16, .f32⟩
  | .hbm, ⟨15, _⟩ => ⟨S2048x2, .f32⟩
  | .hbm, ⟨16, _⟩ => ⟨S2048x2, .i32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x2, .f32⟩
  | .hbm, ⟨21, _⟩ => ⟨S2048x2, .f32⟩
  | .hbm, ⟨22, _⟩ => ⟨S2048x2, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x2, .f32⟩
  | .hbm, ⟨27, _⟩ => ⟨S2048x2, .f32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S1x2048x2, .i32⟩
  | .hbm, ⟨34, _⟩ => ⟨S8x1x1, .i32⟩
  | .hbm, ⟨35, _⟩ => ⟨S8x2048x2, .i32⟩
  | .hbm, ⟨36, _⟩ => ⟨S8x2048x2, .i32⟩
  | .hbm, ⟨37, _⟩ => ⟨S8x2048x2, .i1⟩
  | .hbm, ⟨38, _⟩ => ⟨S1x2048x2, .f32⟩
  | .hbm, ⟨39, _⟩ => ⟨S8x2048x2, .f32⟩
  | .hbm, ⟨40, _⟩ => ⟨S8x2048x2, .f32⟩
  | .hbm, ⟨41, _⟩ => ⟨S8x2048x2, .f32⟩
  | .hbm, ⟨42, _⟩ => ⟨S_, .f32⟩
  | .hbm, ⟨43, _⟩ => ⟨S8x2048, .f32⟩
  | .hbm, ⟨44, _⟩ => ⟨S_, .i1⟩
  | .hbm, ⟨45, _⟩ => ⟨S8x2048, .i1⟩
  | .hbm, ⟨46, _⟩ => ⟨S8x2048, .i1⟩
  | .hbm, ⟨47, _⟩ => ⟨S8x2048, .i32⟩
  | .hbm, ⟨48, _⟩ => ⟨S8x2048, .i1⟩
  | .hbm, ⟨49, _⟩ => ⟨S8x2048, .i32⟩
  | .hbm, ⟨50, _⟩ => ⟨S8x320, .i32⟩
  | .hbm, ⟨51, _⟩ => ⟨S8x320x1, .i32⟩
  | .hbm, ⟨52, _⟩ => ⟨S8x1x320, .i32⟩
  | .hbm, ⟨53, _⟩ => ⟨S8x2048x1, .f32⟩
  | .hbm, ⟨54, _⟩ => ⟨S1024x1024, .bf16⟩
  | .hbm, ⟨55, _⟩ => ⟨S1024x1024, .bf16⟩
  | .hbm, ⟨56, _⟩ => ⟨S1024x1024, .f32⟩
  | .local _ .vmem, ⟨0, _⟩ => ⟨S1024x1024, .f32⟩
  | .local _ .vmem, ⟨1, _⟩ => ⟨S1024x8, .f32⟩
  | .local _ .vmem, ⟨2, _⟩ => ⟨S1024x1024, .bf16⟩
  | .local _ .vmem, ⟨3, _⟩ => ⟨S1024x1024, .bf16⟩
  | .local _ .vmem, ⟨4, _⟩ => ⟨S1024x16, .f32⟩
  | .local _ .vmem, ⟨5, _⟩ => ⟨S1024x16, .f32⟩
  | .local _ .vmem, ⟨6, _⟩ => ⟨S1024x8, .f32⟩
  | .local _ .vmem, ⟨7, _⟩ => ⟨S1024x16, .f32⟩
  | .local _ .vmem, ⟨8, _⟩ => ⟨S1024x1024, .bf16⟩
  | .local _ .vmem, ⟨9, _⟩ => ⟨S1024x1024, .bf16⟩
  | .local _ .vmem, ⟨10, _⟩ => ⟨S1x320x1, .i32⟩
  | .local _ .vmem, ⟨11, _⟩ => ⟨S1x320x1, .i32⟩
  | .local _ .vmem, ⟨12, _⟩ => ⟨S1x1x320, .i32⟩
  | .local _ .vmem, ⟨13, _⟩ => ⟨S1x1x320, .i32⟩
  | .local _ .vmem, ⟨14, _⟩ => ⟨S1x2048x1, .f32⟩
  | .local _ .vmem, ⟨15, _⟩ => ⟨S1x2048x1, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S320x1024, .bf16⟩
  | .local _ .vmem, ⟨23, _⟩ => ⟨S320x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 2 → Bool
  | ⟨0, _⟩ => false
  | ⟨1, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 2 31 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_values : Ref sig .tc := ⟨.hbm, 15, rfl⟩
abbrev main_indices : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_v1_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v38 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc2_sem0_0 : DmaSem sig := 26
abbrev cc2_sem1_0 : DmaSem sig := 27
abbrev cc2_sem2_0 : DmaSem sig := 28
abbrev barrier0 : Sem sig := 0
abbrev barrier1 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_10 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9 : BitVec 32 := 8#32
  let v17 : BitVec 32 := Scalar.muli v9 c8_i32_9
  let v18 : BitVec 32 := Scalar.addi c0_i32_10 v17
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v19 : BitVec 32 := Scalar.muli v5 c4_i32_11
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v21 : BitVec 32 := Scalar.muli v8 c1_i32_12
  let v22 : BitVec 32 := Scalar.addi v20 v21
  v22.toNat
def k0_dev3 (d0 : Dev nD) : Nat :=
  let c0_i32_19 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_18 : BitVec 32 := 8#32
  let v31 : BitVec 32 := Scalar.muli v9 c8_i32_18
  let v32 : BitVec 32 := Scalar.addi c0_i32_19 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v33 : BitVec 32 := Scalar.muli v5 c4_i32_20
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v35 : BitVec 32 := Scalar.muli v8 c1_i32_21
  let v36 : BitVec 32 := Scalar.addi v34 v35
  v36.toNat
def k0_dev4 (d0 : Dev nD) : Nat :=
  let c0_i32_43 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_42 : BitVec 32 := 8#32
  let v62 : BitVec 32 := Scalar.muli v9 c8_i32_42
  let v63 : BitVec 32 := Scalar.addi c0_i32_43 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v64 : BitVec 32 := Scalar.muli v5 c4_i32_44
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v66 : BitVec 32 := Scalar.muli v8 c1_i32_45
  let v67 : BitVec 32 := Scalar.addi v65 v66
  v67.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![8, 4], ![false, false]⟩

def k1_cond4 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def k1_cond5 (i : grid1.Coords) : BitVec 1 :=
  let arg0 : BitVec 32 := BitVec.ofNat 32 (i 0).val
  let c0_i32_30 : BitVec 32 := 0#32
  let v55 : BitVec 1 := Scalar.cmpi .eq arg0 c0_i32_30
  let v56 : BitVec 32 := Scalar.extui v55
  let c0_i32_31 : BitVec 32 := 0#32
  let v57 : BitVec 1 := Scalar.cmpi .ne v56 c0_i32_31
  v57

def k1_cond6 (i : grid1.Coords) : BitVec 1 :=
  let arg0 : BitVec 32 := BitVec.ofNat 32 (i 0).val
  let c0_i32_32 : BitVec 32 := 0#32
  let v58 : BitVec 1 := Scalar.cmpi .ne arg0 c0_i32_32
  let v59 : BitVec 32 := Scalar.extui v58
  let c0_i32_33 : BitVec 32 := 0#32
  let v60 : BitVec 1 := Scalar.cmpi .ne v59 c0_i32_33
  v60

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x320x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x320 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev grid2 : Pipeline.Grid := .none

def k2_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k2_dev2 (d0 : Dev nD) : Nat :=
  let c0_i32_9 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v17 : BitVec 32 := Scalar.muli v9 c8_i32_8
  let v18 : BitVec 32 := Scalar.addi c0_i32_9 v17
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v19 : BitVec 32 := Scalar.muli v5 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
abbrev stage2_0 : Fin 1 → Memref sig .tc .vmem S1024x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== ReferenceIdeal.lean ====
abbrev S2048x1024 : Shape := ⟨2, ![2048, 1024]⟩
abbrev S1024x16 : Shape := ⟨2, ![1024, 16]⟩
abbrev S16x1024x4096 : Shape := ⟨3, ![16, 1024, 4096]⟩
abbrev S16x4096x1024 : Shape := ⟨3, ![16, 4096, 1024]⟩
abbrev S2048 : Shape := ⟨1, ![2048]⟩
abbrev S16 : Shape := ⟨1, ![16]⟩
abbrev S2048x16 : Shape := ⟨2, ![2048, 16]⟩
abbrev S2048x2 : Shape := ⟨2, ![2048, 2]⟩
abbrev S_ : Shape := ⟨0, ![]⟩
abbrev S2048x1 : Shape := ⟨2, ![2048, 1]⟩
abbrev S1x2048x2 : Shape := ⟨3, ![1, 2048, 2]⟩
abbrev S16x1x1 : Shape := ⟨3, ![16, 1, 1]⟩
abbrev S16x2048x2 : Shape := ⟨3, ![16, 2048, 2]⟩
abbrev S16x2048 : Shape := ⟨2, ![16, 2048]⟩
abbrev S16x1 : Shape := ⟨2, ![16, 1]⟩
abbrev S1x2048 : Shape := ⟨2, ![1, 2048]⟩
abbrev S16x1x2048 : Shape := ⟨3, ![16, 1, 2048]⟩
abbrev S16x2048x1 : Shape := ⟨3, ![16, 2048, 1]⟩
abbrev S16x2048x2048 : Shape := ⟨3, ![16, 2048, 2048]⟩
abbrev S16x4096x2048 : Shape := ⟨3, ![16, 4096, 2048]⟩
abbrev S16x2048x4096 : Shape := ⟨3, ![16, 2048, 4096]⟩
abbrev S16x2048x1024 : Shape := ⟨3, ![16, 2048, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16, .f32⟩
  | .hbm, ⟨2, _⟩ => ⟨S16x1024x4096, .f32⟩
  | .hbm, ⟨3, _⟩ => ⟨S16x4096x1024, .f32⟩
  | .hbm, ⟨4, _⟩ => ⟨S2048, .i32⟩
  | .hbm, ⟨5, _⟩ => ⟨S16, .i32⟩
  | .hbm, ⟨6, _⟩ => ⟨S2048x16, .f32⟩
  | .hbm, ⟨7, _⟩ => ⟨S2048x2, .f32⟩
  | .hbm, ⟨8, _⟩ => ⟨S2048x2, .i32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x2, .f32⟩
  | .hbm, ⟨13, _⟩ => ⟨S2048x2, .f32⟩
  | .hbm, ⟨14, _⟩ => ⟨S2048x2, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x2, .f32⟩
  | .hbm, ⟨19, _⟩ => ⟨S2048x2, .f32⟩
  | .hbm, ⟨20, _⟩ => ⟨S1x2048x2, .i32⟩
  | .hbm, ⟨21, _⟩ => ⟨S16x1x1, .i32⟩
  | .hbm, ⟨22, _⟩ => ⟨S16x2048x2, .i32⟩
  | .hbm, ⟨23, _⟩ => ⟨S16x2048x2, .i32⟩
  | .hbm, ⟨24, _⟩ => ⟨S16x2048x2, .i1⟩
  | .hbm, ⟨25, _⟩ => ⟨S1x2048x2, .f32⟩
  | .hbm, ⟨26, _⟩ => ⟨S_, .f32⟩
  | .hbm, ⟨27, _⟩ => ⟨S_, .f32⟩
  | .hbm, ⟨28, _⟩ => ⟨S16x2048x2, .f32⟩
  | .hbm, ⟨29, _⟩ => ⟨S16x2048x2, .f32⟩
  | .hbm, ⟨30, _⟩ => ⟨S16x2048x2, .f32⟩
  | .hbm, ⟨31, _⟩ => ⟨S_, .f32⟩
  | .hbm, ⟨32, _⟩ => ⟨S16x2048, .f32⟩
  | .hbm, ⟨33, _⟩ => ⟨S_, .i1⟩
  | .hbm, ⟨34, _⟩ => ⟨S16x2048, .i1⟩
  | .hbm, ⟨35, _⟩ => ⟨S16x1, .i32⟩
  | .hbm, ⟨36, _⟩ => ⟨S_, .i32⟩
  | .hbm, ⟨37, _⟩ => ⟨S16x1, .i32⟩
  | .hbm, ⟨38, _⟩ => ⟨S16x1, .i1⟩
  | .hbm, ⟨39, _⟩ => ⟨S1x2048, .i32⟩
  | .hbm, ⟨40, _⟩ => ⟨S1x2048, .i32⟩
  | .hbm, ⟨41, _⟩ => ⟨S_, .i32⟩
  | .hbm, ⟨42, _⟩ => ⟨S1x2048, .i32⟩
  | .hbm, ⟨43, _⟩ => ⟨S1x2048, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S1x2048, .i32⟩
  | .hbm, ⟨51, _⟩ => ⟨S1x2048, .i32⟩
  | .hbm, ⟨52, _⟩ => ⟨S_, .i32⟩
  | .hbm, ⟨53, _⟩ => ⟨S1x2048, .i32⟩
  | .hbm, ⟨54, _⟩ => ⟨S1x2048, .i1⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S_, .i32⟩
  | .hbm, ⟨59, _⟩ => ⟨S_, .i1⟩
  | .hbm, ⟨60, _⟩ => ⟨S1x2048, .i1⟩
  | .hbm, ⟨61, _⟩ => ⟨S1x2048, .i1⟩
  | .hbm, ⟨62, _⟩ => ⟨S1x2048, .i1⟩
  | .hbm, ⟨63, _⟩ => ⟨S1x2048, .i32⟩
  | .hbm, ⟨64, _⟩ => ⟨S1x2048, .i32⟩
  | .hbm, ⟨65, _⟩ => ⟨S1x2048, .i32⟩
  | .hbm, ⟨66, _⟩ => ⟨S16x2048, .i1⟩
  | .hbm, ⟨67, _⟩ => ⟨S16x2048, .i32⟩
  | .hbm, ⟨68, _⟩ => ⟨S16x2048, .i32⟩
  | .hbm, ⟨69, _⟩ => ⟨S16x2048, .i32⟩
  | .hbm, ⟨70, _⟩ => ⟨S16x1x2048, .i1⟩
  | .hbm, ⟨71, _⟩ => ⟨S16x1x2048, .i32⟩
  | .hbm, ⟨72, _⟩ => ⟨S16x2048x1, .i32⟩
  | .hbm, ⟨73, _⟩ => ⟨S16x2048x2048, .i32⟩
  | .hbm, ⟨74, _⟩ => ⟨S16x2048x2048, .i32⟩
  | .hbm, ⟨75, _⟩ => ⟨S16x2048x2048, .i1⟩
  | .hbm, ⟨76, _⟩ => ⟨S16x2048x2048, .i1⟩
  | .hbm, ⟨77, _⟩ => ⟨S16x2048x2048, .i1⟩
  | .hbm, ⟨78, _⟩ => ⟨S_, .f32⟩
  | .hbm, ⟨79, _⟩ => ⟨S_, .f32⟩
  | .hbm, ⟨80, _⟩ => ⟨S16x2048x2048, .f32⟩
  | .hbm, ⟨81, _⟩ => ⟨S16x2048x2048, .f32⟩
  | .hbm, ⟨82, _⟩ => ⟨S16x2048x2048, .f32⟩
  | .hbm, ⟨83, _⟩ => ⟨S16x2048x2048, .f32⟩
  | .hbm, ⟨84, _⟩ => ⟨S_, .f32⟩
  | .hbm, ⟨85, _⟩ => ⟨S16x2048, .f32⟩
  | .hbm, ⟨86, _⟩ => ⟨S_, .f32⟩
  | .hbm, ⟨87, _⟩ => ⟨S16x2048, .f32⟩
  | .hbm, ⟨88, _⟩ => ⟨S16x2048, .i1⟩
  | .hbm, ⟨89, _⟩ => ⟨S16x2048, .i1⟩
  | .hbm, ⟨90, _⟩ => ⟨S_, .f32⟩
  | .hbm, ⟨91, _⟩ => ⟨S_, .f32⟩
  | .hbm, ⟨92, _⟩ => ⟨S16x2048, .f32⟩
  | .hbm, ⟨93, _⟩ => ⟨S16x2048, .f32⟩
  | .hbm, ⟨94, _⟩ => ⟨S16x4096x2048, .f32⟩
  | .hbm, ⟨95, _⟩ => ⟨S16x2048x4096, .f32⟩
  | .hbm, ⟨96, _⟩ => ⟨S_, .f32⟩
  | .hbm, ⟨97, _⟩ => ⟨S16x2048x4096, .f32⟩
  | .hbm, ⟨98, _⟩ => ⟨S16x2048x4096, .f32⟩
  | .hbm, ⟨99, _⟩ => ⟨S16x2048x1024, .f32⟩
  | .hbm, ⟨100, _⟩ => ⟨S16x2048x1, .f32⟩
  | .hbm, ⟨101, _⟩ => ⟨S16x2048x1024, .f32⟩
  | .hbm, ⟨102, _⟩ => ⟨S16x2048x1024, .f32⟩
  | .hbm, ⟨103, _⟩ => ⟨S_, .f32⟩
  | .hbm, ⟨104, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v28 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_6 : Ref sig .tc := ⟨.hbm, 78, rfl⟩
abbrev main_cst_7 : Ref sig .tc := ⟨.hbm, 79, rfl⟩
abbrev main_call3_v0 : Ref sig .tc := ⟨.hbm, 80, rfl⟩
abbrev main_call3_v1 : Ref sig .tc := ⟨.hbm, 81, rfl⟩
abbrev main_v38 : Ref sig .tc := ⟨.hbm, 82, rfl⟩
abbrev main_v39 : Ref sig .tc := ⟨.hbm, 83, rfl⟩
abbrev main_cst_8 : Ref sig .tc := ⟨.hbm, 84, rfl⟩
abbrev main_v40 : Ref sig .tc := ⟨.hbm, 85, rfl⟩
abbrev main_cst_9 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_10 : Ref sig .tc := ⟨.hbm, 90, rfl⟩
abbrev main_call4_v0 : Ref sig .tc := ⟨.hbm, 91, rfl⟩
abbrev main_call4_v1 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_11 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_12 : Ref sig .tc := ⟨.hbm, 103, rfl⟩
abbrev main_v53 : Ref sig .tc := ⟨.hbm, 104, rfl⟩

abbrev nD : Nat := 1
abbrev τ : Topo := Topo.v7x

variable {F : FTy → Type} [FloatOps F]
-- ==== Proof.Pairs.lean ====
/-
# A one-round protocol between paired devices

Every device has the same finite set of semaphores. Each is credited exactly once, either by the device itself (a send
semaphore) or by its partner (a barrier or receive semaphore), and the credit hands the owner one payload. A program's
barrier semaphores are live at the launch; the semaphores scoped to a kernel are opened when the kernel is entered.

`Proto` is the table of such a protocol. This module makes the schedule out of the table, deals the ghost state of all
devices at the launch (`deal`), opens scoped semaphores (`open_cells`), and counts the launch credit (`creds`).
-/
module

public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.Pairs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- Two copies of the rounds algebra: the staging pipeline's and the protocol's. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

/-- Semaphore `s` of device `c`'s TensorCore. -/
abbrev cell (c : Dev nD) (s : SemLoc sig) : GSem nD τ sig := ((c : Thread nD τ), s)

theorem cell_inj {c c' : Dev nD} {s s' : SemLoc sig} (h : (cell c s : GSem nD τ sig) = cell c' s') : c = c' ∧ s = s' :=
  ⟨congrArg (fun g : GSem nD τ sig => g.1.1) h, congrArg Prod.snd h⟩

variable (nD τ sig Val) in
/-- The table of the protocol: the live and the scoped semaphores, the units of each one's single credit, what that
    credit hands the owner, and the device whose semaphore `s` device `c` credits (`payee s c`, an involution). -/
structure Proto where
  live : Finset (SemLoc sig)
  inner : Finset (SemLoc sig)
  apart : Disjoint live inner
  amt : SemLoc sig → ℕ
  amt_pos : ∀ s, s ∈ live ∪ inner → 0 < amt s
  pay : Dev nD → SemLoc sig → sProp (MT nD τ sig Unit Val ℕ (UU nD τ sig) ℕ)
  pay_storable : ∀ c s, BI.Storable (upEmb : UEmb _ (MT nD τ sig Unit Val ℕ (UU nD τ sig) ℕ)) (pay c s)
  payee : SemLoc sig → Dev nD → Dev nD
  payee_payee : ∀ s c, payee s (payee s c) = c

variable (P : Proto nD τ sig Val)

/-- All semaphores of the protocol. -/
abbrev Proto.all : Finset (SemLoc sig) := P.live ∪ P.inner

/-- The schedule of the table: one duty in round 0 of each semaphore, none later. -/
def Proto.rd : Rounds.Schedule (GSem nD τ sig) Unit (MT nD τ sig Unit Val ℕ (UU nD τ sig) ℕ) where
  duties g r := if r = 0 ∧ g.1.2 = .tc ∧ g.2 ∈ P.all then {()} else ∅
  unitless _ := False
  amount g _ _ := P.amt g.2
  payload g _ _ := P.pay g.1.1 g.2
  amount_pos g r d h := by
    by_cases hg : r = 0 ∧ g.1.2 = .tc ∧ g.2 ∈ P.all
    · exact P.amt_pos _ hg.2.2
    · rw [if_neg hg] at h; exact absurd h (Finset.notMem_empty _)

instance rd_storable (g : GSem nD τ sig) (r : ℕ) (d : Unit) :
    BI.Storable (upEmb : UEmb _ 𝕄) (P.rd.payload g r d) := P.pay_storable g.1.1 g.2

section Table
variable (c : Dev nD) {s : SemLoc sig}

theorem duties_cell (hs : s ∈ P.all) : P.rd.duties (cell c s) 0 = {()} := if_pos ⟨rfl, rfl, hs⟩
theorem mem_duties (hs : s ∈ P.all) : () ∈ P.rd.duties (cell c s) 0 := by
  rw [duties_cell P c hs]; exact Finset.mem_singleton_self _
theorem duties_later (g : GSem nD τ sig) : ∀ r, 1 ≤ r → P.rd.duties g r = ∅ :=
  fun r hr => if_neg fun h => by omega
theorem amount_cell (r : ℕ) (d : Unit) : P.rd.amount (cell c s) r d = P.amt s := rfl
theorem payload_cell (r : ℕ) (d : Unit) : P.rd.payload (cell c s) r d = P.pay c s := rfl
theorem expect_cell (hs : s ∈ P.all) : P.rd.expect (cell c s) 0 = P.amt s := by
  unfold Schedule.expect Schedule.amountOf; rw [duties_cell P c hs, Finset.sum_singleton, amount_cell]
/-- What a wait for the whole round of a semaphore hands over: its one payload. -/
theorem rest_cell (hs : s ∈ P.all) :
    bigSep (P.rd.duties (cell c s) 0 \ ∅) (fun d => P.rd.payload (cell c s) 0 d) = P.pay c s := by
  rw [Finset.sdiff_empty, duties_cell P c hs, bigSep_singleton, payload_cell]

end Table

/-! ## The launch -/

def cellEmb : Dev nD × SemLoc sig ↪ GSem nD τ sig :=
  ⟨fun p => cell p.1 p.2, fun p q h => Prod.ext (cell_inj h).1 (cell_inj h).2⟩
def tokEmb : Dev nD × SemLoc sig ↪ GSem nD τ sig × ℕ × Unit :=
  ⟨fun p => (cell p.1 p.2, 0, ()), fun p q h =>
    have h' : (cell p.1 p.2 : GSem nD τ sig) = cell q.1 q.2 := congrArg Prod.fst h
    Prod.ext (cell_inj h').1 (cell_inj h').2⟩

/-- A product over all devices and the members of `S` is the one over the devices of those over `S`. -/
theorem bigSep_pairs (S : Finset (SemLoc sig)) (Φ : Dev nD × SemLoc sig → sProp 𝕄) :
    bigSep (Finset.univ ×ˢ S) Φ = bigSep Finset.univ fun c : Dev nD => bigSep S fun s => Φ (c, s) := by
  generalize (Finset.univ : Finset (Dev nD)) = A
  induction A using Finset.induction_on with
  | empty => rw [Finset.empty_product, bigSep_empty, bigSep_empty]
  | insert a A ha ih =>
    have hd : Disjoint (({a} : Finset (Dev nD)) ×ˢ S) (A ×ˢ S) :=
      Finset.disjoint_product.mpr (Or.inl (Finset.disjoint_singleton_left.mpr ha))
    rw [Finset.insert_eq, Finset.union_product, bigSep_union hd, ih, ← Finset.insert_eq, bigSep_insert ha,
      Finset.singleton_product, bigSep_map]
    rfl

/-- The two orders of a product over devices and semaphores agree. -/
theorem bigSep_turn (S : Finset (SemLoc sig)) (Φ : Dev nD → SemLoc sig → sProp 𝕄) :
    (bigSep Finset.univ fun c => bigSep S fun s => Φ c s) = bigSep S fun s => bigSep Finset.univ fun c => Φ c s := by
  induction S using Finset.induction_on with
  | empty =>
    simp only [bigSep_empty]
    exact equiv_iff.mp ⟨affine, (BI.bigSep_of_persistent Finset.univ (iprop(emp) : sProp 𝕄))⟩
  | insert s S hs ih =>
    simp only [bigSep_insert hs]
    exact (bigSep_sep _ _ _).trans (by rw [ih])

/-- The cells of the semaphores `S` on all devices, and their duty tokens. -/
def cellsOf (S : Finset (SemLoc sig)) : Finset (GSem nD τ sig) := (Finset.univ ×ˢ S).map cellEmb
def toksOf (S : Finset (SemLoc sig)) : Finset (GSem nD τ sig × ℕ × Unit) := (Finset.univ ×ˢ S).map tokEmb

theorem mem_cellsOf {S : Finset (SemLoc sig)} (c : Dev nD) {s : SemLoc sig} (hs : s ∈ S) : (cell c s : GSem nD τ sig) ∈ cellsOf S :=
  Finset.mem_map_of_mem cellEmb (a := (c, s)) (Finset.mem_product.mpr ⟨Finset.mem_univ _, hs⟩)

theorem bigSep_cellsOf (S : Finset (SemLoc sig)) (Φ : GSem nD τ sig → sProp 𝕄) :
    bigSep (cellsOf S) Φ = bigSep Finset.univ fun c : Dev nD => bigSep S fun s => Φ (cell c s) := by
  unfold cellsOf; rw [bigSep_map, bigSep_pairs]; rfl
theorem bigSep_toksOf (S : Finset (SemLoc sig)) :
    bigSep (toksOf S) (fun x => (dutyTok ER x.1 x.2.1 x.2.2 : sProp 𝕄))
      = bigSep Finset.univ fun c : Dev nD => bigSep S fun s => dutyTok ER (cell c s) 0 () := by
  unfold toksOf; rw [bigSep_map, bigSep_pairs]; rfl

theorem cellsOf_disjoint {S T : Finset (SemLoc sig)} (h : Disjoint S T) : Disjoint (cellsOf S : Finset (GSem nD τ sig)) (cellsOf T) := by
  unfold cellsOf
  exact (Finset.disjoint_map _).mpr (Finset.disjoint_product.mpr (Or.inr h))

/-- The protocol's launch element. -/
def u₀ : UR sig nD τ := launchOf (cellsOf P.live) (cellsOf P.inner) (toksOf P.all)

/-- What every device may consult: all invariants, and that round 0 of every live cell is reached. -/
def records (κ : GSem nD τ sig → ℕ) : sProp 𝕄 :=
  iprop((bigSep (cellsOf P.live ∪ cellsOf P.inner) fun g => cellInv ER P.rd (κ g) g)
    ∗ bigSep (cellsOf P.live) fun g => reached ER g 0)

instance records_persistent (κ : GSem nD τ sig → ℕ) : BI.Persistent (records P κ) := by unfold records; infer_instance

/-- What device `c` alone has: the positions of its live cells, the rights to open its scoped ones, and the tokens of the
    credits it pays. -/
def linear (c : Dev nD) : sProp 𝕄 :=
  iprop((bigSep P.live fun s => atPos ER (cell c s) 0 ∅ 0) ∗ (bigSep P.inner fun s => openTok ER (cell c s))
    ∗ bigSep P.all fun s => dutyTok ER (cell (P.payee s c) s) 0 ())

theorem inv_at (κ : GSem nD τ sig → ℕ) (c : Dev nD) {s : SemLoc sig} (hs : s ∈ P.all) :
    records P κ ⊢ (cellInv ER P.rd (κ (cell c s)) (cell c s) : sProp 𝕄) := by
  have hm : (cell c s : GSem nD τ sig) ∈ cellsOf P.live ∪ cellsOf P.inner := by
    rcases Finset.mem_union.mp hs with h | h
    · exact Finset.mem_union_left _ (mem_cellsOf c h)
    · exact Finset.mem_union_right _ (mem_cellsOf c h)
  unfold records
  exact sep_elim_left.trans (bigSep_elim (Φ := fun g => (cellInv ER P.rd (κ g) g : sProp 𝕄)) hm)

theorem reached_at (κ : GSem nD τ sig → ℕ) (c : Dev nD) {s : SemLoc sig} (hs : s ∈ P.live) :
    records P κ ⊢ (reached ER (cell c s) 0 : sProp 𝕄) := by
  unfold records
  exact sep_elim_right.trans (bigSep_elim (Φ := fun g => (reached ER g 0 : sProp 𝕄)) (mem_cellsOf c hs))

/-- The duty tokens go from the cells' owners to the devices that pay. -/
theorem toks_moved : (bigSep Finset.univ fun c : Dev nD => bigSep P.all fun s => (dutyTok ER (cell c s) 0 () : sProp 𝕄))
    = bigSep Finset.univ fun c : Dev nD => bigSep P.all fun s => dutyTok ER (cell (P.payee s c) s) 0 () := by
  rw [bigSep_turn, bigSep_turn P.all]
  exact bigSep_congr fun s _ =>
    bigSep_univ_equiv (⟨P.payee s, P.payee s, P.payee_payee s, P.payee_payee s⟩ : Dev nD ≃ Dev nD) (fun c => (dutyTok ER (cell c s) 0 () : sProp 𝕄))

/-- The launch: from every device's live counters at zero and the launch element, the records and what each device has. -/
theorem deal :
    iprop((bigSep Finset.univ fun c : Dev nD => bigSep P.live fun s => (semVal (cell c s) 0 : sProp 𝕄)) ∗ BI.own (ER (u₀ P)))
      ⊢ |={Set.univ}=> iprop(∃ κ, records P κ ∗ bigSep Finset.univ fun c : Dev nD => linear P c) := by
  rw [← bigSep_cellsOf P.live (fun g => (semVal g 0 : sProp 𝕄))]
  unfold u₀
  iintro H
  imod (Rounds.fund_launch ER P.rd (cellsOf_disjoint P.apart) (fun g _ h => h) (toksOf P.all)) $$ H with ⟨%κ, -, #Hinv, #Hr, Hat, Hopen, Htok⟩
  imodintro
  iexists κ
  isplitr
  · unfold records
    isplitr; · iexact Hinv
    iexact Hr
  ihave Hat := (Entails.of_eq (bigSep_cellsOf P.live fun g => (atPos ER g 0 ∅ 0 : sProp 𝕄))) $$ Hat
  ihave Hopen := (Entails.of_eq (bigSep_cellsOf P.inner fun g => (openTok ER g : sProp 𝕄))) $$ Hopen
  ihave Htok := (Entails.of_eq ((bigSep_toksOf (Val := Val) P.all).trans (toks_moved P))) $$ Htok
  unfold linear
  simp only [bigSep_sep']
  isplitl [Hat]; · iexact Hat
  isplitl [Hopen]; · iexact Hopen
  iexact Htok

/-- A persistent fact goes to every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A kernel's entry: its scoped counters at zero go into their cells, which are then at round 0. -/
theorem open_cells (κ : GSem nD τ sig → ℕ) (c : Dev nD) {T : Finset (SemLoc sig)} (hT : T ⊆ P.inner) :
    iprop(records P κ ∗ (bigSep T fun s => openTok ER (cell c s)) ∗ bigSep T fun s => (semVal (cell c s) 0 : sProp 𝕄))
      ⊢ |={Set.univ}=> iprop(bigSep T fun s => iprop(atPos ER (cell c s) 0 ∅ 0 ∗ reached ER (cell c s) 0)) := by
  rw [← bigSep_sep']
  exact (bigSep_with_persistent (R := records P κ) (S := T)
    (Φ := fun s => iprop(openTok ER (cell c s) ∗ semVal (cell c s) 0))
    (Ψ := fun s => iprop(|={Set.univ}=> (atPos ER (cell c s) 0 ∅ 0 ∗ reached ER (cell c s) 0)))
    fun s hs => by
      iintro ⟨#HR, Ho, Hv⟩
      iapply (Rounds.cell_open ER P.rd (g := cell c s) (Set.mem_univ (κ (cell c s))))
      isplitr; · iapply (inv_at P κ c (Finset.mem_union_right _ (hT hs))); iexact HR
      isplitl [Ho] <;> iassumption).trans (bigSep_fupd _ _)

/-- A cell whose round is over gives its counter back at zero. -/
theorem close_cell (κ : GSem nD τ sig → ℕ) (c : Dev nD) {s : SemLoc sig} (hs : s ∈ P.all) :
    iprop(records P κ ∗ atPos ER (cell c s) (0 + 1) ∅ 0) ⊢ |={Set.univ}=> (semVal (cell c s) 0 : sProp 𝕄) := by
  iintro ⟨#HR, Ha⟩
  iapply (Rounds.cell_close ER P.rd (Set.mem_univ (κ (cell c s))) (fun h => h) (R := 0 + 1) (duties_later P (cell c s)))
  isplitr; · iapply (inv_at P κ c hs); iexact HR
  iexact Ha

/-! ## The launch credit -/

variable {P}

theorem launch_cell {O₀ : Dev nD → CellTallies nD τ sig Unit} {s : SemLoc sig} {n : ℕ} (e : Dev nD → Dev nD)
    (h : ∀ d c : Dev nD, O₀ d (cell c s) () = if d = e c then n else 0) (c : Dev nD) :
    tallyOn (cell c s) (launchCredit (Pipeline.owing O₀) 0 (cell c s)) = (tallyAt (cell c s) () n : CellTallies nD τ sig Unit) := by
  unfold tallyAt; refine congrArg _ (Finsupp.ext fun u => ?_); cases u
  rw [Pipeline.launchCredit_owing, Finsupp.single_eq_same, Finset.sum_congr rfl fun d _ => h d c,
    Finset.sum_ite_eq' Finset.univ (e c) fun _ => n, if_pos (Finset.mem_univ _)]

/-- The credit of the semaphores `R` which partners pay, out of the device's launch credit. -/
theorem creds {O₀ : Dev nD → CellTallies nD τ sig Unit} (R : Finset (SemLoc sig))
    (h : ∀ s ∈ R, ∀ d c : Dev nD, O₀ d (cell c s) () = if d = P.payee s c then P.amt s else 0) (c : Dev nD) :
    (Pipeline.launchCred O₀ c : sProp 𝕄) ⊢ bigSep R fun s => cred (tallyAt (cell c s) () (P.amt s)) := by
  unfold Pipeline.launchCred
  refine (bigSep_subset (Finset.subset_univ R)).trans (Entails.of_eq (bigSep_congr fun s hs => ?_))
  rw [← launch_cell (P.payee s) (h s hs) c]

/-- One summand of what a device owes, read at a cell. -/
theorem tallyAt_cell {s s' : SemLoc sig} (e : Dev nD → Dev nD) (he : ∀ c, e (e c) = c) (d c : Dev nD) (n : ℕ) :
    (tallyAt (cell (e d) s') () n : CellTallies nD τ sig Unit) (cell c s) () = if s' = s then (if d = e c then n else 0) else 0 := by
  rw [tallyAt_apply]
  by_cases hs : s' = s
  · subst hs
    rw [if_pos rfl]
    by_cases hd : d = e c
    · subst hd; rw [he, if_pos ⟨rfl, rfl⟩, if_pos rfl]
    · rw [if_neg hd, if_neg]
      rintro ⟨h, -⟩
      exact hd (by rw [(cell_inj h).1, he])
  · rw [if_neg hs, if_neg]
    rintro ⟨h, -⟩
    exact hs (cell_inj h).2.symm

/-! ## Levels -/

/-- The indices of a cell: one at a TensorCore's, none elsewhere. -/
def L (g : GSem nD τ sig) : Finset Unit := if g.1.2 = .tc then {()} else ∅
/-- A cell's level is its semaphore's. -/
def lvOf (lev : SemLoc sig → ℕ) (g : GSem nD τ sig) (_ : Unit) : ℕ := lev g.2

theorem L_of_ne (g : GSem nD τ sig) (h : g.1.2 ≠ .tc) : L g = ∅ := if_neg h
theorem L_tc (c : Dev nD) (sm : SemLoc sig) : L (cell c sm : GSem nD τ sig) = {()} := if_pos rfl

/-- Everything owed in `O` is on TensorCore cells above level `n`. -/
def Above (lev : SemLoc sig → ℕ) (n : ℕ) (O : CellTallies nD τ sig Unit) : Prop :=
  ∀ g u, 0 < O g u → g.1.2 = .tc ∧ n < lev g.2

theorem above_zero (lev : SemLoc sig → ℕ) (n : ℕ) : Above (nD := nD) (τ := τ) lev n 0 :=
  fun g u h => absurd h (by rw [Pi.zero_apply, Finsupp.zero_apply]; exact Nat.lt_irrefl 0)
theorem above_add {lev : SemLoc sig → ℕ} {n : ℕ} {O O' : CellTallies nD τ sig Unit} (h : Above lev n O) (h' : Above lev n O') :
    Above lev n (O + O') := fun g u hg => by
  rw [Pi.add_apply, Finsupp.add_apply] at hg
  rcases Nat.eq_zero_or_pos (O g u) with h0 | h0
  · exact h' g u (by omega)
  · exact h g u h0
theorem above_tally {lev : SemLoc sig → ℕ} {n : ℕ} (c : Dev nD) {s : SemLoc sig} (k : ℕ) (h : n < lev s) :
    Above (nD := nD) (τ := τ) lev n (tallyAt (cell c s) () k) := fun g u hg => by
  rw [tallyAt_apply] at hg
  by_cases hc : g = cell c s ∧ u = ()
  · rw [hc.1]; exact ⟨rfl, h⟩
  · rw [if_neg hc] at hg; exact absurd hg (Nat.lt_irrefl 0)

/-- A semaphore at level `n` or below may be waited for while everything owed is above `n`. -/
theorem mayWait {lev : SemLoc sig → ℕ} {n : ℕ} {O : CellTallies nD τ sig Unit} (hO : Above lev n O) (c : Dev nD) (s : SemLoc sig) (hs : lev s ≤ n) :
    (levAts L (lvOf lev) : sProp 𝕄) ⊢ MayWait (c : Thread nD τ) s () O :=
  MayOwe.of_cut (L := L) (lev := lvOf lev) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## One update for all devices -/

section Park
variable [Inhabited (Dev nD)]

/-- A resource parked with one device. -/
def park (X : sProp 𝕄) (c : Dev nD) : sProp 𝕄 := if c = default then X else iprop(emp)

theorem bigSep_park (X : sProp 𝕄) : bigSep Finset.univ (park X : Dev nD → sProp 𝕄) ⊣⊢ X := by
  rw [bigSep_erase (Finset.mem_univ (default : Dev nD)),
    bigSep_congr (s := Finset.univ.erase (default : Dev nD)) (fun c hc => show park X c = iprop(emp) from if_neg (Finset.ne_of_mem_erase hc)),
    show park X (default : Dev nD) = X from if_pos rfl]
  exact ⟨sep_elim_left, Laws.sep_emp.2.trans (sep_mono_right (BI.bigSep_of_persistent _ (iprop(emp) : sProp 𝕄)))⟩

variable (P)

/-- What device `c` has once all cells are open: the records, its positions, the marks of its scoped cells, its tokens. -/
def ghost (κ : GSem nD τ sig → ℕ) (c : Dev nD) : sProp 𝕄 :=
  iprop(records P κ ∗ (bigSep P.live fun s => atPos ER (cell c s) 0 ∅ 0)
    ∗ (bigSep P.inner fun s => iprop(atPos ER (cell c s) 0 ∅ 0 ∗ reached ER (cell c s) 0))
    ∗ bigSep P.all fun s => dutyTok ER (cell (P.payee s c) s) 0 ())

/-- The whole of a one-kernel program's launch: every device's counters at zero and the parked launch element give every
    device its ghost state. -/
theorem glob {own₀ uns₀ : Dev nD → sProp 𝕄} (ho : ∀ c, own₀ c ⊢ bigSep P.inner fun s => (semVal (cell c s) 0 : sProp 𝕄))
    (hu : ∀ c, uns₀ c ⊢ bigSep P.live fun s => (semVal (cell c s) 0 : sProp 𝕄)) :
    (bigSep Finset.univ fun c => iprop(own₀ c ∗ uns₀ c ∗ park (BI.own (ER (u₀ P)) : sProp 𝕄) c))
      ⊢ |={Set.univ}=> bigSep Finset.univ fun c => iprop(∃ κ, ghost P κ c) := by
  rw [bigSep_sep', bigSep_sep']
  iintro ⟨Ho, Hu, Hp⟩
  ihave Hp := (bigSep_park _).1 $$ Hp
  ihave Hu := (show bigSep Finset.univ uns₀ ⊢ bigSep Finset.univ fun c => bigSep P.live fun s => (semVal (cell c s) 0 : sProp 𝕄) from
    bigSep_mono fun c _ => hu c) $$ Hu
  imod (deal P) $$ [Hu Hp] with ⟨%κ, #HR, Hl⟩
  · isplitl [Hu] <;> iassumption
  iapply (bigSep_fupd _ _)
  iapply (bigSep_with_persistent (R := records P κ) (S := Finset.univ) (Φ := fun c => iprop(own₀ c ∗ linear P c))
    (Ψ := fun c => iprop(|={Set.univ}=> ∃ κ, ghost P κ c)) fun c _ => by
      unfold linear
      iintro ⟨#HR, Ho, Hat, Hop, Ht⟩
      ihave Ho := (ho c) $$ Ho
      imod (open_cells P κ c (Finset.Subset.refl _)) $$ [Hop Ho] with Hi
      · isplitr; · iexact HR
        isplitl [Hop] <;> iassumption
      imodintro
      iexists κ
      unfold ghost
      isplitr; · iexact HR
      isplitl [Hat]; · iexact Hat
      isplitl [Hi] <;> iassumption)
  isplitr; · iexact HR
  rw [bigSep_sep']
  isplitl [Ho] <;> iassumption

end Park

end Cert.Pairs

end
-- ==== Proof.Talk.lean ====
/-
# The protocol of the two communicating kernels

The program runs an exchanging kernel first and a combining one last. Both talk between partners across the mesh axis `x`,
each behind a barrier semaphore of its own. This module has one table for all their semaphores: what each one's single
credit is worth, what it hands over, who pays it. The exchanging kernel starts from the buffers `A`, the combining one
from the buffers `B`.
-/
module

public import proofs.«01_k».proof.Proof.Pairs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.RegionTalk
public import Idealize.ShloMosaic.Lib.Tactic
public import Idealize.ShloMosaic.Lib.WritesUnit

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Pairs (Proto EP ER cell L lvOf)

variable {F : FTy → Type} [FloatOps F]

abbrev UU : Type := Pairs.UU nD τ sig

local notation "𝕄" => MT nD τ sig Unit (Elt F) ℕ UU ℕ

variable (A B : Dev nD → Valuation τ sig (Elt F))

/-! ## Partners, buffers and semaphores -/

set_option backward.proofsInPublic true in
/-- The device at the other place of the mesh axis `x`. -/
def prt (c : Dev nD) : Dev nD := ⟨(c.val + 8) % 16, Nat.mod_lt _ (by decide)⟩

theorem prt_prt (c : Dev nD) : prt (prt c) = c := by revert c; decide

/-- The staging buffers of tokens, router half, own and partner's bf16 tokens, own and partner's gates; the landing buffer of
    the partner's router half; the joined router. -/
abbrev xM : Memref sig .tc .vmem S1024x1024 .f32 := Memref.whole cc0_stg0_0
abbrev rM : Memref sig .tc .vmem S1024x8 .f32 := Memref.whole cc0_stg1_0
abbrev bM : Memref sig .tc .vmem S1024x1024 .bf16 := Memref.whole cc0_stg2_0
abbrev yM : Memref sig .tc .vmem S1024x1024 .bf16 := Memref.whole cc0_stg3_0
abbrev gM : Memref sig .tc .vmem S1024x16 .f32 := Memref.whole cc0_stg4_0
abbrev hM : Memref sig .tc .vmem S1024x16 .f32 := Memref.whole cc0_stg5_0
abbrev qM : Memref sig .tc .vmem S1024x8 .f32 := Memref.whole cc0_scratch0
abbrev jM : Memref sig .tc .vmem S1024x16 .f32 := Memref.whole cc0_scratch1

abbrev barS : Sem sig := (SemArray.scalar (sig.barrier 0 rfl) : Sems sig S_).sem
abbrev dS0 : DmaSems sig S_ := ((cc0_scratch2 : DmaSems sig S6).slice (Rect.unit (s := S6) ![0] S1.size inb_S6_S1_0)).squeeze S_ squeezes_S1_S_
abbrev dS1 : DmaSems sig S_ := ((cc0_scratch2 : DmaSems sig S6).slice (Rect.unit (s := S6) ![1] S1.size inb_S6_S1_1)).squeeze S_ squeezes_S1_S_
abbrev dS2 : DmaSems sig S_ := ((cc0_scratch2 : DmaSems sig S6).slice (Rect.unit (s := S6) ![2] S1.size inb_S6_S1_2)).squeeze S_ squeezes_S1_S_
abbrev dS3 : DmaSems sig S_ := ((cc0_scratch2 : DmaSems sig S6).slice (Rect.unit (s := S6) ![3] S1.size inb_S6_S1_3)).squeeze S_ squeezes_S1_S_
abbrev dS4 : DmaSems sig S_ := ((cc0_scratch2 : DmaSems sig S6).slice (Rect.unit (s := S6) ![4] S1.size inb_S6_S1_4)).squeeze S_ squeezes_S1_S_
abbrev dS5 : DmaSems sig S_ := ((cc0_scratch2 : DmaSems sig S6).slice (Rect.unit (s := S6) ![5] S1.size inb_S6_S1_5)).squeeze S_ squeezes_S1_S_

/-- The barrier; send and receive semaphore of the tokens, of the router halves, of the gates. -/
abbrev bar : SemLoc sig := .reg barS
abbrev sx : SemLoc sig := .dma dS0.sem
abbrev vx : SemLoc sig := .dma dS1.sem
abbrev sr : SemLoc sig := .dma dS2.sem
abbrev vr : SemLoc sig := .dma dS3.sem
abbrev sg : SemLoc sig := .dma dS4.sem
abbrev vg : SemLoc sig := .dma dS5.sem

/-- The kernel's own semaphores. -/
abbrev osem : Fin 6 → SemLoc sig := fun | 0 => sx | 1 => vx | 2 => sr | 3 => vr | 4 => sg | 5 => vg

/-- The units a copy of the tokens, of a router half, of the gates brings. -/
abbrev NX : ℕ := (yM : Memref sig .tc .vmem S1024x1024 .bf16).view.dmaCredit
abbrev NR : ℕ := (qM : Memref sig .tc .vmem S1024x8 .f32).view.dmaCredit
abbrev NG : ℕ := (hM : Memref sig .tc .vmem S1024x16 .f32).view.dmaCredit
theorem NX_pos : 0 < NX := View.dmaCredit_pos _ (by decide)
theorem NR_pos : 0 < NR := View.dmaCredit_pos _ (by decide)
theorem NG_pos : 0 < NG := View.dmaCredit_pos _ (by decide)

/-! ## Contents -/

def xstg (c : Dev nD) : (cc0_stg0_0 : Ref sig .tc).ty.Contents (Elt F) :=
  (win0_0.blk (0 : Fin 1)).view.read (Elt F) (A c main_arg0)
def rstg (c : Dev nD) : (cc0_stg1_0 : Ref sig .tc).ty.Contents (Elt F) :=
  (win0_1.blk (0 : Fin 1)).view.read (Elt F) (A c main_arg1)

theorem not_right (y : S1024x16.Idx) (h : ¬ ∀ a, (![0, 8] : Fin 2 → ℕ) a ≤ (y a).val ∧ (y a).val < (![0, 8] : Fin 2 → ℕ) a + S1024x8.size a) :
    ∀ a, (![0, 0] : Fin 2 → ℕ) a ≤ (y a).val ∧ (y a).val < (![0, 0] : Fin 2 → ℕ) a + S1024x8.size a := by
  intro a
  have h0 := (y 0).isLt
  have h1 := (y 1).isLt
  have hh : ¬ (8 ≤ (y 1).val) := fun hy => h fun a => by
    fin_cases a
    · exact ⟨Nat.zero_le _, by simpa using h0⟩
    · exact ⟨hy, by simpa using h1⟩
  fin_cases a
  · exact ⟨Nat.zero_le _, by simpa using h0⟩
  · refine ⟨Nat.zero_le _, ?_⟩
    show (y 1).val < 0 + 8
    omega

/-- Two halves of eight columns side by side. -/
def join (A B : FVec F S1024x8 .f32) : FVec F S1024x16 .f32 := fun y =>
  if h : ∀ a, (![0, 8] : Fin 2 → ℕ) a ≤ (y a).val ∧ (y a).val < (![0, 8] : Fin 2 → ℕ) a + S1024x8.size a
  then B (Rect.unitLocal (s := S1024x16) (off := ![0, 8]) (size := S1024x8.size) y h)
  else A (Rect.unitLocal (s := S1024x16) (off := ![0, 0]) (size := S1024x8.size) y (not_right y h))

/-- The tokens in bf16, the joined router, the gates of device `c`. -/
def xbAt (c : Dev nD) : FVec F S1024x1024 .bf16 := k0_pay1 (xstg A c)
def joined (c : Dev nD) : FVec F S1024x16 .f32 :=
  if c.val < 8 then join (k0_pay2 (rstg A c)) (k0_pay3 (rstg A (prt c))) else join (k0_pay4 (rstg A (prt c))) (k0_pay5 (rstg A c))
def gAt (c : Dev nD) : FVec F S1024x16 .f32 := k0_pay6 (xstg A c) (joined A c)

abbrev rL : Rect S1024x16 := Rect.unit (s := S1024x16) ![0, 0] S1024x8.size inb_S1024x16_S1024x8_0_0
abbrev rR : Rect S1024x16 := Rect.unit (s := S1024x16) ![0, 8] S1024x8.size inb_S1024x16_S1024x8_0_8

/-- After a store into the left half and one into the right half, nothing of the old contents is left. -/
theorem store_halves (f : (cc0_scratch1 : Ref sig .tc).ty.Contents (Elt F)) (A B : FVec F S1024x8 .f32) :
    ((jM : Memref sig .tc .vmem S1024x16 .f32).access rR : View sig .tc _ _ _).write (Elt F)
      (((jM : Memref sig .tc .vmem S1024x16 .f32).access rL : View sig .tc _ _ _).write (Elt F) f A Finset.univ) B Finset.univ = join A B := by
  funext y
  have h := View.read_writes_cons_unit (View.whole (cc0_scratch1 : Ref sig .tc)) f (off' := ![0, 8]) inb_S1024x16_S1024x8_0_8 B [⟨rL, A⟩] y rfl
  have h' := View.read_writes_cons_unit (View.whole (cc0_scratch1 : Ref sig .tc)) f (off' := ![0, 0]) inb_S1024x16_S1024x8_0_0 A [] y rfl
  rw [View.read_whole] at h
  refine h.trans ?_
  clear h
  rw [h']
  clear h'
  unfold join
  by_cases hy : ∀ a, (![0, 8] : Fin 2 → ℕ) a ≤ (y a).val ∧ (y a).val < (![0, 8] : Fin 2 → ℕ) a + S1024x8.size a
  · refine (dif_pos hy).trans ?_; rw [dif_pos hy]
  · refine ((dif_neg hy).trans (dif_pos (not_right y hy))).trans ?_; rw [dif_neg hy]

/-- A whole buffer of device `c`. -/
def pts (c : Dev nD) (b : Ref sig .tc) (f : b.ty.Contents (Elt F)) : sProp 𝕄 :=
  (Memref.whole b).view.loc (c : Thread nD τ) ↦[(Memref.whole b).view.set]{fullShare} f

omit [FloatOps F] in
instance pts_storable (c : Dev nD) (b f) : BI.Storable (upEmb : UEmb _ 𝕄) (pts (F := F) c b f) := by unfold pts; infer_instance
omit [FloatOps F] in
theorem pts_eq (c : Dev nD) (b : Ref sig .tc) (f : b.ty.Contents (Elt F)) :
    pts c b f = (((c : Thread nD τ).loc b) ↦{fullShare} f : sProp 𝕄) := by unfold pts; rw [View.set_whole]

/-! ### The combining kernel: first and second operand, result, landing buffer; barrier, send and receive semaphore -/

abbrev uM : Memref sig .tc .vmem S1024x1024 .bf16 := Memref.whole cc2_stg0_0
abbrev wM : Memref sig .tc .vmem S1024x1024 .bf16 := Memref.whole cc2_stg1_0
abbrev oM : Memref sig .tc .vmem S1024x1024 .f32 := Memref.whole cc2_stg2_0
abbrev lM : Memref sig .tc .vmem S1024x1024 .bf16 := Memref.whole cc2_scratch0

abbrev barS2 : Sem sig := (SemArray.scalar (sig.barrier 1 rfl) : Sems sig S_).sem
abbrev sendS : DmaSems sig S_ := cc2_scratch1
abbrev recvS : DmaSems sig S_ := cc2_scratch2

abbrev bar2 : SemLoc sig := .reg barS2
abbrev snd : SemLoc sig := .dma sendS.sem
abbrev rcv : SemLoc sig := .dma recvS.sem

/-- The combining kernel's own semaphores: send, receive. -/
abbrev osem2 : Fin 2 → SemLoc sig := fun | 0 => snd | 1 => rcv

abbrev N : ℕ := (lM : Memref sig .tc .vmem S1024x1024 .bf16).view.dmaCredit
theorem N_pos : 0 < N := View.dmaCredit_pos _ (by decide)

/-! ## Contents -/

def astg (c : Dev nD) : (cc2_stg0_0 : Ref sig .tc).ty.Contents (Elt F) :=
  (win2_0.blk (0 : Fin 1)).view.read (Elt F) (B c main_v37_0)
def bstg (c : Dev nD) : (cc2_stg1_0 : Ref sig .tc).ty.Contents (Elt F) :=
  (win2_1.blk (0 : Fin 1)).view.read (Elt F) (B c main_v37_1)

/-- What device `c`'s landing buffer holds once its partner's copy has arrived: the partner's second operand. -/
def landed (c : Dev nD) : Buf (Elt F) ((lM : Memref sig .tc .vmem S1024x1024 .bf16).view.loc (c : Thread nD τ)) := bstg B (prt c)
/-- The result on device `c`. -/
def outAt (c : Dev nD) : (cc2_stg2_0 : Ref sig .tc).ty.Contents (Elt F) := k2_pay1 (astg B c) (landed B c)

omit [FloatOps F] in
theorem landed_eq (c : Dev nD) (fd : Buf (Elt F) ((lM : Memref sig .tc .vmem S1024x1024 .bf16).view.loc (c : Thread nD τ))) (fs : (cc2_stg1_0 : Ref sig .tc).ty.Contents (Elt F)) :
    (lM : Memref sig .tc .vmem S1024x1024 .bf16).view.write (Elt F) fd ((wM : Memref sig .tc .vmem S1024x1024 .bf16).view.read (Elt F) fs) Finset.univ = fs := by
  show (View.whole cc2_scratch0).write (Elt F) fd ((View.whole cc2_stg1_0).read (Elt F) fs) Finset.univ = fs
  rw [View.read_whole]
  exact View.write_whole_univ _ _ _

def scrPts (c : Dev nD) (f : Buf (Elt F) ((lM : Memref sig .tc .vmem S1024x1024 .bf16).view.loc (c : Thread nD τ))) : sProp 𝕄 :=
  (lM : Memref sig .tc .vmem S1024x1024 .bf16).view.loc (c : Thread nD τ) ↦[(lM : Memref sig .tc .vmem S1024x1024 .bf16).view.set]{fullShare} f
def bPts (c : Dev nD) : sProp 𝕄 :=
  (wM : Memref sig .tc .vmem S1024x1024 .bf16).view.loc (c : Thread nD τ) ↦[(wM : Memref sig .tc .vmem S1024x1024 .bf16).view.set]{fullShare} bstg B c

omit [FloatOps F] in
instance scrPts_storable (c : Dev nD) (f) : BI.Storable (upEmb : UEmb _ 𝕄) (scrPts (F := F) c f) := by unfold scrPts; infer_instance
omit [FloatOps F] in
instance bPts_storable (c : Dev nD) : BI.Storable (upEmb : UEmb _ 𝕄) (bPts (F := F) B c) := by unfold bPts; infer_instance

omit [FloatOps F] in
theorem scr_set : (lM : Memref sig .tc .vmem S1024x1024 .bf16).view.set = Finset.univ := View.set_whole _
omit [FloatOps F] in
theorem scrPts_eq (c : Dev nD) (f : Buf (Elt F) ((c : Thread nD τ).loc cc2_scratch0)) :
    scrPts c f = (((c : Thread nD τ).loc cc2_scratch0) ↦{fullShare} f : sProp 𝕄) := by unfold scrPts; rw [scr_set]
omit [FloatOps F] in
theorem bPts_eq (c : Dev nD) : bPts B c = (((c : Thread nD τ).loc cc2_stg1_0) ↦{fullShare} bstg B c : sProp 𝕄) := by
  unfold bPts; rw [View.set_whole]

/-! ## The protocol's table -/

/-- The units of each semaphore's single credit. -/
def amt (s : SemLoc sig) : ℕ :=
  if s = bar then 1 else if s = sx then NX else if s = vx then NX else if s = sr then NR else if s = vr then NR else if s = sg then NG else if s = vg then NG else if s = bar2 then 1 else if s = snd then N else N

/-- What each credit hands over. A barrier's: the partner's landing buffers, and that its receive semaphores are open. A
    receive semaphore's: the landing buffer with what the partner sent. A send semaphore's: the source read out. -/
def pay (c : Dev nD) (s : SemLoc sig) : sProp 𝕄 :=
  if s = bar then iprop((∃ f, pts (prt c) cc0_scratch0 f) ∗ (∃ f, pts (prt c) cc0_stg3_0 f) ∗ (∃ f, pts (prt c) cc0_stg5_0 f)
      ∗ reached ER (cell (prt c) vr) 0 ∗ reached ER (cell (prt c) vx) 0 ∗ reached ER (cell (prt c) vg) 0)
  else if s = sx then pts c cc0_stg2_0 (xbAt A c)
  else if s = vx then pts c cc0_stg3_0 (xbAt A (prt c))
  else if s = sr then pts c cc0_stg1_0 (rstg A c)
  else if s = vr then pts c cc0_scratch0 (rstg A (prt c))
  else if s = sg then pts c cc0_stg4_0 (gAt A c)
  else if s = vg then pts c cc0_stg5_0 (gAt A (prt c))
  else if s = bar2 then iprop((∃ f, scrPts (prt c) f) ∗ reached ER (cell (prt c) rcv) 0)
  else if s = snd then bPts B c
  else if s = rcv then scrPts c (landed B c)
  else iprop(emp)

def payee (s : SemLoc sig) (c : Dev nD) : Dev nD := if s = sx ∨ s = sr ∨ s = sg ∨ s = snd then c else prt c

omit [FloatOps F] in
theorem storable_ite (p : Prop) [Decidable p] {P Q : sProp 𝕄} (hP : BI.Storable (upEmb : UEmb _ 𝕄) P) (hQ : BI.Storable (upEmb : UEmb _ 𝕄) Q) :
    BI.Storable (upEmb : UEmb _ 𝕄) (if p then P else Q) := by split <;> assumption

def proto : Proto nD τ sig (Elt F) where
  live := {bar, bar2}
  inner := {sx, vx, sr, vr, sg, vg, snd, rcv}
  apart := by decide
  amt := amt
  amt_pos s _ := by unfold amt; (repeat' split) <;> first | exact Nat.one_pos | exact NX_pos | exact NR_pos | exact NG_pos | exact N_pos
  pay := pay A B
  pay_storable c s := by unfold pay; exact storable_ite _ inferInstance (storable_ite _ inferInstance (storable_ite _ inferInstance (storable_ite _ inferInstance (storable_ite _ inferInstance (storable_ite _ inferInstance (storable_ite _ inferInstance (storable_ite _ inferInstance (storable_ite _ inferInstance (storable_ite _ inferInstance inferInstance)))))))))
  payee := payee
  payee_payee s c := by unfold payee; split; exacts [rfl, prt_prt c]

section Table
variable (c : Dev nD)

theorem mem_bar : bar ∈ (proto A B).all := by show bar ∈ ({bar, bar2} ∪ {sx, vx, sr, vr, sg, vg, snd, rcv} : Finset (SemLoc sig)); decide
theorem mem_sx : sx ∈ (proto A B).all := by show sx ∈ ({bar, bar2} ∪ {sx, vx, sr, vr, sg, vg, snd, rcv} : Finset (SemLoc sig)); decide
theorem mem_vx : vx ∈ (proto A B).all := by show vx ∈ ({bar, bar2} ∪ {sx, vx, sr, vr, sg, vg, snd, rcv} : Finset (SemLoc sig)); decide
theorem mem_sr : sr ∈ (proto A B).all := by show sr ∈ ({bar, bar2} ∪ {sx, vx, sr, vr, sg, vg, snd, rcv} : Finset (SemLoc sig)); decide
theorem mem_vr : vr ∈ (proto A B).all := by show vr ∈ ({bar, bar2} ∪ {sx, vx, sr, vr, sg, vg, snd, rcv} : Finset (SemLoc sig)); decide
theorem mem_sg : sg ∈ (proto A B).all := by show sg ∈ ({bar, bar2} ∪ {sx, vx, sr, vr, sg, vg, snd, rcv} : Finset (SemLoc sig)); decide
theorem mem_vg : vg ∈ (proto A B).all := by show vg ∈ ({bar, bar2} ∪ {sx, vx, sr, vr, sg, vg, snd, rcv} : Finset (SemLoc sig)); decide
theorem mem_bar2 : bar2 ∈ (proto A B).all := by show bar2 ∈ ({bar, bar2} ∪ {sx, vx, sr, vr, sg, vg, snd, rcv} : Finset (SemLoc sig)); decide
theorem mem_snd : snd ∈ (proto A B).all := by show snd ∈ ({bar, bar2} ∪ {sx, vx, sr, vr, sg, vg, snd, rcv} : Finset (SemLoc sig)); decide
theorem mem_rcv : rcv ∈ (proto A B).all := by show rcv ∈ ({bar, bar2} ∪ {sx, vx, sr, vr, sg, vg, snd, rcv} : Finset (SemLoc sig)); decide
theorem live_bar : bar ∈ (proto A B).live := by show bar ∈ ({bar, bar2} : Finset (SemLoc sig)); decide
theorem live_bar2 : bar2 ∈ (proto A B).live := by show bar2 ∈ ({bar, bar2} : Finset (SemLoc sig)); decide

theorem amt_bar : amt bar = 1 := by unfold amt; rw [if_pos rfl]
theorem amt_sx : amt sx = NX := by unfold amt; rw [if_neg (by decide), if_pos rfl]
theorem amt_vx : amt vx = NX := by unfold amt; rw [if_neg (by decide), if_neg (by decide), if_pos rfl]
theorem amt_sr : amt sr = NR := by unfold amt; rw [if_neg (by decide), if_neg (by decide), if_neg (by decide), if_pos rfl]
theorem amt_vr : amt vr = NR := by unfold amt; rw [if_neg (by decide), if_neg (by decide), if_neg (by decide), if_neg (by decide), if_pos rfl]
theorem amt_sg : amt sg = NG := by unfold amt; rw [if_neg (by decide), if_neg (by decide), if_neg (by decide), if_neg (by decide), if_neg (by decide), if_pos rfl]
theorem amt_vg : amt vg = NG := by unfold amt; rw [if_neg (by decide), if_neg (by decide), if_neg (by decide), if_neg (by decide), if_neg (by decide), if_neg (by decide), if_pos rfl]
theorem amt_bar2 : amt bar2 = 1 := by unfold amt; rw [if_neg (by decide), if_neg (by decide), if_neg (by decide), if_neg (by decide), if_neg (by decide), if_neg (by decide), if_neg (by decide), if_pos rfl]
theorem amt_snd : amt snd = N := by unfold amt; rw [if_neg (by decide), if_neg (by decide), if_neg (by decide), if_neg (by decide), if_neg (by decide), if_neg (by decide), if_neg (by decide), if_neg (by decide), if_pos rfl]
theorem amt_rcv : amt rcv = N := by unfold amt; rw [if_neg (by decide), if_neg (by decide), if_neg (by decide), if_neg (by decide), if_neg (by decide), if_neg (by decide), if_neg (by decide), if_neg (by decide), if_neg (by decide)]

theorem pay_bar : pay A B c bar = iprop((∃ f, pts (prt c) cc0_scratch0 f) ∗ (∃ f, pts (prt c) cc0_stg3_0 f) ∗ (∃ f, pts (prt c) cc0_stg5_0 f)
      ∗ reached ER (cell (prt c) vr) 0 ∗ reached ER (cell (prt c) vx) 0 ∗ reached ER (cell (prt c) vg) 0) := by unfold pay; rw [if_pos rfl]
theorem pay_sx : pay A B c sx = pts c cc0_stg2_0 (xbAt A c) := by unfold pay; rw [if_neg (by decide), if_pos rfl]
theorem pay_vx : pay A B c vx = pts c cc0_stg3_0 (xbAt A (prt c)) := by unfold pay; rw [if_neg (by decide), if_neg (by decide), if_pos rfl]
theorem pay_sr : pay A B c sr = pts c cc0_stg1_0 (rstg A c) := by unfold pay; rw [if_neg (by decide), if_neg (by decide), if_neg (by decide), if_pos rfl]
theorem pay_vr : pay A B c vr = pts c cc0_scratch0 (rstg A (prt c)) := by unfold pay; rw [if_neg (by decide), if_neg (by decide), if_neg (by decide), if_neg (by decide), if_pos rfl]
theorem pay_sg : pay A B c sg = pts c cc0_stg4_0 (gAt A c) := by unfold pay; rw [if_neg (by decide), if_neg (by decide), if_neg (by decide), if_neg (by decide), if_neg (by decide), if_pos rfl]
theorem pay_vg : pay A B c vg = pts c cc0_stg5_0 (gAt A (prt c)) := by unfold pay; rw [if_neg (by decide), if_neg (by decide), if_neg (by decide), if_neg (by decide), if_neg (by decide), if_neg (by decide), if_pos rfl]
theorem pay_bar2 : pay A B c bar2 = iprop((∃ f, scrPts (prt c) f) ∗ reached ER (cell (prt c) rcv) 0) := by unfold pay; rw [if_neg (by decide), if_neg (by decide), if_neg (by decide), if_neg (by decide), if_neg (by decide), if_neg (by decide), if_neg (by decide), if_pos rfl]
theorem pay_snd : pay A B c snd = bPts B c := by unfold pay; rw [if_neg (by decide), if_neg (by decide), if_neg (by decide), if_neg (by decide), if_neg (by decide), if_neg (by decide), if_neg (by decide), if_neg (by decide), if_pos rfl]
theorem pay_rcv : pay A B c rcv = scrPts c (landed B c) := by unfold pay; rw [if_neg (by decide), if_neg (by decide), if_neg (by decide), if_neg (by decide), if_neg (by decide), if_neg (by decide), if_neg (by decide), if_neg (by decide), if_neg (by decide), if_pos rfl]

theorem payee_bar : payee bar c = prt c := by unfold payee; rw [if_neg (by decide)]
theorem payee_sx : payee sx c = c := by unfold payee; rw [if_pos (by decide)]
theorem payee_vx : payee vx c = prt c := by unfold payee; rw [if_neg (by decide)]
theorem payee_sr : payee sr c = c := by unfold payee; rw [if_pos (by decide)]
theorem payee_vr : payee vr c = prt c := by unfold payee; rw [if_neg (by decide)]
theorem payee_sg : payee sg c = c := by unfold payee; rw [if_pos (by decide)]
theorem payee_vg : payee vg c = prt c := by unfold payee; rw [if_neg (by decide)]
theorem payee_bar2 : payee bar2 c = prt c := by unfold payee; rw [if_neg (by decide)]
theorem payee_snd : payee snd c = c := by unfold payee; rw [if_pos (by decide)]
theorem payee_rcv : payee rcv c = prt c := by unfold payee; rw [if_neg (by decide)]

theorem bigSep_live (Φ : SemLoc sig → sProp 𝕄) : bigSep (proto A B).live Φ = iprop(Φ bar ∗ Φ bar2) := by
  show bigSep {bar, bar2} Φ = _
  exact bigSep_eq_bigSepL_of_eq [bar, bar2] (by decide) (by decide) Φ
theorem bigSep_inner (Φ : SemLoc sig → sProp 𝕄) : bigSep (proto A B).inner Φ = iprop(Φ sx ∗ Φ vx ∗ Φ sr ∗ Φ vr ∗ Φ sg ∗ Φ vg ∗ Φ snd ∗ Φ rcv) := by
  show bigSep {sx, vx, sr, vr, sg, vg, snd, rcv} Φ = _
  exact bigSep_eq_bigSepL_of_eq [sx, vx, sr, vr, sg, vg, snd, rcv] (by decide) (by decide) Φ
theorem bigSep_all (Φ : SemLoc sig → sProp 𝕄) : bigSep (proto A B).all Φ = iprop(Φ bar ∗ Φ sx ∗ Φ vx ∗ Φ sr ∗ Φ vr ∗ Φ sg ∗ Φ vg ∗ Φ bar2 ∗ Φ snd ∗ Φ rcv) := by
  show bigSep ({bar, bar2} ∪ {sx, vx, sr, vr, sg, vg, snd, rcv}) Φ = _
  exact bigSep_eq_bigSepL_of_eq [bar, sx, vx, sr, vr, sg, vg, bar2, snd, rcv] (by decide) (by decide) Φ

end Table

/-! ## What each device owes at launch; the levels -/

/-- Device `c` owes its partner each receive semaphore's credit and one unit of each barrier. `R₀` is what the combining
    kernel pays, the rest the exchanging one; in the order in which they are paid, last one first. -/
def R₁ (c : Dev nD) : CellTallies nD τ sig Unit := tallyAt (cell (prt c) rcv) () N
def R₀ (c : Dev nD) : CellTallies nD τ sig Unit := R₁ c + tallyAt (cell (prt c) bar2) () 1
def O₃ (c : Dev nD) : CellTallies nD τ sig Unit := R₀ c + tallyAt (cell (prt c) vg) () NG
def O₂ (c : Dev nD) : CellTallies nD τ sig Unit := O₃ c + tallyAt (cell (prt c) vx) () NX
def O₁ (c : Dev nD) : CellTallies nD τ sig Unit := O₂ c + tallyAt (cell (prt c) vr) () NR
def O₀ (c : Dev nD) : CellTallies nD τ sig Unit := O₁ c + tallyAt (cell (prt c) bar) () 1

/-- What the exchanging kernel pays. -/
def due (c : Dev nD) : CellTallies nD τ sig Unit :=
  tallyAt (cell (prt c) vg) () NG + (tallyAt (cell (prt c) vx) () NX + (tallyAt (cell (prt c) vr) () NR + tallyAt (cell (prt c) bar) () 1))
theorem O₀_eq (c : Dev nD) : O₀ c = R₀ c + due c := by unfold O₀ O₁ O₂ O₃ due; simp only [add_assoc]

/-- The first barrier at level 1, the receive semaphores of tokens and router halves at 2, that of the gates at 3, the
    second barrier at 4, the last receive semaphore at 5, all others at 0. -/
def lev (s : SemLoc sig) : ℕ :=
  if s = bar then 1 else if s = vx then 2 else if s = vr then 2 else if s = vg then 3 else if s = bar2 then 4 else if s = rcv then 5 else 0
abbrev lv : GSem nD τ sig → Unit → ℕ := lvOf lev

theorem lev_bar : lev bar = 1 := by decide
theorem lev_vx : lev vx = 2 := by decide
theorem lev_vr : lev vr = 2 := by decide
theorem lev_vg : lev vg = 3 := by decide
theorem lev_sr : lev sr = 0 := by decide
theorem lev_sx : lev sx = 0 := by decide
theorem lev_sg : lev sg = 0 := by decide
theorem lev_bar2 : lev bar2 = 4 := by decide
theorem lev_rcv : lev rcv = 5 := by decide
theorem lev_snd : lev snd = 0 := by decide

theorem above_R₁ (c : Dev nD) : Pairs.Above lev 4 (R₁ c) := Pairs.above_tally _ _ (by rw [lev_rcv]; decide)
theorem above_R₀' (n : ℕ) (hn : n < 4) (c : Dev nD) : Pairs.Above lev n (R₀ c) :=
  Pairs.above_add (Pairs.above_tally _ _ (by rw [lev_rcv]; omega)) (Pairs.above_tally _ _ (by rw [lev_bar2]; omega))
theorem above_R₀ (c : Dev nD) : Pairs.Above lev 3 (R₀ c) := above_R₀' 3 (by decide) c
theorem above_O₃ (c : Dev nD) : Pairs.Above lev 2 (O₃ c) := Pairs.above_add (above_R₀' 2 (by decide) c) (Pairs.above_tally _ _ (by rw [lev_vg]; decide))
theorem above_O₁ (c : Dev nD) : Pairs.Above lev 1 (O₁ c) :=
  Pairs.above_add (Pairs.above_add (Pairs.above_add (above_R₀' 1 (by decide) c) (Pairs.above_tally _ _ (by rw [lev_vg]; decide))) (Pairs.above_tally _ _ (by rw [lev_vx]; decide)))
    (Pairs.above_tally _ _ (by rw [lev_vr]; decide))
theorem above_O₀ (c : Dev nD) : Pairs.Above lev 0 (O₀ c) :=
  Pairs.above_add (Pairs.above_add (Pairs.above_add (Pairs.above_add (above_R₀' 0 (by decide) c) (Pairs.above_tally _ _ (by rw [lev_vg]; decide))) (Pairs.above_tally _ _ (by rw [lev_vx]; decide)))
    (Pairs.above_tally _ _ (by rw [lev_vr]; decide))) (Pairs.above_tally _ _ (by rw [lev_bar]; decide))

abbrev 𝒱₀ : Variants := Variants.none

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Talk

end
-- ==== Proof.ExchangeRegion.lean ====
/-
# The exchanging kernel within the whole program

Each device signals its partner across the mesh axis `x` that its three landing buffers are free and waits for the same
signal. It copies its half of the router to the partner, casts its tokens to bf16 and copies them too, joins its own and
the arrived half of the router in the order of the experts, multiplies its tokens with them, and copies these gates to the
partner as well. What the combining kernel will pay stays owed all along.
-/
module

public import proofs.«01_k».proof.Proof.Talk

@[expose] public section

noncomputable section

namespace Cert.KernelIdeal.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Pairs (Proto EP ER cell L lvOf)
open Cert.KernelIdeal.Talk

variable {F : FTy → Type} [FloatOps F]

local notation "𝕄" => MT nD τ sig Unit (Elt F) ℕ UU ℕ

variable (A B : Dev nD → Valuation τ sig (Elt F))

theorem dev1_eq (c : Dev nD) : (⟨k0_dev1 c, k0_dev1_lt c⟩ : Dev nD) = prt c := Fin.ext ((k0_dev1_eq c).trans (by revert c; decide))
theorem dev2_eq (c : Dev nD) : (⟨k0_dev2 c, k0_dev2_lt c⟩ : Dev nD) = prt c := Fin.ext ((k0_dev2_eq c).trans (by revert c; decide))
theorem dev3_eq (c : Dev nD) : (⟨k0_dev3 c, k0_dev3_lt c⟩ : Dev nD) = prt c := Fin.ext ((k0_dev3_eq c).trans (by revert c; decide))
theorem dev4_eq (c : Dev nD) : (⟨k0_dev4 c, k0_dev4_lt c⟩ : Dev nD) = prt c := Fin.ext ((k0_dev4_eq c).trans (by revert c; decide))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the launch keeps for the exchanging kernel: the records, the barrier's position, the rights to open the kernel's
    own semaphores, the tokens of what it pays, the credits it awaits. -/
def kept (c : Dev nD) : sProp 𝕄 :=
  iprop((∃ κ, Pairs.records (proto A B) κ ∗ atPos ER (cell c bar) 0 ∅ 0 ∗ (openTok ER (cell c sx) ∗ openTok ER (cell c vx) ∗ openTok ER (cell c sr) ∗ openTok ER (cell c vr) ∗ openTok ER (cell c sg) ∗ openTok ER (cell c vg))
    ∗ dutyTok ER (cell (prt c) bar) 0 () ∗ dutyTok ER (cell c sx) 0 () ∗ dutyTok ER (cell (prt c) vx) 0 () ∗ dutyTok ER (cell c sr) 0 () ∗ dutyTok ER (cell (prt c) vr) 0 () ∗ dutyTok ER (cell c sg) 0 () ∗ dutyTok ER (cell (prt c) vg) 0 ()) ∗ (cred (tallyAt (cell c bar) () 1) ∗ cred (tallyAt (cell c vx) () NX)
    ∗ cred (tallyAt (cell c vr) () NR) ∗ cred (tallyAt (cell c vg) () NG)))

/-- The same with the semaphores opened. -/
def ghost (κ : GSem nD τ sig → ℕ) (c : Dev nD) : sProp 𝕄 :=
  iprop(Pairs.records (proto A B) κ ∗ atPos ER (cell c bar) 0 ∅ 0
    ∗ ((atPos ER (cell c sx) 0 ∅ 0 ∗ reached ER (cell c sx) 0) ∗ (atPos ER (cell c vx) 0 ∅ 0 ∗ reached ER (cell c vx) 0) ∗ (atPos ER (cell c sr) 0 ∅ 0 ∗ reached ER (cell c sr) 0) ∗ (atPos ER (cell c vr) 0 ∅ 0 ∗ reached ER (cell c vr) 0) ∗ (atPos ER (cell c sg) 0 ∅ 0 ∗ reached ER (cell c sg) 0) ∗ (atPos ER (cell c vg) 0 ∅ 0 ∗ reached ER (cell c vg) 0))
    ∗ dutyTok ER (cell (prt c) bar) 0 () ∗ dutyTok ER (cell c sx) 0 () ∗ dutyTok ER (cell (prt c) vx) 0 () ∗ dutyTok ER (cell c sr) 0 () ∗ dutyTok ER (cell (prt c) vr) 0 () ∗ dutyTok ER (cell c sg) 0 () ∗ dutyTok ER (cell (prt c) vg) 0 ())

/-- What device `c`'s body starts from. -/
def start (c : Dev nD) : sProp 𝕄 :=
  iprop((∃ κ, ghost A B κ c) ∗ (cred (tallyAt (cell c bar) () 1) ∗ cred (tallyAt (cell c vx) () NX)
    ∗ cred (tallyAt (cell c vr) () NR) ∗ cred (tallyAt (cell c vg) () NG)) ∗ levAts L lv)

/-- What the kernel does not touch. -/
def others (c : Dev nD) : sProp 𝕄 :=
  iprop(Pipeline.scopedRestBut (Ix := Unit) (Name := ℕ) (U := UU) (Lvl := ℕ) (Val := Elt F) spec0 c [cc0_scratch0, cc0_scratch1] ∗ ∃ r, prngReg c r)

def Φ₀ (c : Dev nD) : sProp 𝕄 := iprop(start A B c ∗ (∃ f, pts c cc0_scratch0 f) ∗ (∃ f, pts c cc0_scratch1 f))
def Φ₁ (c : Dev nD) : sProp 𝕄 :=
  iprop(pts c cc0_scratch0 (rstg A (prt c)) ∗ pts c cc0_scratch1 (joined A c)
    ∗ (semVal (cell c sx) 0 ∗ semVal (cell c vx) 0 ∗ semVal (cell c sr) 0 ∗ semVal (cell c vr) 0 ∗ semVal (cell c sg) 0 ∗ semVal (cell c vg) 0)
    ∗ semVal (cell c bar) 0)

def dats (c : Dev nD) : Dat τ (Elt F) Unit ℕ UU ℕ cfg0 c where
  A w := A c (Pipeline.arrRef spec0 w)
  after w _ := match w with
    | ⟨0, _⟩ => xstg A c
    | ⟨1, _⟩ => rstg A c
    | ⟨2, _⟩ => xbAt A c
    | ⟨3, _⟩ => xbAt A (prt c)
    | ⟨4, _⟩ => gAt A c
    | ⟨5, _⟩ => gAt A (prt c)
  Φ t := match t with
    | ⟨0, _⟩ => iprop(Φ₀ A B c ∗ others c)
    | ⟨_ + 1, _⟩ => iprop(Φ₁ A c ∗ others c)
  q _ := fullShare
  owed t := match t with
    | ⟨0, _⟩ => O₀ c
    | ⟨_ + 1, _⟩ => R₀ c

/-! ## The body -/

section Body

variable (κ : GSem nD τ sig → ℕ)

abbrev r0 : Rect S1024x1024 := Rect.unit (s := S1024x1024) ![0, 0] S1024x1024.size inb_S1024x1024_S1024x1024_0_0
abbrev r1 : Rect S1024x8 := Rect.unit (s := S1024x8) ![0, 0] S1024x8.size inb_S1024x8_S1024x8_0_0
abbrev r2 : Rect S1024x16 := Rect.unit (s := S1024x16) ![0, 0] S1024x16.size inb_S1024x16_S1024x16_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x1024 .f32).view.readAt (Elt F) r0.toLoadRect f = f :=
  Memref.readAt_unit_zero (Elt F) cc0_stg0_0 hz _ f
omit [FloatOps F] in
theorem read_r (f : (cc0_stg1_0 : Ref sig .tc).ty.Contents (Elt F)) : (rM : Memref sig .tc .vmem S1024x8 .f32).view.readAt (Elt F) r1.toLoadRect f = f :=
  Memref.readAt_unit_zero (Elt F) cc0_stg1_0 hz _ f
omit [FloatOps F] in
theorem read_q (f : (cc0_scratch0 : Ref sig .tc).ty.Contents (Elt F)) : (qM : Memref sig .tc .vmem S1024x8 .f32).view.readAt (Elt F) r1.toLoadRect f = f :=
  Memref.readAt_unit_zero (Elt F) cc0_scratch0 hz _ f
omit [FloatOps F] in
theorem read_j (f : (cc0_scratch1 : Ref sig .tc).ty.Contents (Elt F)) : (jM : Memref sig .tc .vmem S1024x16 .f32).view.readAt (Elt F) r2.toLoadRect f = f :=
  Memref.readAt_unit_zero (Elt F) cc0_scratch1 hz _ f
omit [FloatOps F] in
theorem write_b (f w : (cc0_stg2_0 : Ref sig .tc).ty.Contents (Elt F)) :
    ((bM : Memref sig .tc .vmem S1024x1024 .bf16).access r0 : View sig .tc _ _ _).write (Elt F) f w Finset.univ = w :=
  Memref.write_access_unit_zero_univ (Elt F) cc0_stg2_0 hz _ f w
omit [FloatOps F] in
theorem write_g (f w : (cc0_stg4_0 : Ref sig .tc).ty.Contents (Elt F)) :
    ((gM : Memref sig .tc .vmem S1024x16 .f32).access r2 : View sig .tc _ _ _).write (Elt F) f w Finset.univ = w :=
  Memref.write_access_unit_zero_univ (Elt F) cc0_stg4_0 hz _ f w

theorem landed_r (fd fs : (qM : Memref sig .tc .vmem S1024x8 .f32).view.ref.ty.Contents (Elt F)) :
    (qM : Memref sig .tc .vmem S1024x8 .f32).view.write (Elt F) fd ((rM : Memref sig .tc .vmem S1024x8 .f32).view.read (Elt F) fs) Finset.univ = fs := by
  show (View.whole cc0_scratch0).write (Elt F) fd ((View.whole cc0_stg1_0).read (Elt F) fs) Finset.univ = fs
  rw [View.read_whole]
  exact View.write_whole_univ _ _ _

/-- The copy of the router half to the partner: the source and the partner's landing buffer go in, the credit of the send
    semaphore comes out. -/
theorem wp_copy_r (c n : Dev nD) (hn : n = prt c) {hsc : (qM : Memref sig (Dev.tc n : Thread nD τ).2.kind .vmem S1024x8 .f32).view.ref.isScScratch = false}
    {hsrc : (rM : Memref sig .tc .vmem S1024x8 .f32).view.WordExact} {hdst : (qM : Memref sig .tc .vmem S1024x8 .f32).view.WordExact}
    {hsem : DmaTarget.Typed .vmem (.dma dS3.sem) (.remote (Dev.tc n : Thread nD τ) (qM : Memref sig .tc .vmem S1024x8 .f32) (.dma dS2.sem) hsc)}
    {α : Type} {Q : α → sProp 𝕄} {k : PUnit → Prog (TpuEff nD τ sig (Elt F) Λ₀ .tc) α}
    (fn : (cc0_scratch0 : Ref sig .tc).ty.Contents (Elt F)) (W : Waits sig Unit) :
    iprop(cellInv ER (proto A B).rd (κ (cell c sr)) (cell c sr) ∗ cellInv ER (proto A B).rd (κ (cell (prt c) vr)) (cell (prt c) vr)
        ∗ pts c cc0_stg1_0 (rstg A c) ∗ pts (prt c) cc0_scratch0 fn
        ∗ owes (c : Thread nD τ) (O₁ c) W
        ∗ dutyTok ER (cell c sr) 0 () ∗ reached ER (cell c sr) 0
        ∗ dutyTok ER (cell (prt c) vr) 0 () ∗ reached ER (cell (prt c) vr) 0)
      ⊢ iprop(((cred (tallyAt (cell c sr) () NR) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rM (.remote (Dev.tc n : Thread nD τ) qM (.dma dS2.sem) hsc) (.dma dS3.sem) hsrc hdst hsem) k) Q) := by
  subst hn
  unfold pts
  exact Rounds.wp_send_pointsTo 𝒱₀ ER (proto A B).rd (c : Thread nD τ) none (κ₁ := κ (cell c sr)) (κ₂ := κ (cell (prt c) vr))
    (c' := (prt c : Thread nD τ)) (src := rM) (dst := qM) (sS := sr) (sem := vr) (fs := rstg A c)
    (r₁ := 0) (r₂ := 0) (d₁ := ()) (d₂ := ()) (fd := fn)
    (Pairs.mem_duties (proto A B) c (mem_sr A B)) (Pairs.mem_duties (proto A B) (prt c) (mem_vr A B))
    () () NR rfl (by rw [Pairs.amount_cell]; exact amt_sr) (by rw [Pairs.amount_cell]; exact amt_vr) (O₂ c) rfl (W := W)
    (by rw [Pairs.payload_cell]; show _ ⊢ pay A B c sr; rw [pay_sr]; exact BI.Entails.refl _)
    (by rw [Pairs.payload_cell]; show _ ⊢ pay A B (prt c) vr; rw [pay_vr]; unfold pts; rw [landed_r, prt_prt])

theorem landed_x (fd fs : (yM : Memref sig .tc .vmem S1024x1024 .bf16).view.ref.ty.Contents (Elt F)) :
    (yM : Memref sig .tc .vmem S1024x1024 .bf16).view.write (Elt F) fd ((bM : Memref sig .tc .vmem S1024x1024 .bf16).view.read (Elt F) fs) Finset.univ = fs := by
  show (View.whole cc0_stg3_0).write (Elt F) fd ((View.whole cc0_stg2_0).read (Elt F) fs) Finset.univ = fs
  rw [View.read_whole]
  exact View.write_whole_univ _ _ _

/-- The copy of the tokens to the partner: the source and the partner's landing buffer go in, the credit of the send
    semaphore comes out. -/
theorem wp_copy_x (c n : Dev nD) (hn : n = prt c) {hsc : (yM : Memref sig (Dev.tc n : Thread nD τ).2.kind .vmem S1024x1024 .bf16).view.ref.isScScratch = false}
    {hsrc : (bM : Memref sig .tc .vmem S1024x1024 .bf16).view.WordExact} {hdst : (yM : Memref sig .tc .vmem S1024x1024 .bf16).view.WordExact}
    {hsem : DmaTarget.Typed .vmem (.dma dS1.sem) (.remote (Dev.tc n : Thread nD τ) (yM : Memref sig .tc .vmem S1024x1024 .bf16) (.dma dS0.sem) hsc)}
    {α : Type} {Q : α → sProp 𝕄} {k : PUnit → Prog (TpuEff nD τ sig (Elt F) Λ₀ .tc) α}
    (fn : (cc0_stg3_0 : Ref sig .tc).ty.Contents (Elt F)) (W : Waits sig Unit) :
    iprop(cellInv ER (proto A B).rd (κ (cell c sx)) (cell c sx) ∗ cellInv ER (proto A B).rd (κ (cell (prt c) vx)) (cell (prt c) vx)
        ∗ pts c cc0_stg2_0 (xbAt A c) ∗ pts (prt c) cc0_stg3_0 fn
        ∗ owes (c : Thread nD τ) (O₂ c) W
        ∗ dutyTok ER (cell c sx) 0 () ∗ reached ER (cell c sx) 0
        ∗ dutyTok ER (cell (prt c) vx) 0 () ∗ reached ER (cell (prt c) vx) 0)
      ⊢ iprop(((cred (tallyAt (cell c sx) () NX) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) yM (.dma dS0.sem) hsc) (.dma dS1.sem) hsrc hdst hsem) k) Q) := by
  subst hn
  unfold pts
  exact Rounds.wp_send_pointsTo 𝒱₀ ER (proto A B).rd (c : Thread nD τ) none (κ₁ := κ (cell c sx)) (κ₂ := κ (cell (prt c) vx))
    (c' := (prt c : Thread nD τ)) (src := bM) (dst := yM) (sS := sx) (sem := vx) (fs := xbAt A c)
    (r₁ := 0) (r₂ := 0) (d₁ := ()) (d₂ := ()) (fd := fn)
    (Pairs.mem_duties (proto A B) c (mem_sx A B)) (Pairs.mem_duties (proto A B) (prt c) (mem_vx A B))
    () () NX rfl (by rw [Pairs.amount_cell]; exact amt_sx) (by rw [Pairs.amount_cell]; exact amt_vx) (O₃ c) rfl (W := W)
    (by rw [Pairs.payload_cell]; show _ ⊢ pay A B c sx; rw [pay_sx]; exact BI.Entails.refl _)
    (by rw [Pairs.payload_cell]; show _ ⊢ pay A B (prt c) vx; rw [pay_vx]; unfold pts; rw [landed_x, prt_prt])

theorem landed_g (fd fs : (hM : Memref sig .tc .vmem S1024x16 .f32).view.ref.ty.Contents (Elt F)) :
    (hM : Memref sig .tc .vmem S1024x16 .f32).view.write (Elt F) fd ((gM : Memref sig .tc .vmem S1024x16 .f32).view.read (Elt F) fs) Finset.univ = fs := by
  show (View.whole cc0_stg5_0).write (Elt F) fd ((View.whole cc0_stg4_0).read (Elt F) fs) Finset.univ = fs
  rw [View.read_whole]
  exact View.write_whole_univ _ _ _

/-- The copy of the gates to the partner: the source and the partner's landing buffer go in, the credit of the send
    semaphore comes out. -/
theorem wp_copy_g (c n : Dev nD) (hn : n = prt c) {hsc : (hM : Memref sig (Dev.tc n : Thread nD τ).2.kind .vmem S1024x16 .f32).view.ref.isScScratch = false}
    {hsrc : (gM : Memref sig .tc .vmem S1024x16 .f32).view.WordExact} {hdst : (hM : Memref sig .tc .vmem S1024x16 .f32).view.WordExact}
    {hsem : DmaTarget.Typed .vmem (.dma dS5.sem) (.remote (Dev.tc n : Thread nD τ) (hM : Memref sig .tc .vmem S1024x16 .f32) (.dma dS4.sem) hsc)}
    {α : Type} {Q : α → sProp 𝕄} {k : PUnit → Prog (TpuEff nD τ sig (Elt F) Λ₀ .tc) α}
    (fn : (cc0_stg5_0 : Ref sig .tc).ty.Contents (Elt F)) (W : Waits sig Unit) :
    iprop(cellInv ER (proto A B).rd (κ (cell c sg)) (cell c sg) ∗ cellInv ER (proto A B).rd (κ (cell (prt c) vg)) (cell (prt c) vg)
        ∗ pts c cc0_stg4_0 (gAt A c) ∗ pts (prt c) cc0_stg5_0 fn
        ∗ owes (c : Thread nD τ) (O₃ c) W
        ∗ dutyTok ER (cell c sg) 0 () ∗ reached ER (cell c sg) 0
        ∗ dutyTok ER (cell (prt c) vg) 0 () ∗ reached ER (cell (prt c) vg) 0)
      ⊢ iprop(((cred (tallyAt (cell c sg) () NG) ∗ owes (c : Thread nD τ) (R₀ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma gM (.remote (Dev.tc n : Thread nD τ) hM (.dma dS4.sem) hsc) (.dma dS5.sem) hsrc hdst hsem) k) Q) := by
  subst hn
  unfold pts
  exact Rounds.wp_send_pointsTo 𝒱₀ ER (proto A B).rd (c : Thread nD τ) none (κ₁ := κ (cell c sg)) (κ₂ := κ (cell (prt c) vg))
    (c' := (prt c : Thread nD τ)) (src := gM) (dst := hM) (sS := sg) (sem := vg) (fs := gAt A c)
    (r₁ := 0) (r₂ := 0) (d₁ := ()) (d₂ := ()) (fd := fn)
    (Pairs.mem_duties (proto A B) c (mem_sg A B)) (Pairs.mem_duties (proto A B) (prt c) (mem_vg A B))
    () () NG rfl (by rw [Pairs.amount_cell]; exact amt_sg) (by rw [Pairs.amount_cell]; exact amt_vg) (R₀ c) rfl (W := W)
    (by rw [Pairs.payload_cell]; show _ ⊢ pay A B c sg; rw [pay_sg]; exact BI.Entails.refl _)
    (by rw [Pairs.payload_cell]; show _ ⊢ pay A B (prt c) vg; rw [pay_vg]; unfold pts; rw [landed_g, prt_prt])

def bodyPre (c : Dev nD) : sProp 𝕄 :=
  iprop((ghost A B κ c ∗ (cred (tallyAt (cell c bar) () 1) ∗ cred (tallyAt (cell c vx) () NX)
        ∗ cred (tallyAt (cell c vr) () NR) ∗ cred (tallyAt (cell c vg) () NG)) ∗ levAts L lv
      ∗ (∃ f, pts c cc0_scratch0 f) ∗ (∃ f, pts c cc0_scratch1 f))
    ∗ (dats A B c).owesAt () t₀.castSucc
    ∗ (∃ d, stg c cc0_stg0_0 ((dats A B c).before (0 : Fin 6) t₀ d))
    ∗ (∃ d, stg c cc0_stg1_0 ((dats A B c).before (1 : Fin 6) t₀ d))
    ∗ (∃ d, stg c cc0_stg2_0 ((dats A B c).before (2 : Fin 6) t₀ d))
    ∗ (∃ d, stg c cc0_stg3_0 ((dats A B c).before (3 : Fin 6) t₀ d))
    ∗ (∃ d, stg c cc0_stg4_0 ((dats A B c).before (4 : Fin 6) t₀ d))
    ∗ (∃ d, stg c cc0_stg5_0 ((dats A B c).before (5 : Fin 6) t₀ d)))

def bodyPost (c : Dev nD) : sProp 𝕄 :=
  iprop(Φ₁ A c ∗ (dats A B c).owesAt () t₀.succ ∗ stg c cc0_stg0_0 (xstg A c) ∗ stg c cc0_stg1_0 (rstg A c)
    ∗ stg c cc0_stg2_0 (xbAt A c) ∗ stg c cc0_stg3_0 (xbAt A (prt c)) ∗ stg c cc0_stg4_0 (gAt A c) ∗ stg c cc0_stg5_0 (gAt A (prt c)))

/-- The place of a device on the mesh axis `x`, as the body computes it. -/
abbrev place (c : Dev nD) : BitVec 32 := Scalar.remsi (Scalar.divsi (Dev.word c) 8#32) 2#32
theorem isFirst (c : Dev nD) : (Scalar.cmpi .ne (Scalar.extui (Scalar.cmpi .eq (place c) 0#32) : BitVec 32) 0#32 = 1#1) ↔ c.val < 8 := by
  revert c; decide
theorem isSecond (c : Dev nD) : (Scalar.cmpi .ne (Scalar.extui (Scalar.cmpi .ne (place c) 0#32) : BitVec 32) 0#32 = 1#1) ↔ ¬ c.val < 8 := by
  revert c; decide

set_option maxHeartbeats 2000000 in
/-- The body, from `bodyPre` to `bodyPost`, one rule per effect in program order. -/
theorem sound_body (c : Dev nD) (Kt : PUnit → sProp 𝕄) :
    iprop(bodyPre A B κ c ∗ (bodyPost A B c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold bodyPre ghost
  iintro ⟨⟨⟨⟨#HR, HatBAR, ⟨⟨HatSX, #HrSX⟩, ⟨HatVX, #HrVX⟩, ⟨HatSR, #HrSR⟩, ⟨HatVR, #HrVR⟩, ⟨HatSG, #HrSG⟩, HatVG, #HrVG⟩,
      HtBAR, HtSX, HtVX, HtSR, HtVR, HtSG, HtVG⟩, ⟨HcBAR, HcVX, HcVR, HcVG⟩, #Hlev, ⟨%fq, Hq⟩, ⟨%fj, Hj⟩⟩,
    Ho, ⟨%d0, %g0, %hg0, Hx⟩, ⟨%d1, %g1, %hg1, Hr⟩, ⟨%d2, %g2, %hg2, Hb⟩, ⟨%d3, %g3, %hg3, Hy⟩, ⟨%d4, %g4, %hg4, Hg⟩, ⟨%d5, %g5, %hg5, Hh⟩⟩, Hk⟩
  have hx : g0 = xstg A c := by rw [hg0]; unfold Dat.before; rw [if_pos (fetch0_0 t₀)]; rfl
  have hr : g1 = rstg A c := by rw [hg1]; unfold Dat.before; rw [if_pos (fetch0_1 t₀)]; rfl
  subst hx hr
  unfold Dat.owesAt Pipeline.owesWithin
  icases Ho with ⟨%W, %hW, HO⟩
  rw [show (dats A B c).owed t₀.castSucc = O₀ c from rfl]
  simp only [dev1_eq c]
  ihave Hj := (Entails.of_eq (pts_eq c cc0_scratch1 fj)) $$ Hj
  -- the signal to the partner's barrier hands over the three landing buffers
  unfold O₀
  iapply (Rounds.wp_signal 𝒱₀ ER (proto A B).rd (c : Thread nD τ) none (dst := (prt c : Thread nD τ)) (κ := κ (cell (prt c) bar))
      (d := ()) (Pairs.mem_duties (proto A B) (prt c) (mem_bar A B)) (amt_bar.trans (by decide)) () (O₁ c) rfl)
    $$ [HO HtBAR Hq Hy Hh]
  · isplitr; · iapply (Pairs.inv_at (proto A B) κ (prt c) (mem_bar A B)); iexact HR
    isplitl [HO]; · iexact HO
    isplitl [HtBAR]; · iexact HtBAR
    isplitl [Hq Hy Hh]
    · rw [Pairs.payload_cell, show (proto A B).pay (prt c) bar = pay A B (prt c) bar from rfl, pay_bar, prt_prt]
      isplitl [Hq]; · iexists fq; iexact Hq
      isplitl [Hy]; · iexists g3; rw [pts_eq]; iexact Hy
      isplitl [Hh]; · iexists g5; rw [pts_eq]; iexact Hh
      isplitr; · iexact HrVR
      isplitr; · iexact HrVX
      iexact HrVG
    · iapply (Pairs.reached_at (proto A B) κ (prt c) (live_bar A B)); iexact HR
  iintro HO
  -- the wait on the own barrier brings the partner's landing buffers
  iapply (Rounds.wp_wait_rest_token 𝒱₀ ER (proto A B).rd (c : Thread nD τ) none (κ := κ (cell c bar))
      (wpE_semWait_eq 𝒱₀ (c : Thread nD τ) none Set.univ) (Set.mem_univ _) () (O := O₁ c) (W := W) (R := 0) (m := 0) (T := ∅)
      (by rw [Pairs.expect_cell (proto A B) c (mem_bar A B)]; exact (amt_bar.symm.trans rfl))) $$ [HcBAR HO HatBAR]
  · isplitr; · iapply (Pairs.inv_at (proto A B) κ c (mem_bar A B)); iexact HR
    isplitl [HcBAR]; · iexact HcBAR
    isplitl [HO]; · iexact HO
    isplitr; · iapply (Pairs.mayWait (above_O₁ c) c bar (le_of_eq lev_bar)); iexact Hlev
    iexact HatBAR
  iintro ⟨HO, HatBAR, -, Hpay⟩
  imod (Pairs.close_cell (proto A B) κ c (mem_bar A B)) $$ [HatBAR] with HzBAR
  · isplitr; · iexact HR
    iexact HatBAR
  ihave Hp := (Entails.of_eq ((Pairs.rest_cell (proto A B) c (mem_bar A B)).trans (pay_bar A B c))) $$ Hpay
  icases Hp with ⟨⟨%nq, HqN⟩, ⟨%ny, HyN⟩, ⟨%nh, HhN⟩, #HNVR, #HNVX, #HNVG⟩
  -- the copy of the router half
  iapply (wp_copy_r A B κ c _ (dev2_eq c) nq (insert (bar, ()) W)) $$ [Hr HqN HO HtSR HtVR]
  · isplitr; · iapply (Pairs.inv_at (proto A B) κ c (mem_sr A B)); iexact HR
    isplitr; · iapply (Pairs.inv_at (proto A B) κ (prt c) (mem_vr A B)); iexact HR
    isplitl [Hr]; · rw [pts_eq]; iexact Hr
    isplitl [HqN]; · iexact HqN
    isplitl [HO]; · iexact HO
    isplitl [HtSR]; · iexact HtSR
    isplitr; · iexact HrSR
    isplitl [HtVR]; · iexact HtVR
    iexact HNVR
  iintro ⟨HcSR, HO⟩
  -- the tokens are cast and copied
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := r0) (Mk := Finset.univ) (Finset.subset_univ _)) $$ Hb; iintro Hb
  rw [write_b]
  iapply (wp_copy_x A B κ c _ (dev3_eq c) ny (insert (bar, ()) W)) $$ [Hb HyN HO HtSX HtVX]
  · isplitr; · iapply (Pairs.inv_at (proto A B) κ c (mem_sx A B)); iexact HR
    isplitr; · iapply (Pairs.inv_at (proto A B) κ (prt c) (mem_vx A B)); iexact HR
    isplitl [Hb]; · rw [pts_eq]; iexact Hb
    isplitl [HyN]; · iexact HyN
    isplitl [HO]; · iexact HO
    isplitl [HtSX]; · iexact HtSX
    isplitr; · iexact HrSX
    isplitl [HtVX]; · iexact HtVX
    iexact HNVX
  iintro ⟨HcSX, HO⟩
  -- the two waits of the router halves
  iapply (Rounds.wp_wait_rest_token 𝒱₀ ER (proto A B).rd (c : Thread nD τ) none (κ := κ (cell c sr))
      (wpE_waitDma2_eq 𝒱₀ (c : Thread nD τ) none Set.univ) (Set.mem_univ _) () (O := O₃ c) (W := (insert (bar, ()) W)) (R := 0) (m := 0) (T := ∅)
      (by rw [Nat.zero_add, Pairs.expect_cell (proto A B) c (mem_sr A B)]; exact amt_sr.symm)) $$ [HcSR HO HatSR]
  · isplitr; · iapply (Pairs.inv_at (proto A B) κ c (mem_sr A B)); iexact HR
    isplitl [HcSR]; · iexact HcSR
    isplitl [HO]; · iexact HO
    isplitr; · iapply (Pairs.mayWait (above_O₃ c) c sr (by rw [lev_sr]; decide)); iexact Hlev
    iexact HatSR
  iintro ⟨HO, HatSR, -, Hpay⟩
  imod (Pairs.close_cell (proto A B) κ c (mem_sr A B)) $$ [HatSR] with HzSR
  · isplitr; · iexact HR
    iexact HatSR
  ihave Hr := (Entails.of_eq (((Pairs.rest_cell (proto A B) c (mem_sr A B)).trans (pay_sr A B c)).trans (pts_eq c _ _))) $$ Hpay
  iapply (Rounds.wp_wait_rest_token 𝒱₀ ER (proto A B).rd (c : Thread nD τ) none (κ := κ (cell c vr))
      (wpE_waitDma2_eq 𝒱₀ (c : Thread nD τ) none Set.univ) (Set.mem_univ _) () (O := O₃ c) (W := (insert (sr, ()) (insert (bar, ()) W))) (R := 0) (m := 0) (T := ∅)
      (by rw [Nat.zero_add, Pairs.expect_cell (proto A B) c (mem_vr A B)]; exact amt_vr.symm)) $$ [HcVR HO HatVR]
  · isplitr; · iapply (Pairs.inv_at (proto A B) κ c (mem_vr A B)); iexact HR
    isplitl [HcVR]; · iexact HcVR
    isplitl [HO]; · iexact HO
    isplitr; · iapply (Pairs.mayWait (above_O₃ c) c vr (le_of_eq lev_vr)); iexact Hlev
    iexact HatVR
  iintro ⟨HO, HatVR, -, Hpay⟩
  imod (Pairs.close_cell (proto A B) κ c (mem_vr A B)) $$ [HatVR] with HzVR
  · isplitr; · iexact HR
    iexact HatVR
  ihave Hq := (Entails.of_eq (((Pairs.rest_cell (proto A B) c (mem_vr A B)).trans (pay_vr A B c)).trans (pts_eq c _ _))) $$ Hpay
  -- the two halves are stored side by side, in the order of the devices
  by_cases hc : c.val < 8
  on_goal 1 =>
    rw [dif_pos ((isFirst c).2 hc), dif_neg (fun h => (isSecond c).1 h hc)]
    simp only [Prog.bind_op, Prog.bind_ret]
    have hj : joined A c = join (k0_pay2 (rstg A c)) (k0_pay3 (rstg A (prt c))) := if_pos hc
    iapply (wp_load 𝒱₀ (c : Thread nD τ) none Set.univ (m := rM) (Finset.subset_univ _)) $$ Hr; iintro Hr
    rw [read_r]
    iapply (wp_load 𝒱₀ (c : Thread nD τ) none Set.univ (m := jM) (Finset.subset_univ _)) $$ Hj; iintro Hj
    iapply (wp_store 𝒱₀ (c : Thread nD τ) none Set.univ (m := jM) (r := rL) (Mk := Finset.univ) (Finset.subset_univ _)) $$ Hj; iintro Hj
    iapply (wp_load 𝒱₀ (c : Thread nD τ) none Set.univ (m := qM) (Finset.subset_univ _)) $$ Hq; iintro Hq
    rw [read_q]
    iapply (wp_load 𝒱₀ (c : Thread nD τ) none Set.univ (m := jM) (Finset.subset_univ _)) $$ Hj; iintro Hj
    iapply (wp_store 𝒱₀ (c : Thread nD τ) none Set.univ (m := jM) (r := rR) (Mk := Finset.univ) (Finset.subset_univ _)) $$ Hj; iintro Hj
    rw [store_halves, ← hj]
  on_goal 2 =>
    rw [dif_neg (fun h => hc ((isFirst c).1 h)), dif_pos ((isSecond c).2 hc)]
    simp only [Prog.bind_op, Prog.bind_ret]
    have hj : joined A c = join (k0_pay4 (rstg A (prt c))) (k0_pay5 (rstg A c)) := if_neg hc
    iapply (wp_load 𝒱₀ (c : Thread nD τ) none Set.univ (m := qM) (Finset.subset_univ _)) $$ Hq; iintro Hq
    rw [read_q]
    iapply (wp_load 𝒱₀ (c : Thread nD τ) none Set.univ (m := jM) (Finset.subset_univ _)) $$ Hj; iintro Hj
    iapply (wp_store 𝒱₀ (c : Thread nD τ) none Set.univ (m := jM) (r := rL) (Mk := Finset.univ) (Finset.subset_univ _)) $$ Hj; iintro Hj
    iapply (wp_load 𝒱₀ (c : Thread nD τ) none Set.univ (m := rM) (Finset.subset_univ _)) $$ Hr; iintro Hr
    rw [read_r]
    iapply (wp_load 𝒱₀ (c : Thread nD τ) none Set.univ (m := jM) (Finset.subset_univ _)) $$ Hj; iintro Hj
    iapply (wp_store 𝒱₀ (c : Thread nD τ) none Set.univ (m := jM) (r := rR) (Mk := Finset.univ) (Finset.subset_univ _)) $$ Hj; iintro Hj
    rw [store_halves, ← hj]
  all_goals
    iapply (wp_load 𝒱₀ (c : Thread nD τ) none Set.univ (m := xM) (Finset.subset_univ _)) $$ Hx; iintro Hx
    rw [read_x]
    iapply (wp_load 𝒱₀ (c : Thread nD τ) none Set.univ (m := jM) (Finset.subset_univ _)) $$ Hj; iintro Hj
    rw [read_j]
    iapply (wp_load 𝒱₀ (c : Thread nD τ) none Set.univ (m := gM) (Finset.subset_univ _)) $$ Hg; iintro Hg
    iapply (wp_store 𝒱₀ (c : Thread nD τ) none Set.univ (m := gM) (r := r2) (Mk := Finset.univ) (Finset.subset_univ _)) $$ Hg; iintro Hg
    rw [write_g]
    -- the copy of the gates
    iapply (wp_copy_g A B κ c _ (dev4_eq c) nh (insert (vr, ()) (insert (sr, ()) (insert (bar, ()) W)))) $$ [Hg HhN HO HtSG HtVG]
    · isplitr; · iapply (Pairs.inv_at (proto A B) κ c (mem_sg A B)); iexact HR
      isplitr; · iapply (Pairs.inv_at (proto A B) κ (prt c) (mem_vg A B)); iexact HR
      isplitl [Hg]; · rw [pts_eq]; iexact Hg
      isplitl [HhN]; · iexact HhN
      isplitl [HO]; · iexact HO
      isplitl [HtSG]; · iexact HtSG
      isplitr; · iexact HrSG
      isplitl [HtVG]; · iexact HtVG
      iexact HNVG
    iintro ⟨HcSG, HO⟩
    -- the four waits left
    iapply (Rounds.wp_wait_rest_token 𝒱₀ ER (proto A B).rd (c : Thread nD τ) none (κ := κ (cell c sg))
        (wpE_waitDma2_eq 𝒱₀ (c : Thread nD τ) none Set.univ) (Set.mem_univ _) () (O := R₀ c) (W := (insert (vr, ()) (insert (sr, ()) (insert (bar, ()) W)))) (R := 0) (m := 0) (T := ∅)
        (by rw [Nat.zero_add, Pairs.expect_cell (proto A B) c (mem_sg A B)]; exact amt_sg.symm)) $$ [HcSG HO HatSG]
    · isplitr; · iapply (Pairs.inv_at (proto A B) κ c (mem_sg A B)); iexact HR
      isplitl [HcSG]; · iexact HcSG
      isplitl [HO]; · iexact HO
      isplitr; · iapply (Pairs.mayWait (above_R₀ c) c sg (by rw [lev_sg]; decide)); iexact Hlev
      iexact HatSG
    iintro ⟨HO, HatSG, -, Hpay⟩
    imod (Pairs.close_cell (proto A B) κ c (mem_sg A B)) $$ [HatSG] with HzSG
    · isplitr; · iexact HR
      iexact HatSG
    ihave Hg := (Entails.of_eq (((Pairs.rest_cell (proto A B) c (mem_sg A B)).trans (pay_sg A B c)).trans (pts_eq c _ _))) $$ Hpay
    iapply (Rounds.wp_wait_rest_token 𝒱₀ ER (proto A B).rd (c : Thread nD τ) none (κ := κ (cell c vg))
        (wpE_waitDma2_eq 𝒱₀ (c : Thread nD τ) none Set.univ) (Set.mem_univ _) () (O := R₀ c) (W := (insert (sg, ()) (insert (vr, ()) (insert (sr, ()) (insert (bar, ()) W))))) (R := 0) (m := 0) (T := ∅)
        (by rw [Nat.zero_add, Pairs.expect_cell (proto A B) c (mem_vg A B)]; exact amt_vg.symm)) $$ [HcVG HO HatVG]
    · isplitr; · iapply (Pairs.inv_at (proto A B) κ c (mem_vg A B)); iexact HR
      isplitl [HcVG]; · iexact HcVG
      isplitl [HO]; · iexact HO
      isplitr; · iapply (Pairs.mayWait (above_R₀ c) c vg (le_of_eq lev_vg)); iexact Hlev
      iexact HatVG
    iintro ⟨HO, HatVG, -, Hpay⟩
    imod (Pairs.close_cell (proto A B) κ c (mem_vg A B)) $$ [HatVG] with HzVG
    · isplitr; · iexact HR
      iexact HatVG
    ihave Hh := (Entails.of_eq (((Pairs.rest_cell (proto A B) c (mem_vg A B)).trans (pay_vg A B c)).trans (pts_eq c _ _))) $$ Hpay
    iapply (Rounds.wp_wait_rest_token 𝒱₀ ER (proto A B).rd (c : Thread nD τ) none (κ := κ (cell c sx))
        (wpE_waitDma2_eq 𝒱₀ (c : Thread nD τ) none Set.univ) (Set.mem_univ _) () (O := R₀ c) (W := (insert (vg, ()) (insert (sg, ()) (insert (vr, ()) (insert (sr, ()) (insert (bar, ()) W)))))) (R := 0) (m := 0) (T := ∅)
        (by rw [Nat.zero_add, Pairs.expect_cell (proto A B) c (mem_sx A B)]; exact amt_sx.symm)) $$ [HcSX HO HatSX]
    · isplitr; · iapply (Pairs.inv_at (proto A B) κ c (mem_sx A B)); iexact HR
      isplitl [HcSX]; · iexact HcSX
      isplitl [HO]; · iexact HO
      isplitr; · iapply (Pairs.mayWait (above_R₀ c) c sx (by rw [lev_sx]; decide)); iexact Hlev
      iexact HatSX
    iintro ⟨HO, HatSX, -, Hpay⟩
    imod (Pairs.close_cell (proto A B) κ c (mem_sx A B)) $$ [HatSX] with HzSX
    · isplitr; · iexact HR
      iexact HatSX
    ihave Hb := (Entails.of_eq (((Pairs.rest_cell (proto A B) c (mem_sx A B)).trans (pay_sx A B c)).trans (pts_eq c _ _))) $$ Hpay
    iapply (Rounds.wp_wait_rest_token 𝒱₀ ER (proto A B).rd (c : Thread nD τ) none (κ := κ (cell c vx))
        (wpE_waitDma2_eq 𝒱₀ (c : Thread nD τ) none Set.univ) (Set.mem_univ _) () (O := R₀ c) (W := (insert (sx, ()) (insert (vg, ()) (insert (sg, ()) (insert (vr, ()) (insert (sr, ()) (insert (bar, ()) W))))))) (R := 0) (m := 0) (T := ∅)
        (by rw [Nat.zero_add, Pairs.expect_cell (proto A B) c (mem_vx A B)]; exact amt_vx.symm)) $$ [HcVX HO HatVX]
    · isplitr; · iapply (Pairs.inv_at (proto A B) κ c (mem_vx A B)); iexact HR
      isplitl [HcVX]; · iexact HcVX
      isplitl [HO]; · iexact HO
      isplitr; · iapply (Pairs.mayWait (above_R₀ c) c vx (by rw [lev_vx]; decide)); iexact Hlev
      iexact HatVX
    iintro ⟨HO, HatVX, -, Hpay⟩
    imod (Pairs.close_cell (proto A B) κ c (mem_vx A B)) $$ [HatVX] with HzVX
    · isplitr; · iexact HR
      iexact HatVX
    ihave Hy := (Entails.of_eq (((Pairs.rest_cell (proto A B) c (mem_vx A B)).trans (pay_vx A B c)).trans (pts_eq c _ _))) $$ Hpay
    rw [wp_ret]; imodintro
    iapply Hk
    unfold bodyPost Φ₁ Dat.owesAt Pipeline.owesWithin
    rw [show (dats A B c).owed t₀.succ = R₀ c from rfl]
    isplitl [Hq Hj HzBAR HzSX HzVX HzSR HzVR HzSG HzVG]
    · isplitl [Hq]; · rw [pts_eq]; iexact Hq
      isplitl [Hj]; · rw [pts_eq]; iexact Hj
      isplitr [HzBAR]
      · isplitl [HzSX]; · iexact HzSX
        isplitl [HzVX]; · iexact HzVX
        isplitl [HzSR]; · iexact HzSR
        isplitl [HzVR]; · iexact HzVR
        isplitl [HzSG] <;> iassumption
      iexact HzBAR
    isplitl [HO]
    · iexists (insert (vx, ()) (insert (sx, ()) (insert (vg, ()) (insert (sg, ()) (insert (vr, ()) (insert (sr, ()) (insert (bar, ()) W)))))))
      isplitr; · ipureintro; exact fun _ _ => Or.inl trivial
      iexact HO
    isplitl [Hx]
    · iexists _; isplitr; · (ipureintro; rfl)
      iexact Hx
    isplitl [Hr]
    · iexists _; isplitr; · (ipureintro; rfl)
      iexact Hr
    isplitl [Hb]
    · iexists _; isplitr; · (ipureintro; rfl)
      iexact Hb
    isplitl [Hy]
    · iexists _; isplitr; · (ipureintro; rfl)
      iexact Hy
    isplitl [Hg]
    · iexists _; isplitr; · (ipureintro; rfl)
      iexact Hg
    iexists _; isplitr; · (ipureintro; rfl)
    iexact Hh

set_option maxRecDepth 4000 in
def bodyPre' (c : Dev nD) : sProp 𝕄 :=
  iprop((Φ₀ A B c ∗ others c) ∗ (dats A B c).owesAt () t₀.castSucc
    ∗ (∃ d, stg c cc0_stg0_0 ((dats A B c).before (0 : Fin 6) t₀ d))
    ∗ (∃ d, stg c cc0_stg1_0 ((dats A B c).before (1 : Fin 6) t₀ d))
    ∗ (∃ d, stg c cc0_stg2_0 ((dats A B c).before (2 : Fin 6) t₀ d))
    ∗ (∃ d, stg c cc0_stg3_0 ((dats A B c).before (3 : Fin 6) t₀ d))
    ∗ (∃ d, stg c cc0_stg4_0 ((dats A B c).before (4 : Fin 6) t₀ d))
    ∗ (∃ d, stg c cc0_stg5_0 ((dats A B c).before (5 : Fin 6) t₀ d)))

def bodyPost' (c : Dev nD) : sProp 𝕄 :=
  iprop((Φ₁ A c ∗ others c) ∗ (dats A B c).owesAt () t₀.succ ∗ stg c cc0_stg0_0 (xstg A c) ∗ stg c cc0_stg1_0 (rstg A c)
    ∗ stg c cc0_stg2_0 (xbAt A c) ∗ stg c cc0_stg3_0 (xbAt A (prt c)) ∗ stg c cc0_stg4_0 (gAt A c) ∗ stg c cc0_stg5_0 (gAt A (prt c)))

set_option maxRecDepth 4000 in
/-- The pipeline's body obligation on device `c`. -/
theorem body_obligation (c : Dev nD) : BodyObligation (dats (F := F) A B c) (defs₀ (F := F)) 𝒱₀ () Set.univ := fun t => by
  rw [fin_N t]
  rw [bigSep_W0, bigSep_W0]
  simp only [owns_whole_eq]
  show bodyPre' A B c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2) (fun _ => bodyPost' A B c)
  unfold bodyPre' Φ₀ start
  iintro ⟨⟨⟨⟨⟨%κ, Hg⟩, Hc, Hl⟩, Hq, Hj⟩, Hz⟩, Ho, Hx⟩
  iapply (sound_body A B κ c fun _ => bodyPost' A B c)
  unfold bodyPre
  isplitr [Hz]
  · isplitl [Hg Hc Hl Hq Hj]
    · isplitl [Hg]; · iexact Hg
      isplitl [Hc]; · iexact Hc
      isplitl [Hl]; · iexact Hl
      isplitl [Hq] <;> iassumption
    isplitl [Ho]; · iexact Ho
    iexact Hx
  · iintro H
    unfold bodyPost bodyPost'
    icases H with ⟨Hp, H⟩
    isplitl [Hp Hz]; · isplitl [Hp] <;> iassumption
    iexact H

end Body

/-! ## The kernel's entry and exit -/

theorem ownSemFacts : Pipeline.OwnSemFacts cfg0.spec osem := by decide

theorem share_eq (c : Dev nD) (w : Fin cfg0.W) : (dats A B c).share w = fullShare := by unfold Dat.share; split <;> rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (cell c sx) 0 ∗ semVal (cell c vx) 0 ∗ semVal (cell c sr) 0 ∗ semVal (cell c vr) 0 ∗ semVal (cell c sg) 0 ∗ semVal (cell c vg) 0) := by
  rw [Pipeline.ownSems0_eq_of_list c osem [0, 1, 2, 3, 4, 5] (by decide) (by decide)]; rfl

theorem bigSep_own (Φ : SemLoc sig → sProp 𝕄) : bigSep ({sx, vx, sr, vr, sg, vg} : Finset (SemLoc sig)) Φ = iprop(Φ sx ∗ Φ vx ∗ Φ sr ∗ Φ vr ∗ Φ sg ∗ Φ vg) :=
  bigSep_eq_bigSepL_of_eq [sx, vx, sr, vr, sg, vg] (by decide) (by decide) Φ

/-- The kernel's own counters go into their cells. -/
theorem opened (c : Dev nD) : iprop(kept A B c ∗ Pipeline.ownSems0 osem c ∗ levAts L lv) ⊢ |={Set.univ}=> start A B c := by
  have ho := fun κ => Pairs.open_cells (proto A B) κ c (T := {sx, vx, sr, vr, sg, vg}) (by show ({sx, vx, sr, vr, sg, vg} : Finset (SemLoc sig)) ⊆ {sx, vx, sr, vr, sg, vg, snd, rcv}; decide)
  simp only [bigSep_own] at ho
  unfold kept start ghost
  rw [ownSems0_eq]
  iintro ⟨⟨⟨%κ, #HR, Hb, Ho, Ht⟩, Hc⟩, Hs, Hl⟩
  imod (ho κ) $$ [Ho Hs] with Hi
  · isplitr; · iexact HR
    isplitl [Ho] <;> iassumption
  imodintro
  isplitl [Hb Hi Ht]
  · iexists κ
    isplitr; · iexact HR
    isplitl [Hb]; · iexact Hb
    isplitl [Hi] <;> iassumption
  isplitl [Hc] <;> iassumption

theorem rest_split (c : Dev nD) :
    (Pipeline.scopedRest (Ix := Unit) (Name := ℕ) (U := UU) (Lvl := ℕ) (Val := Elt F) spec0 c : sProp 𝕄)
      = iprop(((∃ f, pts c cc0_scratch0 f) ∗ (∃ f, pts c cc0_scratch1 f))
          ∗ Pipeline.scopedRestBut (Ix := Unit) (Name := ℕ) (U := UU) (Lvl := ℕ) (Val := Elt F) spec0 c [cc0_scratch0, cc0_scratch1]) := by
  simp only [pts_eq]
  exact Pipeline.scopedRest_split_of_list spec0 c [cc0_scratch0, cc0_scratch1] (by decide) (by decide)

theorem entry (c : Dev nD) (V : Valuation τ sig (Elt F)) :
    iprop(Pipeline.scopedRest spec0 c ∗ (∃ r, prngReg c r) ∗ StableHlo.held (c : Thread nD τ) ∅ V ∗ start A B c) ⊢ (dats A B c).Φ 0 := by
  rw [show (dats A B c).Φ 0 = iprop(Φ₀ A B c ∗ others c) from rfl, rest_split]
  unfold Φ₀ others
  iintro ⟨⟨⟨Hq, Hj⟩, Hr⟩, Hp, -, Hs⟩
  isplitl [Hs Hq Hj]
  · isplitl [Hs]; · iexact Hs
    isplitl [Hq] <;> iassumption
  isplitl [Hr] <;> iassumption

theorem exit (c : Dev nD) (V : Valuation τ sig (Elt F)) :
    (dats A B c).Φ (Fin.last cfg0.N) ⊢ iprop(Pipeline.scopedRest spec0 c ∗ (∃ r, prngReg c r) ∗ StableHlo.held (c : Thread nD τ) ∅ V
      ∗ Pipeline.ownSems0 osem c ∗ semVal (cell c bar) 0) := by
  rw [show (dats A B c).Φ (Fin.last cfg0.N) = iprop(Φ₁ A c ∗ others c) from rfl, rest_split, ownSems0_eq,
    show (StableHlo.held (c : Thread nD τ) ∅ V : sProp 𝕄) = iprop(emp) from bigSep_empty]
  unfold Φ₁ others
  iintro ⟨⟨Hq, Hj, Hz, Hb⟩, Hr, Hp⟩
  isplitl [Hq Hj Hr]
  · isplitr [Hr]
    · isplitl [Hq]; · iexists _; iexact Hq
      iexists _; iexact Hj
    · iexact Hr
  isplitl [Hp]; · iexact Hp
  isplitr; · iempintro
  isplitl [Hz] <;> iassumption

/-! ## The arrays after the kernel -/

theorem arrAt_x (c : Dev nD) : (dats A B c).arrAt (0 : Fin 6) cfg0.N = A c main_arg0 := (dats (F := F) A B c).arrAt_in (0 : Fin 6) rfl _
theorem arrAt_r (c : Dev nD) : (dats A B c).arrAt (1 : Fin 6) cfg0.N = A c main_arg1 := (dats (F := F) A B c).arrAt_in (1 : Fin 6) rfl _

theorem arrAt_b (c : Dev nD) : (dats A B c).arrAt (2 : Fin 6) cfg0.N = xbAt A c := by
  have h : (win0_2.blk (0 : Fin 1)).view.read (Elt F) ((dats A B c).arrAt (2 : Fin 6) cfg0.N) = xbAt A c := by
    rw [show cfg0.N = ((0 : Fin 1) : Fin cfg0.N).val + 1 from rfl, (dats A B c).arrAt_succ (2 : Fin 6) (0 : Fin 1)]
    rw [show (cfg0.win (2 : Fin 6)).flush (0 : Fin 1) = true from by decide, if_pos rfl]
    exact View.read_write_univ _ _
  exact (Memref.read_access_unit_zero (Elt F) main_v5_0 (off := fun a => win0_2.index (0 : Fin 1) a * main_v5_0.ty.shape.size a)
    (funext fun a => by fin_cases a <;> decide) (fun a => by fin_cases a <;> decide) _).symm.trans h

theorem arrAt_y (c : Dev nD) : (dats A B c).arrAt (3 : Fin 6) cfg0.N = xbAt A (prt c) := by
  have h : (win0_3.blk (0 : Fin 1)).view.read (Elt F) ((dats A B c).arrAt (3 : Fin 6) cfg0.N) = xbAt A (prt c) := by
    rw [show cfg0.N = ((0 : Fin 1) : Fin cfg0.N).val + 1 from rfl, (dats A B c).arrAt_succ (3 : Fin 6) (0 : Fin 1)]
    rw [show (cfg0.win (3 : Fin 6)).flush (0 : Fin 1) = true from by decide, if_pos rfl]
    exact View.read_write_univ _ _
  exact (Memref.read_access_unit_zero (Elt F) main_v5_1 (off := fun a => win0_3.index (0 : Fin 1) a * main_v5_1.ty.shape.size a)
    (funext fun a => by fin_cases a <;> decide) (fun a => by fin_cases a <;> decide) _).symm.trans h

theorem arrAt_g (c : Dev nD) : (dats A B c).arrAt (4 : Fin 6) cfg0.N = gAt A c := by
  have h : (win0_4.blk (0 : Fin 1)).view.read (Elt F) ((dats A B c).arrAt (4 : Fin 6) cfg0.N) = gAt A c := by
    rw [show cfg0.N = ((0 : Fin 1) : Fin cfg0.N).val + 1 from rfl, (dats A B c).arrAt_succ (4 : Fin 6) (0 : Fin 1)]
    rw [show (cfg0.win (4 : Fin 6)).flush (0 : Fin 1) = true from by decide, if_pos rfl]
    exact View.read_write_univ _ _
  exact (Memref.read_access_unit_zero (Elt F) main_v5_2 (off := fun a => win0_4.index (0 : Fin 1) a * main_v5_2.ty.shape.size a)
    (funext fun a => by fin_cases a <;> decide) (fun a => by fin_cases a <;> decide) _).symm.trans h

theorem arrAt_h (c : Dev nD) : (dats A B c).arrAt (5 : Fin 6) cfg0.N = gAt A (prt c) := by
  have h : (win0_5.blk (0 : Fin 1)).view.read (Elt F) ((dats A B c).arrAt (5 : Fin 6) cfg0.N) = gAt A (prt c) := by
    rw [show cfg0.N = ((0 : Fin 1) : Fin cfg0.N).val + 1 from rfl, (dats A B c).arrAt_succ (5 : Fin 6) (0 : Fin 1)]
    rw [show (cfg0.win (5 : Fin 6)).flush (0 : Fin 1) = true from by decide, if_pos rfl]
    exact View.read_write_univ _ _
  exact (Memref.read_access_unit_zero (Elt F) main_v5_3 (off := fun a => win0_5.index (0 : Fin 1) a * main_v5_3.ty.shape.size a)
    (funext fun a => by fin_cases a <;> decide) (fun a => by fin_cases a <;> decide) _).symm.trans h

theorem xstg_eq (c : Dev nD) : xstg A c = A c main_arg0 :=
  Memref.read_access_unit_zero (Elt F) main_arg0 (off := fun a => win0_0.index (0 : Fin 1) a * main_arg0.ty.shape.size a)
    (funext fun a => by fin_cases a <;> decide) (fun a => by fin_cases a <;> decide) _

theorem rstg_eq (c : Dev nD) : rstg A c = A c main_arg1 :=
  Memref.read_access_unit_zero (Elt F) main_arg1 (off := fun a => win0_1.index (0 : Fin 1) a * main_arg1.ty.shape.size a)
    (funext fun a => by fin_cases a <;> decide) (fun a => by fin_cases a <;> decide) _

end Cert.KernelIdeal.Exch

end
-- ==== Proof.CombineRegion.lean ====
/-
# The combining kernel within the whole program

Each device signals its partner across the mesh axis `x` that its landing buffer is free, waits for the same signal,
copies its second operand into the partner's landing buffer, waits for its own copy to be read out and for the partner's to
arrive, and writes the sum of its first operand and what arrived.
-/
module

public import proofs.«01_k».proof.Proof.Talk

@[expose] public section

noncomputable section

namespace Cert.KernelIdeal.Comb

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Pairs (Proto EP ER cell L lvOf)
open Cert.KernelIdeal.Talk

variable {F : FTy → Type} [FloatOps F]

local notation "𝕄" => MT nD τ sig Unit (Elt F) ℕ UU ℕ

variable (A B : Dev nD → Valuation τ sig (Elt F))

theorem dev1_eq (c : Dev nD) : (⟨k2_dev1 c, k2_dev1_lt c⟩ : Dev nD) = prt c := Fin.ext ((k2_dev1_eq c).trans (by revert c; decide))
theorem dev2_eq (c : Dev nD) : (⟨k2_dev2 c, k2_dev2_lt c⟩ : Dev nD) = prt c := Fin.ext ((k2_dev2_eq c).trans (by revert c; decide))

/-! ## The pipeline's proof data -/

theorem cfg2_N : cfg2.N = 1 := by decide
def t₀ : Fin cfg2.N := ⟨0, by rw [cfg2_N]; decide⟩
theorem fin_N (t : Fin cfg2.N) : t = t₀ := by
  obtain ⟨t, ht⟩ := t; have := cfg2_N; exact Fin.ext (by simp only [t₀]; omega)

/-- What the launch keeps for the combining kernel: the records, the barrier's position, the rights to open the kernel's
    own semaphores, the tokens of what it pays, the credits it awaits. -/
def kept (c : Dev nD) : sProp 𝕄 :=
  iprop((∃ κ, Pairs.records (proto A B) κ ∗ atPos ER (cell c bar2) 0 ∅ 0 ∗ (openTok ER (cell c snd) ∗ openTok ER (cell c rcv))
    ∗ dutyTok ER (cell (prt c) bar2) 0 () ∗ dutyTok ER (cell c snd) 0 () ∗ dutyTok ER (cell (prt c) rcv) 0 ()) ∗ cred (tallyAt (cell c bar2) () 1) ∗ cred (tallyAt (cell c rcv) () N))

/-- The same with the semaphores opened. -/
def ghost (κ : GSem nD τ sig → ℕ) (c : Dev nD) : sProp 𝕄 :=
  iprop(Pairs.records (proto A B) κ ∗ atPos ER (cell c bar2) 0 ∅ 0
    ∗ ((atPos ER (cell c snd) 0 ∅ 0 ∗ reached ER (cell c snd) 0) ∗ (atPos ER (cell c rcv) 0 ∅ 0 ∗ reached ER (cell c rcv) 0))
    ∗ dutyTok ER (cell (prt c) bar2) 0 () ∗ dutyTok ER (cell c snd) 0 () ∗ dutyTok ER (cell (prt c) rcv) 0 ())

/-- What device `c`'s body starts from. -/
def start (c : Dev nD) : sProp 𝕄 :=
  iprop((∃ κ, ghost A B κ c) ∗ cred (tallyAt (cell c bar2) () 1) ∗ cred (tallyAt (cell c rcv) () N) ∗ levAts L lv)

/-- What the kernel does not touch. -/
def others (c : Dev nD) : sProp 𝕄 :=
  iprop(Pipeline.scopedRestBut (Ix := Unit) (Name := ℕ) (U := UU) (Lvl := ℕ) (Val := Elt F) spec2 c [cc2_scratch0] ∗ ∃ r, prngReg c r)

def Φ₀ (c : Dev nD) : sProp 𝕄 := iprop(start A B c ∗ ∃ f, scrPts c f)
def Φ₁ (c : Dev nD) : sProp 𝕄 := iprop(scrPts c (landed B c) ∗ semVal (cell c snd) 0 ∗ semVal (cell c rcv) 0 ∗ semVal (cell c bar2) 0)

def dats (c : Dev nD) : Dat τ (Elt F) Unit ℕ UU ℕ cfg2 c where
  A w := B c (Pipeline.arrRef spec2 w)
  after w _ := match w with
    | ⟨0, _⟩ => astg B c
    | ⟨1, _⟩ => bstg B c
    | ⟨2, _⟩ => outAt B c
  Φ t := match t with
    | ⟨0, _⟩ => iprop(Φ₀ A B c ∗ others c)
    | ⟨_ + 1, _⟩ => iprop(Φ₁ B c ∗ others c)
  q _ := fullShare
  owed t := match t with
    | ⟨0, _⟩ => R₀ c
    | ⟨_ + 1, _⟩ => 0

/-! ## The body -/

section Body

variable (κ : GSem nD τ sig → ℕ)

abbrev r0 : Rect S1024x1024 := Rect.unit (s := S1024x1024) ![0, 0] S1024x1024.size inb_S1024x1024_S1024x1024_0_0

omit [FloatOps F] in
theorem hz : (![0, 0] : Fin 2 → Nat) = fun _ => 0 := funext fun a => by fin_cases a <;> rfl
omit [FloatOps F] in
theorem read_a (f : (cc2_stg0_0 : Ref sig .tc).ty.Contents (Elt F)) : (uM : Memref sig .tc .vmem S1024x1024 .bf16).view.readAt (Elt F) r0.toLoadRect f = f :=
  Memref.readAt_unit_zero (Elt F) cc2_stg0_0 hz _ f
omit [FloatOps F] in
theorem read_landed (c : Dev nD) : (lM : Memref sig .tc .vmem S1024x1024 .bf16).view.readAt (Elt F) r0.toLoadRect (landed B c) = landed B c :=
  Memref.readAt_unit_zero (Elt F) cc2_scratch0 hz _ _
omit [FloatOps F] in
theorem write_out (f w : (cc2_stg2_0 : Ref sig .tc).ty.Contents (Elt F)) :
    ((oM : Memref sig .tc .vmem S1024x1024 .f32).access r0 : View sig .tc _ _ _).write (Elt F) f w Finset.univ = w :=
  Memref.write_access_unit_zero_univ (Elt F) cc2_stg2_0 hz _ f w

/-- The copy to the partner: the operand and the partner's landing buffer go in, the credit of the send semaphore comes out. -/
theorem wp_copy (c n : Dev nD) (hn : n = prt c) {hsc : (lM : Memref sig (Dev.tc n : Thread nD τ).2.kind .vmem S1024x1024 .bf16).view.ref.isScScratch = false}
    {hsrc : (wM : Memref sig .tc .vmem S1024x1024 .bf16).view.WordExact} {hdst : (lM : Memref sig .tc .vmem S1024x1024 .bf16).view.WordExact}
    {hsem : DmaTarget.Typed .vmem (.dma recvS.sem) (.remote (Dev.tc n : Thread nD τ) (lM : Memref sig .tc .vmem S1024x1024 .bf16) (.dma sendS.sem) hsc)}
    {α : Type} {Q : α → sProp 𝕄} {k : PUnit → Prog (TpuEff nD τ sig (Elt F) Λ₀ .tc) α}
    (fn : Buf (Elt F) ((lM : Memref sig .tc .vmem S1024x1024 .bf16).view.loc (prt c : Thread nD τ))) (W : Waits sig Unit) :
    iprop(cellInv ER (proto A B).rd (κ (cell c snd)) (cell c snd) ∗ cellInv ER (proto A B).rd (κ (cell (prt c) rcv)) (cell (prt c) rcv)
        ∗ bPts B c ∗ scrPts (prt c) fn
        ∗ owes (c : Thread nD τ) (R₁ c) W
        ∗ dutyTok ER (cell c snd) 0 () ∗ reached ER (cell c snd) 0
        ∗ dutyTok ER (cell (prt c) rcv) 0 () ∗ reached ER (cell (prt c) rcv) 0)
      ⊢ iprop(((cred (tallyAt (cell c snd) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wM (.remote (Dev.tc n : Thread nD τ) lM (.dma sendS.sem) hsc) (.dma recvS.sem) hsrc hdst hsem) k) Q) := by
  subst hn
  unfold R₁ bPts scrPts
  exact Rounds.wp_send_pointsTo 𝒱₀ ER (proto A B).rd (c : Thread nD τ) none (κ₁ := κ (cell c snd)) (κ₂ := κ (cell (prt c) rcv))
    (r₁ := 0) (r₂ := 0) (d₁ := ()) (d₂ := ()) (fd := fn)
    (Pairs.mem_duties (proto A B) c (mem_snd A B)) (Pairs.mem_duties (proto A B) (prt c) (mem_rcv A B))
    () () N rfl (by rw [Pairs.amount_cell]; exact amt_snd) (by rw [Pairs.amount_cell]; exact amt_rcv) 0 (by rw [zero_add]) (W := W)
    (by rw [Pairs.payload_cell]; show _ ⊢ pay A B c snd; rw [pay_snd]; exact BI.Entails.refl _)
    (by rw [Pairs.payload_cell]; show _ ⊢ pay A B (prt c) rcv; rw [pay_rcv]; unfold scrPts; rw [landed_eq, landed, prt_prt])

def bodyPre (c : Dev nD) : sProp 𝕄 :=
  iprop((ghost A B κ c ∗ cred (tallyAt (cell c bar2) () 1) ∗ cred (tallyAt (cell c rcv) () N) ∗ levAts L lv ∗ ∃ f, scrPts c f)
    ∗ (dats A B c).owesAt () t₀.castSucc
    ∗ (∃ d, stg c cc2_stg0_0 ((dats A B c).before (0 : Fin 3) t₀ d))
    ∗ (∃ d, stg c cc2_stg1_0 ((dats A B c).before (1 : Fin 3) t₀ d))
    ∗ (∃ d, stg c cc2_stg2_0 ((dats A B c).before (2 : Fin 3) t₀ d)))

def bodyPost (c : Dev nD) : sProp 𝕄 :=
  iprop(Φ₁ B c ∗ (dats A B c).owesAt () t₀.succ ∗ stg c cc2_stg0_0 (astg B c) ∗ stg c cc2_stg1_0 (bstg B c) ∗ stg c cc2_stg2_0 (outAt B c))

set_option maxHeartbeats 800000 in
/-- The body, from `bodyPre` to `bodyPost`, one rule per effect in program order. -/
theorem sound_body (c : Dev nD) (Kt : PUnit → sProp 𝕄) :
    iprop(bodyPre A B κ c ∗ (bodyPost A B c -∗ Kt ⟨⟩))
      ⊢ wp frame (wpE (defs₀ (F := F)) 𝒱₀ c none) Set.univ
          (cc2_body (Memref.whole cc2_stg0_0) (Memref.isWhole_whole _) (Memref.whole cc2_stg1_0) (Memref.isWhole_whole _)
            (Memref.whole cc2_stg2_0) (Memref.isWhole_whole _) (Memref.whole cc2_scratch0) (Memref.isWhole_whole _) cc2_scratch1 cc2_scratch2) Kt := by
  simp only [cc2_body_eq_skeleton]; unfold cc2_body_skel
  simp only [k2_part1_eq_skeleton]; unfold k2_part1_skel
  simp only [semSignalWord, semWaitWord, Prog.lift, Prog.bind_op, Prog.bind_ret, Prog.pure_eq_ret, wp_deviceId]
  unfold bodyPre ghost
  iintro ⟨⟨⟨⟨#HR, HatB, ⟨⟨HatS, #HrS⟩, HatV, #HrV⟩, HtB, HtS, HtV⟩, HcB, HcV, #Hlev, ⟨%f0, Hscr⟩⟩,
    Ho, ⟨%d0, %g0, %hg0, Ha⟩, ⟨%d1, %g1, %hg1, Hb⟩, ⟨%d2, %g2, %hg2, Hout⟩⟩, Hk⟩
  have ha : g0 = astg B c := by rw [hg0]; unfold Dat.before; rw [if_pos (fetch2_0 t₀)]; rfl
  have hb : g1 = bstg B c := by rw [hg1]; unfold Dat.before; rw [if_pos (fetch2_1 t₀)]; rfl
  subst ha hb
  unfold Dat.owesAt Pipeline.owesWithin
  icases Ho with ⟨%W, %hW, HO⟩
  rw [show (dats A B c).owed t₀.castSucc = R₀ c from rfl]
  simp only [dev1_eq c]
  -- the signal to the partner's barrier hands over the landing buffer
  unfold R₀
  iapply (Rounds.wp_signal 𝒱₀ ER (proto A B).rd (c : Thread nD τ) none (dst := (prt c : Thread nD τ)) (κ := κ (cell (prt c) bar2))
      (d := ()) (Pairs.mem_duties (proto A B) (prt c) (mem_bar2 A B)) (amt_bar2.trans (by decide)) () (R₁ c) rfl)
    $$ [HO HtB Hscr]
  · isplitr; · iapply (Pairs.inv_at (proto A B) κ (prt c) (mem_bar2 A B)); iexact HR
    isplitl [HO]; · iexact HO
    isplitl [HtB]; · iexact HtB
    isplitl [Hscr]
    · rw [Pairs.payload_cell, show (proto A B).pay (prt c) bar2 = pay A B (prt c) bar2 from rfl, pay_bar2, prt_prt]
      isplitl [Hscr]; · iexists f0; iexact Hscr
      iexact HrV
    · iapply (Pairs.reached_at (proto A B) κ (prt c) (live_bar2 A B)); iexact HR
  iintro HO
  -- the wait on the own barrier brings the partner's landing buffer
  iapply (Rounds.wp_wait_rest_token 𝒱₀ ER (proto A B).rd (c : Thread nD τ) none (κ := κ (cell c bar2))
      (wpE_semWait_eq 𝒱₀ (c : Thread nD τ) none Set.univ) (Set.mem_univ _) () (O := R₁ c) (W := W) (R := 0) (m := 0) (T := ∅)
      (by rw [Pairs.expect_cell (proto A B) c (mem_bar2 A B)]; exact (amt_bar2.symm.trans rfl))) $$ [HcB HO HatB]
  · isplitr; · iapply (Pairs.inv_at (proto A B) κ c (mem_bar2 A B)); iexact HR
    isplitl [HcB]; · iexact HcB
    isplitl [HO]; · iexact HO
    isplitr; · iapply (Pairs.mayWait (above_R₁ c) c bar2 (le_of_eq lev_bar2)); iexact Hlev
    iexact HatB
  iintro ⟨HO, HatB, -, Hpay⟩
  ihave Hp := (Entails.of_eq ((Pairs.rest_cell (proto A B) c (mem_bar2 A B)).trans (pay_bar2 A B c))) $$ Hpay
  icases Hp with ⟨⟨%fn, HscrN⟩, #HrVN⟩
  -- the copy
  ihave Hb' := (Entails.of_eq (bPts_eq B c).symm) $$ Hb
  iapply (wp_copy A B κ c _ (dev2_eq c) fn (insert (bar2, ()) W)) $$ [Hb' HscrN HO HtS HtV]
  · isplitr; · iapply (Pairs.inv_at (proto A B) κ c (mem_snd A B)); iexact HR
    isplitr; · iapply (Pairs.inv_at (proto A B) κ (prt c) (mem_rcv A B)); iexact HR
    isplitl [Hb']; · iexact Hb'
    isplitl [HscrN]; · iexact HscrN
    isplitl [HO]; · iexact HO
    isplitl [HtS]; · iexact HtS
    isplitr; · iexact HrS
    isplitl [HtV]; · iexact HtV
    iexact HrVN
  iintro ⟨HcS, HO⟩
  -- the wait on the send semaphore brings the operand back
  iapply (Rounds.wp_wait_rest_token 𝒱₀ ER (proto A B).rd (c : Thread nD τ) none (κ := κ (cell c snd))
      (wpE_waitDma2_eq 𝒱₀ (c : Thread nD τ) none Set.univ) (Set.mem_univ _) () (O := 0) (W := insert (bar2, ()) W) (R := 0) (m := 0) (T := ∅)
      (by rw [Nat.zero_add, Pairs.expect_cell (proto A B) c (mem_snd A B)]; exact amt_snd.symm)) $$ [HcS HO HatS]
  · isplitr; · iapply (Pairs.inv_at (proto A B) κ c (mem_snd A B)); iexact HR
    isplitl [HcS]; · iexact HcS
    isplitl [HO]; · iexact HO
    isplitr; · rw [MayWait_zero]; iempintro
    iexact HatS
  iintro ⟨HO, HatS, -, Hpay⟩
  ihave Hb := (Entails.of_eq (((Pairs.rest_cell (proto A B) c (mem_snd A B)).trans (pay_snd A B c)).trans (bPts_eq B c))) $$ Hpay
  -- the wait on the receive semaphore brings the landing buffer with the partner's operand
  iapply (Rounds.wp_wait_rest_token 𝒱₀ ER (proto A B).rd (c : Thread nD τ) none (κ := κ (cell c rcv))
      (wpE_waitDma2_eq 𝒱₀ (c : Thread nD τ) none Set.univ) (Set.mem_univ _) () (O := 0)
      (W := insert (snd, ()) (insert (bar2, ()) W)) (R := 0) (m := 0) (T := ∅)
      (by rw [Nat.zero_add, Pairs.expect_cell (proto A B) c (mem_rcv A B)]; exact amt_rcv.symm)) $$ [HcV HO HatV]
  · isplitr; · iapply (Pairs.inv_at (proto A B) κ c (mem_rcv A B)); iexact HR
    isplitl [HcV]; · iexact HcV
    isplitl [HO]; · iexact HO
    isplitr; · rw [MayWait_zero]; iempintro
    iexact HatV
  iintro ⟨HO, HatV, -, Hpay⟩
  ihave Hscr := (Entails.of_eq ((Pairs.rest_cell (proto A B) c (mem_rcv A B)).trans (pay_rcv A B c))) $$ Hpay
  -- the three semaphores' rounds are over
  imod (Pairs.close_cell (proto A B) κ c (mem_snd A B)) $$ [HatS] with HzS
  · isplitr; · iexact HR
    iexact HatS
  imod (Pairs.close_cell (proto A B) κ c (mem_rcv A B)) $$ [HatV] with HzV
  · isplitr; · iexact HR
    iexact HatV
  imod (Pairs.close_cell (proto A B) κ c (mem_bar2 A B)) $$ [HatB] with HzB
  · isplitr; · iexact HR
    iexact HatB
  -- the loads and the store
  iapply (wp_load 𝒱₀ (c : Thread nD τ) none Set.univ (m := uM) (Finset.subset_univ _)) $$ Ha; iintro Ha
  rw [read_a]
  unfold scrPts
  iapply (wp_load 𝒱₀ (c : Thread nD τ) none Set.univ (m := lM) (by rw [scr_set]; exact Finset.subset_univ _)) $$ Hscr; iintro Hscr
  rw [read_landed]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats A B c).owed t₀.succ = 0 from rfl]
  isplitl [Hscr HzS HzV HzB]
  · isplitl [Hscr]; · unfold scrPts; iexact Hscr
    isplitl [HzS]; · iexact HzS
    isplitl [HzV] <;> iassumption
  isplitl [HO]
  · iexists (insert (rcv, ()) (insert (snd, ()) (insert (bar2, ()) W)))
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

set_option maxRecDepth 4000 in
def bodyPre' (c : Dev nD) : sProp 𝕄 :=
  iprop((Φ₀ A B c ∗ others c) ∗ (dats A B c).owesAt () t₀.castSucc
    ∗ (∃ d, stg c cc2_stg0_0 ((dats A B c).before (0 : Fin 3) t₀ d))
    ∗ (∃ d, stg c cc2_stg1_0 ((dats A B c).before (1 : Fin 3) t₀ d))
    ∗ (∃ d, stg c cc2_stg2_0 ((dats A B c).before (2 : Fin 3) t₀ d)))

def bodyPost' (c : Dev nD) : sProp 𝕄 :=
  iprop((Φ₁ B c ∗ others c) ∗ (dats A B c).owesAt () t₀.succ ∗ stg c cc2_stg0_0 (astg B c) ∗ stg c cc2_stg1_0 (bstg B c) ∗ stg c cc2_stg2_0 (outAt B c))

set_option maxRecDepth 4000 in
/-- The pipeline's body obligation on device `c`. -/
theorem body_obligation (c : Dev nD) : BodyObligation (dats (F := F) A B c) (defs₀ (F := F)) 𝒱₀ () Set.univ := fun t => by
  rw [fin_N t]
  rw [bigSep_W2, bigSep_W2]
  simp only [owns_whole_eq]
  show bodyPre' A B c ⊢ wp frame (wpE (defs₀ (F := F)) 𝒱₀ c none) Set.univ
    (cc2_body (Memref.whole cc2_stg0_0) (Memref.isWhole_whole _) (Memref.whole cc2_stg1_0) (Memref.isWhole_whole _) (Memref.whole cc2_stg2_0) (Memref.isWhole_whole _)
            (Memref.whole cc2_scratch0) (Memref.isWhole_whole _) cc2_scratch1 cc2_scratch2) (fun _ => bodyPost' A B c)
  unfold bodyPre' Φ₀ start
  iintro ⟨⟨⟨⟨⟨%κ, Hg⟩, Hc, Hc', Hl⟩, Hq⟩, Hz⟩, Ho, Hx⟩
  iapply (sound_body A B κ c fun _ => bodyPost' A B c)
  unfold bodyPre
  isplitr [Hz]
  · isplitl [Hg Hc Hc' Hl Hq]
    · isplitl [Hg]; · iexact Hg
      isplitl [Hc]; · iexact Hc
      isplitl [Hc']; · iexact Hc'
      isplitl [Hl] <;> iassumption
    isplitl [Ho]; · iexact Ho
    iexact Hx
  · iintro H
    unfold bodyPost bodyPost'
    icases H with ⟨Hp, H⟩
    isplitl [Hp Hz]; · isplitl [Hp] <;> iassumption
    iexact H

end Body

/-! ## The kernel's entry and exit -/

theorem ownSemFacts : Pipeline.OwnSemFacts cfg2.spec osem2 := by decide

theorem share_eq (c : Dev nD) (w : Fin cfg2.W) : (dats A B c).share w = fullShare := by unfold Dat.share; split <;> rfl

omit [FloatOps F] in
theorem ownSems0_eq (c : Dev nD) : (Pipeline.ownSems0 (Ix := Unit) (Name := ℕ) (U := UU) (Lvl := ℕ) (Val := Elt F) (τ := τ) osem2 c : sProp 𝕄)
    = iprop(semVal (cell c snd) 0 ∗ semVal (cell c rcv) 0) := by
  rw [Pipeline.ownSems0_eq_of_list c osem2 [0, 1] (by decide) (by decide)]; rfl

theorem bigSep_own (Φ : SemLoc sig → sProp 𝕄) : bigSep ({snd, rcv} : Finset (SemLoc sig)) Φ = iprop(Φ snd ∗ Φ rcv) :=
  bigSep_eq_bigSepL_of_eq [snd, rcv] (by decide) (by decide) Φ

/-- The kernel's own counters go into their cells. -/
theorem opened (c : Dev nD) : iprop(kept A B c ∗ Pipeline.ownSems0 osem2 c ∗ levAts L lv) ⊢ |={Set.univ}=> start A B c := by
  have ho := fun κ => Pairs.open_cells (proto A B) κ c (T := {snd, rcv}) (by show ({snd, rcv} : Finset (SemLoc sig)) ⊆ {sx, vx, sr, vr, sg, vg, snd, rcv}; decide)
  simp only [bigSep_own] at ho
  unfold kept start ghost
  rw [ownSems0_eq]
  iintro ⟨⟨⟨%κ, #HR, Hb, Ho, Ht⟩, Hc⟩, Hs, Hl⟩
  imod (ho κ) $$ [Ho Hs] with Hi
  · isplitr; · iexact HR
    isplitl [Ho] <;> iassumption
  imodintro
  icases Hc with ⟨Hc, Hc'⟩
  isplitl [Hb Hi Ht]
  · iexists κ
    isplitr; · iexact HR
    isplitl [Hb]; · iexact Hb
    isplitl [Hi] <;> iassumption
  isplitl [Hc]; · iexact Hc
  isplitl [Hc'] <;> iassumption

theorem rest_split (c : Dev nD) :
    (Pipeline.scopedRest (Ix := Unit) (Name := ℕ) (U := UU) (Lvl := ℕ) (Val := Elt F) spec2 c : sProp 𝕄)
      = iprop((∃ f, scrPts c f)
          ∗ Pipeline.scopedRestBut (Ix := Unit) (Name := ℕ) (U := UU) (Lvl := ℕ) (Val := Elt F) spec2 c [cc2_scratch0]) := by
  simp only [scrPts_eq]
  exact Pipeline.scopedRest_split_of_list spec2 c [cc2_scratch0] (by decide) (by decide)

theorem entry (c : Dev nD) (V : Valuation τ sig (Elt F)) :
    iprop(Pipeline.scopedRest spec2 c ∗ (∃ r, prngReg c r) ∗ StableHlo.held (c : Thread nD τ) ∅ V ∗ start A B c) ⊢ (dats A B c).Φ 0 := by
  rw [show (dats A B c).Φ 0 = iprop(Φ₀ A B c ∗ others c) from rfl, rest_split]
  unfold Φ₀ others
  iintro ⟨⟨Hq, Hr⟩, Hp, -, Hs⟩
  isplitl [Hs Hq]
  · isplitl [Hs] <;> iassumption
  isplitl [Hr] <;> iassumption

theorem exit (c : Dev nD) (V : Valuation τ sig (Elt F)) :
    (dats A B c).Φ (Fin.last cfg2.N) ⊢ iprop(Pipeline.scopedRest spec2 c ∗ (∃ r, prngReg c r) ∗ StableHlo.held (c : Thread nD τ) ∅ V
      ∗ Pipeline.ownSems0 osem2 c ∗ semVal (cell c bar2) 0) := by
  rw [show (dats A B c).Φ (Fin.last cfg2.N) = iprop(Φ₁ B c ∗ others c) from rfl, rest_split, ownSems0_eq,
    show (StableHlo.held (c : Thread nD τ) ∅ V : sProp 𝕄) = iprop(emp) from bigSep_empty]
  unfold Φ₁ others
  iintro ⟨⟨Hq, Hz, Hz', Hb⟩, Hr, Hp⟩
  isplitl [Hq Hr]
  · isplitl [Hq]; · iexists _; iexact Hq
    iexact Hr
  isplitl [Hp]; · iexact Hp
  isplitr; · iempintro
  isplitl [Hz Hz'] <;> first | iassumption | (isplitl [Hz] <;> iassumption)

/-! ## The arrays after the kernel -/

theorem arrAt_a (c : Dev nD) : (dats A B c).arrAt (0 : Fin 3) cfg2.N = B c main_v37_0 := (dats (F := F) A B c).arrAt_in (0 : Fin 3) rfl _
theorem arrAt_b (c : Dev nD) : (dats A B c).arrAt (1 : Fin 3) cfg2.N = B c main_v37_1 := (dats (F := F) A B c).arrAt_in (1 : Fin 3) rfl _

theorem arrAt_o (c : Dev nD) : (dats A B c).arrAt (2 : Fin 3) cfg2.N = outAt B c := by
  have h : (win2_2.blk (0 : Fin 1)).view.read (Elt F) ((dats A B c).arrAt (2 : Fin 3) cfg2.N) = outAt B c := by
    rw [show cfg2.N = ((0 : Fin 1) : Fin cfg2.N).val + 1 from rfl, (dats A B c).arrAt_succ (2 : Fin 3) (0 : Fin 1)]
    rw [show (cfg2.win (2 : Fin 3)).flush (0 : Fin 1) = true from by decide, if_pos rfl]
    exact View.read_write_univ _ _
  exact (Memref.read_access_unit_zero (Elt F) main_v38 (off := fun a => win2_2.index (0 : Fin 1) a * main_v38.ty.shape.size a)
    (funext fun a => by fin_cases a <;> decide) (fun a => by fin_cases a <;> decide) _).symm.trans h

theorem astg_eq (c : Dev nD) : astg B c = B c main_v37_0 :=
  Memref.read_access_unit_zero (Elt F) main_v37_0 (off := fun a => win2_0.index (0 : Fin 1) a * main_v37_0.ty.shape.size a)
    (funext fun a => by fin_cases a <;> decide) (fun a => by fin_cases a <;> decide) _

theorem bstg_eq (c : Dev nD) : bstg B c = B c main_v37_1 :=
  Memref.read_access_unit_zero (Elt F) main_v37_1 (off := fun a => win2_1.index (0 : Fin 1) a * main_v37_1.ty.shape.size a)
    (funext fun a => by fin_cases a <;> decide) (fun a => by fin_cases a <;> decide) _

end Cert.KernelIdeal.Comb

end
-- ==== Proof.MoeRun.lean ====
/-
  The expert kernel of `Cert.KernelIdeal` run on any staging buffers, in each of its four kinds of grid point.
-/
module

public import proofs.«01_k».proof.Proof.Pairs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 65536

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Cert.Pairs.UU nD τ sig) ℕ

/-! ## Which points take which branch -/

abbrev cond0 (i : grid1.Coords) : Prop := (Scalar.cmpi .ne (Scalar.extui (Scalar.cmpi .eq (BitVec.ofNat 32 (i 1).val) 0#32)) 0#32) = 1#1
abbrev cond2 (i : grid1.Coords) : Prop := (Scalar.cmpi .ne (Scalar.extui (Scalar.cmpi .ne (BitVec.ofNat 32 (i 1).val) 0#32)) 0#32) = 1#1
abbrev cond3 (i : grid1.Coords) : Prop := k1_cond4 i = 1#1
abbrev cond4 (i : grid1.Coords) : Prop := k1_cond5 i = 1#1
abbrev cond5 (i : grid1.Coords) : Prop := k1_cond6 i = 1#1

/-- The rows a device's own tokens take of an expert's weights, and the rows its partner's take. -/
def rowsOwn (x : Vec F S1x2048x1 .f32) : Vec F S1x1024x1 .f32 := fun j => x (((Rect.unit (s := S1x2048x1) ![0, 0, 0] S1x1024x1.size inb_S1x2048x1_S1x1024x1_0_0_0)).emb j)
def rowsOther (x : Vec F S1x2048x1 .f32) : Vec F S1x1024x1 .f32 := fun j => x (((Rect.unit (s := S1x2048x1) ![0, 1024, 0] S1x1024x1.size inb_S1x2048x1_S1x1024x1_0_1024_0)).emb j)

/-- Loading a whole buffer gives what it holds. -/
theorem load_full {s : Shape} {e : EltTy} {M : Memref sig .tc .vmem s e} (h : M.IsWhole) (X : s.Idx → Elt F e) {off : Fin s.rank → ℕ} (inb : ∀ a, off a + s.size a ≤ s.size a) :
    View.readAt (Elt F) M.view (Rect.unit off s.size inb).toLoadRect (h.unread X) = X :=
  (View.readAt_full M.view _ inb).trans (h.read_unread X)

theorem load_own {M : Memref sig .tc .vmem S1x2048x1 .f32} (h : M.IsWhole) (X : Vec F S1x2048x1 .f32) :
    View.readAt (Elt F) M.view (Rect.unit (s := S1x2048x1) ![0, 0, 0] S1x1024x1.size inb_S1x2048x1_S1x1024x1_0_0_0).toLoadRect (h.unread X) = rowsOwn X :=
  funext fun j => h.readAt_unread X _ j
theorem load_other {M : Memref sig .tc .vmem S1x2048x1 .f32} (h : M.IsWhole) (X : Vec F S1x2048x1 .f32) :
    View.readAt (Elt F) M.view (Rect.unit (s := S1x2048x1) ![0, 1024, 0] S1x1024x1.size inb_S1x2048x1_S1x1024x1_0_1024_0).toLoadRect (h.unread X) = rowsOther X :=
  funext fun j => h.readAt_unread X _ j

set_option maxHeartbeats 1000000 in
/-- At an expert's first block of features: its tokens are gathered and the partial sum is started. -/
theorem run_first (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x320x1 .i32) (harg4 : arg4.IsWhole) (arg5 : Memref sig .tc .vmem S1x1x320 .i32) (harg5 : arg5.IsWhole) (arg6 : Memref sig .tc .vmem S1x2048x1 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .bf16) (harg11 : arg11.IsWhole) (arg12 : Memref sig .tc .vmem S320x1024 .f32) (harg12 : arg12.IsWhole)
    (hc0 : cond0 i) (hc1 : ¬cond2 i) (hc2 : ¬cond3 i)
    (x0 : Vec F S1024x1024 .bf16) (x1 : Vec F S1024x1024 .bf16) (x2 : Vec F S1x320x1 .i32) (x5 : Vec F S1x1024x1024 .f32) (x6 : Vec F S1x1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare x5 ∗ owns (c : Thread nD τ) arg8 fullShare x6 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg7 fullShare x5 ∗ owns (c : Thread nD τ) arg8 fullShare x6 ∗ owns (c : Thread nD τ) arg11 fullShare (k1_pay1 x2 x0 x1) ∗ owns (c : Thread nD τ) arg12 fullShare (k1_pay3 (k1_pay1 x2 x0 x1) x5 x6)) -∗ K ⟨⟩))
      ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K := by
  simp only [cc1_body_eq_skeleton]; unfold cc1_body_skel
  unfold owns
  iintro ⟨⟨%f2, %hf2, H2⟩, ⟨%f3, %hf3, H3⟩, ⟨%f4, %hf4, H4⟩, ⟨%f7, %hf7, H7⟩, ⟨%f8, %hf8, H8⟩, ⟨%d11, %f11, -, H11⟩, ⟨%d12, %f12, -, H12⟩, Hk⟩
  obtain rfl := harg2.eq_unread hf2; obtain rfl := harg3.eq_unread hf3; obtain rfl := harg4.eq_unread hf4; obtain rfl := harg7.eq_unread hf7; obtain rfl := harg8.eq_unread hf8
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H7]
  · iexists _; isplitr; · ipureintro; exact harg7.read_unread _
    iexact H7
  isplitl [H8]
  · iexists _; isplitr; · ipureintro; exact harg8.read_unread _
    iexact H8
  isplitl [H11]
  · iexists _; isplitr
    swap; · iexact H11
    ipureintro
    refine (View.read_writes_full _ _ _ _ _).trans ?_
    rw [load_full harg2, load_full harg3, load_full harg4]
  iexists _; isplitr
  swap; · iexact H12
  ipureintro
  refine (View.read_writes_full _ _ _ _ _).trans ?_
  delta run_first.sl.v3 run_first.sl.H11_1
  rw [load_full harg7, load_full harg8, View.readCov_full, load_full harg2, load_full harg3, load_full harg4]

set_option maxHeartbeats 1000000 in
/-- At an expert's later block of features, not its last: the block's product is added to the partial sum. -/
theorem run_mid (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x320x1 .i32) (harg4 : arg4.IsWhole) (arg5 : Memref sig .tc .vmem S1x1x320 .i32) (harg5 : arg5.IsWhole) (arg6 : Memref sig .tc .vmem S1x2048x1 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .bf16) (harg11 : arg11.IsWhole) (arg12 : Memref sig .tc .vmem S320x1024 .f32) (harg12 : arg12.IsWhole)
    (hc0 : ¬cond0 i) (hc1 : cond2 i) (hc2 : ¬cond3 i)
    (x5 : Vec F S1x1024x1024 .f32) (x6 : Vec F S1x1024x1024 .f32) (xg : Vec F S320x1024 .bf16) (ya : Vec F S320x1024 .f32) (E : Set ℕ) (K : PUnit → sProp 𝕄) :
    iprop(owns (c : Thread nD τ) arg7 fullShare x5 ∗ owns (c : Thread nD τ) arg8 fullShare x6 ∗ owns (c : Thread nD τ) arg11 fullShare xg ∗ owns (c : Thread nD τ) arg12 fullShare ya
        ∗ (iprop(owns (c : Thread nD τ) arg7 fullShare x5 ∗ owns (c : Thread nD τ) arg8 fullShare x6 ∗ owns (c : Thread nD τ) arg11 fullShare xg ∗ owns (c : Thread nD τ) arg12 fullShare (k1_pay4 xg x5 x6 ya)) -∗ K ⟨⟩))
      ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K := by
  simp only [cc1_body_eq_skeleton]; unfold cc1_body_skel
  unfold owns
  iintro ⟨⟨%f7, %hf7, H7⟩, ⟨%f8, %hf8, H8⟩, ⟨%f11, %hf11, H11⟩, ⟨%f12, %hf12, H12⟩, Hk⟩
  obtain rfl := harg7.eq_unread hf7; obtain rfl := harg8.eq_unread hf8; obtain rfl := harg11.eq_unread hf11; obtain rfl := harg12.eq_unread hf12
  sl_exec (disch := first | sl_exact hc0 | sl_exact hc1 | sl_exact hc2)
  sl_step
  iapply Hk
  isplitl [H7]
  · iexists _; isplitr; · ipureintro; exact harg7.read_unread _
    iexact H7
  isplitl [H8]
  · iexists _; isplitr; · ipureintro; exact harg8.read_unread _
    iexact H8
  isplitl [H11]
  · iexists _; isplitr; · ipureintro; exact harg11.read_unread _
    iexact H11
  iexists _; isplitr
  swap; · iexact H12
  ipureintro
  refine (View.read_writes_full _ _ _ _ _).trans ?_
  rw [load_full harg7, load_full harg8, load_full harg11, load_full harg12]

set_option maxHeartbeats 1000000 in
/-- At the first expert's last block: the sum is finished and starts the two results. -/
theorem run_start (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x320x1 .i32) (harg4 : arg4.IsWhole) (arg5 : Memref sig .tc .vmem S1x1x320 .i32) (harg5 : arg5.IsWhole) (arg6 : Memref sig .tc .vmem S1x2048x1 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .bf16) (harg11 : arg11.IsWhole) (arg12 : Memref sig .tc .vmem S320x1024 .f32) (harg12 : arg12.IsWhole)
    (hc0 : ¬cond0 i) (hc1 : cond2 i) (hc2 : cond3 i) (hc3 : cond4 i) (hc4 : ¬cond5 i)
    (x3 : Vec F S1x1x320 .i32) (x4 : Vec F S1x2048x1 .f32) (x5 : Vec F S1x1024x1024 .f32) (x6 : Vec F S1x1024x1024 .f32) (xg : Vec F S320x1024 .bf16) (ya : Vec F S320x1024 .f32) (E : Set ℕ) (K : PUnit → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xg ∗ owns (c : Thread nD τ) arg12 fullShare ya
        ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay8 (k1_pay4 xg x5 x6 ya) x3 (rowsOwn x4)) ∗ owns (c : Thread nD τ) arg10 fullShare (k1_pay9 (k1_pay4 xg x5 x6 ya) x3 (rowsOther x4)) ∗ owns (c : Thread nD τ) arg11 fullShare xg ∗ owns (c : Thread nD τ) arg12 fullShare (k1_pay4 xg x5 x6 ya)) -∗ K ⟨⟩))
      ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K := by
  simp only [cc1_body_eq_skeleton]; unfold cc1_body_skel
  simp only [k1_part1_eq_skeleton]; unfold k1_part1_skel
  unfold owns
  iintro ⟨⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg5.eq_unread hf5; obtain rfl := harg6.eq_unread hf6; obtain rfl := harg7.eq_unread hf7; obtain rfl := harg8.eq_unread hf8; obtain rfl := harg11.eq_unread hf11; obtain rfl := harg12.eq_unread hf12
  sl_exec (disch := first | sl_exact hc0 | sl_exact hc1 | sl_exact hc2 | sl_exact hc3 | sl_exact hc4)
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_full _ _ _ _ _).trans ?_
    delta run_start.sl.v24 run_start.sl.H12_1
    rw [View.readCov_full, load_full harg7, load_full harg8, load_full harg11, load_full harg12, load_full harg5]
    exact congrArg (fun z => k1_pay8 (k1_pay4 xg x5 x6 ya) x3 z) (load_own harg6 x4)
  isplitl [H10]
  · iexists _; isplitr
    swap; · iexact H10
    ipureintro
    refine (View.read_writes_full _ _ _ _ _).trans ?_
    delta run_start.sl.v24 run_start.sl.H12_1
    rw [View.readCov_full, load_full harg7, load_full harg8, load_full harg11, load_full harg12, load_full harg5]
    exact congrArg (fun z => k1_pay9 (k1_pay4 xg x5 x6 ya) x3 z) (load_other harg6 x4)
  isplitl [H11]
  · iexists _; isplitr; · ipureintro; exact harg11.read_unread _
    iexact H11
  iexists _; isplitr
  swap; · iexact H12
  ipureintro
  refine (View.read_writes_full _ _ _ _ _).trans ?_
  rw [load_full harg7, load_full harg8, load_full harg11, load_full harg12]

set_option maxHeartbeats 1000000 in
/-- At a later expert's last block: the sum is finished and added to the two results. -/
theorem run_add (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x320x1 .i32) (harg4 : arg4.IsWhole) (arg5 : Memref sig .tc .vmem S1x1x320 .i32) (harg5 : arg5.IsWhole) (arg6 : Memref sig .tc .vmem S1x2048x1 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .bf16) (harg11 : arg11.IsWhole) (arg12 : Memref sig .tc .vmem S320x1024 .f32) (harg12 : arg12.IsWhole)
    (hc0 : ¬cond0 i) (hc1 : cond2 i) (hc2 : cond3 i) (hc3 : ¬cond4 i) (hc4 : cond5 i)
    (x3 : Vec F S1x1x320 .i32) (x4 : Vec F S1x2048x1 .f32) (x5 : Vec F S1x1024x1024 .f32) (x6 : Vec F S1x1024x1024 .f32) (o7 : Vec F S1024x1024 .bf16) (o8 : Vec F S1024x1024 .bf16) (xg : Vec F S320x1024 .bf16) (ya : Vec F S320x1024 .f32) (E : Set ℕ) (K : PUnit → sProp 𝕄) :
    iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o7 ∗ owns (c : Thread nD τ) arg10 fullShare o8 ∗ owns (c : Thread nD τ) arg11 fullShare xg ∗ owns (c : Thread nD τ) arg12 fullShare ya
        ∗ (iprop(owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k1_pay10 (k1_pay4 xg x5 x6 ya) x3 (rowsOwn x4) o7) ∗ owns (c : Thread nD τ) arg10 fullShare (k1_pay11 (k1_pay4 xg x5 x6 ya) x3 (rowsOther x4) o8) ∗ owns (c : Thread nD τ) arg11 fullShare xg ∗ owns (c : Thread nD τ) arg12 fullShare (k1_pay4 xg x5 x6 ya)) -∗ K ⟨⟩))
      ⊢ wp frame (wpE (defs₀ (F := F)) Variants.none c none) E (cc1_body i arg2 harg2 arg3 harg3 arg4 harg4 arg5 harg5 arg6 harg6 arg7 harg7 arg8 harg8 arg9 harg9 arg10 harg10 arg11 harg11 arg12 harg12) K := by
  simp only [cc1_body_eq_skeleton]; unfold cc1_body_skel
  simp only [k1_part1_eq_skeleton]; unfold k1_part1_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3 | sl_exact hc4)
  sl_step
  iapply Hk
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_full _ _ _ _ _).trans ?_
    delta run_add.sl.v24 run_add.sl.H12_1
    rw [View.readCov_full, load_full harg7, load_full harg8, load_full harg11, load_full harg12, load_full harg5, load_full harg9]
    exact congrArg (fun z => k1_pay10 (k1_pay4 xg x5 x6 ya) x3 z o7) (load_own harg6 x4)
  isplitl [H10]
  · iexists _; isplitr
    swap; · iexact H10
    ipureintro
    refine (View.read_writes_full _ _ _ _ _).trans ?_
    delta run_add.sl.v24 run_add.sl.H12_1
    rw [View.readCov_full, load_full harg7, load_full harg8, load_full harg11, load_full harg12, load_full harg5, load_full harg10]
    exact congrArg (fun z => k1_pay11 (k1_pay4 xg x5 x6 ya) x3 z o8) (load_other harg6 x4)
  isplitl [H11]
  · iexists _; isplitr; · ipureintro; exact harg11.read_unread _
    iexact H11
  iexists _; isplitr
  swap; · iexact H12
  ipureintro
  refine (View.read_writes_full _ _ _ _ _).trans ?_
  rw [load_full harg7, load_full harg8, load_full harg11, load_full harg12]

end Cert.KernelIdeal.Moe

end
-- ==== Proof.MoeRegion.lean ====
/-
  The expert kernel of `Cert.KernelIdeal` over its whole grid: what its buffers hold after each point, and the
  obligation of its body at every point. The arrays it starts from and the debts the device carries through it are
  parameters.
-/
module

public import proofs.«01_k».proof.Proof.MoeRun
public import Idealize.ShloMosaic.Lib.Pipeline.RegionArrays

@[expose] public section

set_option maxRecDepth 65536

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Cert.Pairs.UU nD τ sig) ℕ

/-! ## The branches in terms of the point's position -/

theorem cond0_iff : ∀ t : Fin grid1.N, cond0 (grid1.coords t) ↔ t.val % 4 = 0 := fun t => by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [cond0, e0, e1]
  word_cmp
theorem cond2_iff : ∀ t : Fin grid1.N, cond2 (grid1.coords t) ↔ 1 ≤ t.val % 4 := fun t => by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [cond2, e0, e1]
  word_cmp
theorem cond3_iff : ∀ t : Fin grid1.N, cond3 (grid1.coords t) ↔ t.val % 4 = 3 := fun t => by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [cond3, k1_cond4, e0, e1]
  word_cmp
theorem cond4_iff : ∀ t : Fin grid1.N, cond4 (grid1.coords t) ↔ t.val < 4 := fun t => by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [cond4, k1_cond5, e0, e1]
  word_cmp
theorem cond5_iff : ∀ t : Fin grid1.N, cond5 (grid1.coords t) ↔ 4 ≤ t.val := fun t => by
  have ht : t.val < 32 := Nat.lt_of_lt_of_eq t.isLt N_1
  have e0 : (grid1.coords t 0).val = t.val / 4 % 8 := Pipeline.Grid.coords_val t 0 (by decide) rfl
  have e1 : (grid1.coords t 1).val = t.val / 1 % 4 := Pipeline.Grid.coords_val t 1 (by decide) rfl
  simp only [cond5, k1_cond6, e0, e1]
  word_cmp
theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl
theorem live5 : ∀ t : Fin cfg1.N, cfg1.idle 5 (grid1.coords t) = false := fun _ => rfl
theorem live6 : ∀ t : Fin cfg1.N, cfg1.idle 6 (grid1.coords t) = false := fun _ => rfl
theorem idle7 : ∀ t : Fin cfg1.N, ¬t.val % 4 = 3 → cfg1.idle 7 (grid1.coords t) = true := by decide +kernel
theorem live7 : ∀ t : Fin cfg1.N, t.val % 4 = 3 → cfg1.idle 7 (grid1.coords t) = false := by decide +kernel
theorem unflushed7 : ∀ t : Fin cfg1.N, ¬t.val % 4 = 3 → (cfg1.win 7).flush t = false := by decide +kernel
theorem freshStep7 : ∀ t : Fin cfg1.N,
    (fun | 0 => true | n + 1 => (0x80000007 : ℕ).testBit n : ℕ → Bool) (t.val + 1)
      = ((cfg1.win 7).flush t || (cfg1.idle 7 (cfg1.grid.coords t) && (fun | 0 => true | n + 1 => (0x80000007 : ℕ).testBit n : ℕ → Bool) t.val)) := by decide +kernel
/-- From the second expert on, the output's buffer holds what the point before left. -/
theorem stale7 : ∀ t : Fin cfg1.N, 4 ≤ t.val → cfg1.fresh 7 t.val = false := by
  intro t; rw [Pipeline.Cfg.fresh_tab cfg1 7 (fun | 0 => true | n + 1 => (0x80000007 : ℕ).testBit n) rfl freshStep7 t.val (Nat.le_of_lt t.isLt)]
  revert t; decide +kernel
theorem idle8 : ∀ t : Fin cfg1.N, ¬t.val % 4 = 3 → cfg1.idle 8 (grid1.coords t) = true := by decide +kernel
theorem live8 : ∀ t : Fin cfg1.N, t.val % 4 = 3 → cfg1.idle 8 (grid1.coords t) = false := by decide +kernel
theorem unflushed8 : ∀ t : Fin cfg1.N, ¬t.val % 4 = 3 → (cfg1.win 8).flush t = false := by decide +kernel
theorem freshStep8 : ∀ t : Fin cfg1.N,
    (fun | 0 => true | n + 1 => (0x80000007 : ℕ).testBit n : ℕ → Bool) (t.val + 1)
      = ((cfg1.win 8).flush t || (cfg1.idle 8 (cfg1.grid.coords t) && (fun | 0 => true | n + 1 => (0x80000007 : ℕ).testBit n : ℕ → Bool) t.val)) := by decide +kernel
/-- From the second expert on, the output's buffer holds what the point before left. -/
theorem stale8 : ∀ t : Fin cfg1.N, 4 ≤ t.val → cfg1.fresh 8 t.val = false := by
  intro t; rw [Pipeline.Cfg.fresh_tab cfg1 8 (fun | 0 => true | n + 1 => (0x80000007 : ℕ).testBit n) rfl freshStep8 t.val (Nat.le_of_lt t.isLt)]
  revert t; decide +kernel

/-! ## What the buffers hold after each point -/

variable (W : Dev nD → Valuation τ sig (Elt F)) (D : Dev nD → CellTallies nD τ sig Unit)

/-- Window `w`'s block at point `t` of its array at the kernel's entry. -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- The two outputs' buffers, the gathered tokens and the partial sum. -/
structure State (F : FTy → Type) where
  own : Vec F S1024x1024 .bf16
  other : Vec F S1024x1024 .bf16
  gathered : Vec F S320x1024 .bf16
  acc : Vec F S320x1024 .f32

/-- The gathered tokens after point `t`. -/
def gatheredAt (c : Dev nD) (t : Fin cfg1.N) (s : State F) : Vec F S320x1024 .bf16 :=
  if t.val % 4 = 0 then k1_pay1 (iblk W c 2 t) (iblk W c 0 t) (iblk W c 1 t) else s.gathered
/-- The partial sum after point `t`. -/
def accAt (c : Dev nD) (t : Fin cfg1.N) (s : State F) : Vec F S320x1024 .f32 :=
  if t.val % 4 = 0 then k1_pay3 (k1_pay1 (iblk W c 2 t) (iblk W c 0 t) (iblk W c 1 t)) (iblk W c 5 t) (iblk W c 6 t)
  else k1_pay4 s.gathered (iblk W c 5 t) (iblk W c 6 t) s.acc
/-- One point. -/
def step (c : Dev nD) (t : Fin cfg1.N) (s : State F) : State F where
  gathered := gatheredAt W c t s
  acc := accAt W c t s
  own := if t.val % 4 = 3 then
      (if t.val < 4 then k1_pay8 (accAt W c t s) (iblk W c 3 t) (rowsOwn (iblk W c 4 t))
       else k1_pay10 (accAt W c t s) (iblk W c 3 t) (rowsOwn (iblk W c 4 t)) s.own)
    else s.own
  other := if t.val % 4 = 3 then
      (if t.val < 4 then k1_pay9 (accAt W c t s) (iblk W c 3 t) (rowsOther (iblk W c 4 t))
       else k1_pay11 (accAt W c t s) (iblk W c 3 t) (rowsOther (iblk W c 4 t)) s.other)
    else s.other

/-- The state before position `n`; what it is before the first does not matter. -/
def state (c : Dev nD) : ℕ → State F
  | 0 => ⟨fun _ => FloatOps.ofBits .bf16 0, fun _ => FloatOps.ofBits .bf16 0, fun _ => FloatOps.ofBits .bf16 0, fun _ => FloatOps.ofBits .f32 0⟩
  | n + 1 => if h : n < cfg1.N then step W c ⟨n, h⟩ (state c n) else state c n

theorem state_succ (c : Dev nD) (t : Fin cfg1.N) : state W c (t.val + 1) = step W c t (state W c t.val) := by
  show (if h : t.val < cfg1.N then step W c ⟨t.val, h⟩ (state W c t.val) else state W c t.val) = _
  rw [dif_pos t.isLt]

/-! ## The proof data -/

/-- The scoped buffers the kernel does not touch. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- Between points: the kernel's two scratch buffers at their contents, the untouched buffers and the generator. -/
def Phi (c : Dev nD) : ℕ → sProp 𝕄
  | 0 => iprop(others c ∗ (∃ d, owns (c : Thread nD τ) (Memref.whole cc1_scratch0 : Memref sig .tc .vmem S320x1024 .bf16) fullShare d) ∗ (∃ d, owns (c : Thread nD τ) (Memref.whole cc1_scratch1 : Memref sig .tc .vmem S320x1024 .f32) fullShare d) ∗ (∃ r, prngReg c r))
  | n + 1 => iprop(others c ∗ owns (c : Thread nD τ) (Memref.whole cc1_scratch0 : Memref sig .tc .vmem S320x1024 .bf16) fullShare (state W c (n + 1)).gathered ∗ owns (c : Thread nD τ) (Memref.whole cc1_scratch1 : Memref sig .tc .vmem S320x1024 .f32) fullShare (state W c (n + 1)).acc ∗ (∃ r, prngReg c r))

theorem Phi_zero (c : Dev nD) : Phi W c 0 = iprop(others c ∗ (∃ d, owns (c : Thread nD τ) (Memref.whole cc1_scratch0 : Memref sig .tc .vmem S320x1024 .bf16) fullShare d) ∗ (∃ d, owns (c : Thread nD τ) (Memref.whole cc1_scratch1 : Memref sig .tc .vmem S320x1024 .f32) fullShare d) ∗ (∃ r, prngReg c r)) := rfl

theorem Phi_pos (c : Dev nD) (n : ℕ) (h : n ≠ 0) : Phi W c n = iprop(others c ∗ owns (c : Thread nD τ) (Memref.whole cc1_scratch0 : Memref sig .tc .vmem S320x1024 .bf16) fullShare (state W c n).gathered ∗ owns (c : Thread nD τ) (Memref.whole cc1_scratch1 : Memref sig .tc .vmem S320x1024 .f32) fullShare (state W c n).acc ∗ (∃ r, prngReg c r)) := by
  cases n with
  | zero => exact absurd rfl h
  | succ n => rfl

theorem Phi_any (c : Dev nD) (n : ℕ) : Phi W c n ⊢ Phi W c 0 := by
  cases n with
  | zero => exact .rfl
  | succ n =>
    unfold Phi
    iintro ⟨Ho, H0, H1, Hg⟩
    isplitl [Ho]; · iexact Ho
    isplitl [H0]; · iexists _; iexact H0
    isplitl [H1]; · iexists _; iexact H1
    iexact Hg

/-- The scoped buffers and the generator register are what is held before the first point. -/
theorem scoped_eq (c : Dev nD) : (iprop(Pipeline.scopedRest spec1 c ∗ (∃ r, prngReg c r)) : sProp 𝕄) ⊣⊢ Phi W c 0 := by
  rw [scopedRest1_eq]; unfold Phi others; simp only [owns_whole]
  constructor
  · iintro ⟨⟨H0, H1, H2, H3, H4, H5, H6, H7, H8, H9, H10, H11, H12, H13⟩, Hg⟩
    isplitl [H0 H1 H2 H3 H4 H5 H6 H7 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H10]; · iexact H10
      isplitl [H11]; · iexact H11
      isplitl [H12]; · iexact H12
      iexact H13
    isplitl [H8]; · iexact H8
    isplitl [H9]; · iexact H9
    iexact Hg
  · iintro ⟨⟨H0, H1, H2, H3, H4, H5, H6, H7, H10, H11, H12, H13⟩, H8, H9, Hg⟩
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg

def dat (c : Dev nD) : Dat τ (Elt F) Unit ℕ (Cert.Pairs.UU nD τ sig) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => (state W c (t.val + 1)).own
    | ⟨8, _⟩ => (state W c (t.val + 1)).other
  Φ t := Phi W c t.val
  q _ := fullShare
  owed _ := D c

theorem after0 (c : Dev nD) (t : Fin cfg1.N) : (dat W D c).after 0 t = iblk W c 0 t := by dsimp only [dat]
theorem after1 (c : Dev nD) (t : Fin cfg1.N) : (dat W D c).after 1 t = iblk W c 1 t := by dsimp only [dat]
theorem after2 (c : Dev nD) (t : Fin cfg1.N) : (dat W D c).after 2 t = iblk W c 2 t := by dsimp only [dat]
theorem after3 (c : Dev nD) (t : Fin cfg1.N) : (dat W D c).after 3 t = iblk W c 3 t := by dsimp only [dat]
theorem after4 (c : Dev nD) (t : Fin cfg1.N) : (dat W D c).after 4 t = iblk W c 4 t := by dsimp only [dat]
theorem after5 (c : Dev nD) (t : Fin cfg1.N) : (dat W D c).after 5 t = iblk W c 5 t := by dsimp only [dat]
theorem after6 (c : Dev nD) (t : Fin cfg1.N) : (dat W D c).after 6 t = iblk W c 6 t := by dsimp only [dat]
theorem after7 (c : Dev nD) (t : Fin cfg1.N) : (dat W D c).after 7 t = (state W c (t.val + 1)).own := by dsimp only [dat]
theorem after8 (c : Dev nD) (t : Fin cfg1.N) : (dat W D c).after 8 t = (state W c (t.val + 1)).other := by dsimp only [dat]
theorem before0 (c : Dev nD) (t : Fin cfg1.N) (d) : (dat W D c).before 0 t d = iblk W c 0 t :=
  ((dat W D c).before_in_eq_fetched 0 rfl (fun _ => rfl) (fun _ _ _ => rfl) (fun t => by rw [after0]; rfl) t d).trans rfl
theorem before1 (c : Dev nD) (t : Fin cfg1.N) (d) : (dat W D c).before 1 t d = iblk W c 1 t :=
  ((dat W D c).before_in_eq_fetched 1 rfl (fun _ => rfl) (fun _ _ _ => rfl) (fun t => by rw [after1]; rfl) t d).trans rfl
theorem before2 (c : Dev nD) (t : Fin cfg1.N) (d) : (dat W D c).before 2 t d = iblk W c 2 t :=
  ((dat W D c).before_in_eq_fetched 2 rfl (fun _ => rfl) (fun _ _ _ => rfl) (fun t => by rw [after2]; rfl) t d).trans rfl
theorem before3 (c : Dev nD) (t : Fin cfg1.N) (d) : (dat W D c).before 3 t d = iblk W c 3 t :=
  ((dat W D c).before_in_eq_fetched 3 rfl (fun _ => rfl) (fun _ _ _ => rfl) (fun t => by rw [after3]; rfl) t d).trans rfl
theorem before4 (c : Dev nD) (t : Fin cfg1.N) (d) : (dat W D c).before 4 t d = iblk W c 4 t :=
  ((dat W D c).before_in_eq_fetched 4 rfl (fun _ => rfl) (fun _ _ _ => rfl) (fun t => by rw [after4]; rfl) t d).trans rfl
theorem before5 (c : Dev nD) (t : Fin cfg1.N) (d) : (dat W D c).before 5 t d = iblk W c 5 t :=
  ((dat W D c).before_in_eq_fetched 5 rfl (fun _ => rfl) (fun _ _ _ => rfl) (fun t => by rw [after5]; rfl) t d).trans rfl
theorem before6 (c : Dev nD) (t : Fin cfg1.N) (d) : (dat W D c).before 6 t d = iblk W c 6 t :=
  ((dat W D c).before_in_eq_fetched 6 rfl (fun _ => rfl) (fun _ _ _ => rfl) (fun t => by rw [after6]; rfl) t d).trans rfl
theorem carry7 (c : Dev nD) (t : Fin cfg1.N) (h : t.val ≠ 0) (hi : cfg1.idle 7 (grid1.coords t) = true) (hf : cfg1.fresh 7 t.val = false) :
    (dat W D c).after 7 t = (dat W D c).after 7 ⟨t.val - 1, by omega⟩ := by
  have h3 : ¬t.val % 4 = 3 := fun h => by rw [live7 t h] at hi; exact absurd hi Bool.false_ne_true
  rw [after7, after7, state_succ]
  show (if t.val % 4 = 3 then _ else (state W c t.val).own) = _
  rw [if_neg h3]; show _ = (state W c (t.val - 1 + 1)).own; rw [Nat.sub_add_cancel (by omega)]
/-- From the second expert on, the output's buffer is found as the point before left it. -/
theorem before7 (c : Dev nD) (t : Fin cfg1.N) (h : 4 ≤ t.val) (d) : (dat W D c).before 7 t d = (state W c t.val).own := by
  rw [Dat.before_out_traj _ 7 rfl (fun _ _ => rfl) (carry7 W D c) t.val t rfl d, if_neg (by rw [stale7 t h]; exact Bool.false_ne_true), after7]
  show (state W c (t.val - 1 + 1)).own = _; rw [Nat.sub_add_cancel (by omega)]
theorem carry8 (c : Dev nD) (t : Fin cfg1.N) (h : t.val ≠ 0) (hi : cfg1.idle 8 (grid1.coords t) = true) (hf : cfg1.fresh 8 t.val = false) :
    (dat W D c).after 8 t = (dat W D c).after 8 ⟨t.val - 1, by omega⟩ := by
  have h3 : ¬t.val % 4 = 3 := fun h => by rw [live8 t h] at hi; exact absurd hi Bool.false_ne_true
  rw [after8, after8, state_succ]
  show (if t.val % 4 = 3 then _ else (state W c t.val).other) = _
  rw [if_neg h3]; show _ = (state W c (t.val - 1 + 1)).other; rw [Nat.sub_add_cancel (by omega)]
/-- From the second expert on, the output's buffer is found as the point before left it. -/
theorem before8 (c : Dev nD) (t : Fin cfg1.N) (h : 4 ≤ t.val) (d) : (dat W D c).before 8 t d = (state W c t.val).other := by
  rw [Dat.before_out_traj _ 8 rfl (fun _ _ => rfl) (carry8 W D c) t.val t rfl d, if_neg (by rw [stale8 t h]; exact Bool.false_ne_true), after8]
  show (state W c (t.val - 1 + 1)).other = _; rw [Nat.sub_add_cancel (by omega)]

/-- What the body is called with at point `t`, -/
def bodyPre (c : Dev nD) (t : Fin cfg1.N) : sProp 𝕄 :=
  iprop((dat W D c).Φ t.castSucc ∗ (dat W D c).owesAt () t.castSucc
    ∗ (∃ d, owns (c : Thread nD τ) (st1_0 t) fullShare ((dat W D c).before 0 t d))
    ∗ (∃ d, owns (c : Thread nD τ) (st1_1 t) fullShare ((dat W D c).before 1 t d))
    ∗ (∃ d, owns (c : Thread nD τ) (st1_2 t) fullShare ((dat W D c).before 2 t d))
    ∗ (∃ d, owns (c : Thread nD τ) (st1_3 t) fullShare ((dat W D c).before 3 t d))
    ∗ (∃ d, owns (c : Thread nD τ) (st1_4 t) fullShare ((dat W D c).before 4 t d))
    ∗ (∃ d, owns (c : Thread nD τ) (st1_5 t) fullShare ((dat W D c).before 5 t d))
    ∗ (∃ d, owns (c : Thread nD τ) (st1_6 t) fullShare ((dat W D c).before 6 t d))
    ∗ (∃ d, owns (c : Thread nD τ) (st1_7 t) fullShare ((dat W D c).before 7 t d))
    ∗ (∃ d, owns (c : Thread nD τ) (st1_8 t) fullShare ((dat W D c).before 8 t d)))

/-- and what it returns. -/
def bodyPost (c : Dev nD) (t : Fin cfg1.N) : sProp 𝕄 :=
  iprop((dat W D c).Φ t.succ ∗ (dat W D c).owesAt () t.succ
    ∗ (dat W D c).leavesExact 0 t
    ∗ (dat W D c).leavesExact 1 t
    ∗ (dat W D c).leavesExact 2 t
    ∗ (dat W D c).leavesExact 3 t
    ∗ (dat W D c).leavesExact 4 t
    ∗ (dat W D c).leavesExact 5 t
    ∗ (dat W D c).leavesExact 6 t
    ∗ (dat W D c).leavesExact 7 t
    ∗ (dat W D c).leavesExact 8 t)

theorem leaves0 (c : Dev nD) (t : Fin cfg1.N) : (dat W D c).leavesExact 0 t = owns (c : Thread nD τ) (st1_0 t) fullShare ((dat W D c).after 0 t) := by
  unfold Dat.leavesExact; rw [live0 t]
theorem leaves1 (c : Dev nD) (t : Fin cfg1.N) : (dat W D c).leavesExact 1 t = owns (c : Thread nD τ) (st1_1 t) fullShare ((dat W D c).after 1 t) := by
  unfold Dat.leavesExact; rw [live1 t]
theorem leaves2 (c : Dev nD) (t : Fin cfg1.N) : (dat W D c).leavesExact 2 t = owns (c : Thread nD τ) (st1_2 t) fullShare ((dat W D c).after 2 t) := by
  unfold Dat.leavesExact; rw [live2 t]
theorem leaves3 (c : Dev nD) (t : Fin cfg1.N) : (dat W D c).leavesExact 3 t = owns (c : Thread nD τ) (st1_3 t) fullShare ((dat W D c).after 3 t) := by
  unfold Dat.leavesExact; rw [live3 t]
theorem leaves4 (c : Dev nD) (t : Fin cfg1.N) : (dat W D c).leavesExact 4 t = owns (c : Thread nD τ) (st1_4 t) fullShare ((dat W D c).after 4 t) := by
  unfold Dat.leavesExact; rw [live4 t]
theorem leaves5 (c : Dev nD) (t : Fin cfg1.N) : (dat W D c).leavesExact 5 t = owns (c : Thread nD τ) (st1_5 t) fullShare ((dat W D c).after 5 t) := by
  unfold Dat.leavesExact; rw [live5 t]
theorem leaves6 (c : Dev nD) (t : Fin cfg1.N) : (dat W D c).leavesExact 6 t = owns (c : Thread nD τ) (st1_6 t) fullShare ((dat W D c).after 6 t) := by
  unfold Dat.leavesExact; rw [live6 t]
theorem leaves7 (c : Dev nD) (t : Fin cfg1.N) (h3 : t.val % 4 = 3) : (dat W D c).leavesExact 7 t = owns (c : Thread nD τ) (st1_7 t) fullShare ((dat W D c).after 7 t) := by
  unfold Dat.leavesExact; rw [live7 t h3]
theorem leaves8 (c : Dev nD) (t : Fin cfg1.N) (h3 : t.val % 4 = 3) : (dat W D c).leavesExact 8 t = owns (c : Thread nD τ) (st1_8 t) fullShare ((dat W D c).after 8 t) := by
  unfold Dat.leavesExact; rw [live8 t h3]

set_option maxHeartbeats 4000000 in
/-- The body at any point. -/
theorem sound_body (c : Dev nD) (t : Fin cfg1.N) :
    bodyPre W D c t ⊢ wp frame (wpE (defs₀ (F := F)) Variants.none c none) Set.univ (bodyAt1 t) (fun _ => bodyPost W D c t) := by
  unfold bodyPre bodyPost bodyAt1
  simp only [before0, before1, before2, before3, before4, before5, before6]
  rw [leaves0, leaves1, leaves2, leaves3, leaves4, leaves5, leaves6, after0, after1, after2, after3, after4, after5, after6]
  rw [show (dat W D c).owesAt () t.succ = (dat W D c).owesAt () t.castSucc from rfl]
  rw [show (dat W D c).Φ t.succ = Phi W c (t.val + 1) from rfl, show (dat W D c).Φ t.castSucc = Phi W c t.val from rfl, Phi_pos W c (t.val + 1) (Nat.succ_ne_zero _), state_succ]
  have hN : t.val < 32 := lt_of_lt_of_eq t.isLt N_1
  by_cases h0 : t.val % 4 = 0
  · have h3 : ¬t.val % 4 = 3 := by omega
    rw [Dat.leavesExact_idle _ 7 t (idle7 t h3) (unflushed7 t h3), Dat.leavesExact_idle _ 8 t (idle8 t h3) (unflushed8 t h3)]
    have eg : (step W c t (state W c t.val)).gathered = k1_pay1 (iblk W c 2 t) (iblk W c 0 t) (iblk W c 1 t) := if_pos h0
    have ea : (step W c t (state W c t.val)).acc = k1_pay3 (k1_pay1 (iblk W c 2 t) (iblk W c 0 t) (iblk W c 1 t)) (iblk W c 5 t) (iblk W c 6 t) := if_pos h0
    rw [eg, ea]
    have hp := Phi_any W c t.val
    rw [Phi_zero] at hp
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := hp $$ HP
    icases HP with ⟨Hot, HS0, HS1, Hg⟩
    iapply (run_first c (grid1.coords t) _ _ _ _ _ _ _ _ _ _ _ _ _ _ _ _ _ _ _ _ _ _ ((cond0_iff t).mpr h0) (fun h => by have := (cond2_iff t).mp h; omega) (fun h => h3 ((cond3_iff t).mp h)) (iblk W c 0 t) (iblk W c 1 t) (iblk W c 2 t) (iblk W c 5 t) (iblk W c 6 t) Set.univ _)
    isplitl [H0]; · iexact H0
    isplitl [H1]; · iexact H1
    isplitl [H2]; · iexact H2
    isplitl [H5]; · iexact H5
    isplitl [H6]; · iexact H6
    isplitl [HS0]; · iexact HS0
    isplitl [HS1]; · iexact HS1
    iintro ⟨H0, H1, H2, H5, H6, HS0, HS1⟩
    isplitl [Hot HS0 HS1 Hg]
    · isplitl [Hot]; · iexact Hot
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hz : t.val ≠ 0 := fun h => h0 (by rw [h])
    have h2 : 1 ≤ t.val % 4 := by omega
    rw [Phi_pos W c t.val hz]
    have eg : (step W c t (state W c t.val)).gathered = (state W c t.val).gathered := if_neg h0
    have ea : (step W c t (state W c t.val)).acc = k1_pay4 (state W c t.val).gathered (iblk W c 5 t) (iblk W c 6 t) (state W c t.val).acc := if_neg h0
    by_cases h3 : t.val % 4 = 3
    · rw [leaves7 W D c t h3, leaves8 W D c t h3, after7, after8, state_succ, eg, ea]
      by_cases h4 : t.val < 4
      · have eo : (step W c t (state W c t.val)).own = k1_pay8 (accAt W c t (state W c t.val)) (iblk W c 3 t) (rowsOwn (iblk W c 4 t)) := (if_pos h3).trans (if_pos h4)
        have ex : (step W c t (state W c t.val)).other = k1_pay9 (accAt W c t (state W c t.val)) (iblk W c 3 t) (rowsOther (iblk W c 4 t)) := (if_pos h3).trans (if_pos h4)
        rw [eo, ex, show accAt W c t (state W c t.val) = _ from ea]
        iintro ⟨⟨Hot, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_start c (grid1.coords t) _ _ _ _ _ _ _ _ _ _ _ _ _ _ _ _ _ _ _ _ _ _ (fun h => h0 ((cond0_iff t).mp h)) ((cond2_iff t).mpr h2) ((cond3_iff t).mpr h3) ((cond4_iff t).mpr h4) (fun h => absurd ((cond5_iff t).mp h) (by omega)) (iblk W c 3 t) (iblk W c 4 t) (iblk W c 5 t) (iblk W c 6 t) _ _ Set.univ _)
        isplitl [H3]; · iexact H3
        isplitl [H4]; · iexact H4
        isplitl [H5]; · iexact H5
        isplitl [H6]; · iexact H6
        isplitl [H7]; · iexists _; iexact H7
        isplitl [H8]; · iexists _; iexact H8
        isplitl [HS0]; · iexact HS0
        isplitl [HS1]; · iexact HS1
        iintro ⟨H3, H4, H5, H6, H7, H8, HS0, HS1⟩
        isplitl [Hot HS0 HS1 Hg]
        · isplitl [Hot]; · iexact Hot
          isplitl [HS0]; · iexact HS0
          isplitl [HS1]; · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · have eo : (step W c t (state W c t.val)).own = k1_pay10 (accAt W c t (state W c t.val)) (iblk W c 3 t) (rowsOwn (iblk W c 4 t)) (state W c t.val).own := (if_pos h3).trans (if_neg h4)
        have ex : (step W c t (state W c t.val)).other = k1_pay11 (accAt W c t (state W c t.val)) (iblk W c 3 t) (rowsOther (iblk W c 4 t)) (state W c t.val).other := (if_pos h3).trans (if_neg h4)
        rw [eo, ex, show accAt W c t (state W c t.val) = _ from ea]
        simp only [before7 W D c t (Nat.le_of_not_lt h4), before8 W D c t (Nat.le_of_not_lt h4)]
        iintro ⟨⟨Hot, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (run_add c (grid1.coords t) _ _ _ _ _ _ _ _ _ _ _ _ _ _ _ _ _ _ _ _ _ _ (fun h => h0 ((cond0_iff t).mp h)) ((cond2_iff t).mpr h2) ((cond3_iff t).mpr h3) (fun h => h4 ((cond4_iff t).mp h)) ((cond5_iff t).mpr (Nat.le_of_not_lt h4)) (iblk W c 3 t) (iblk W c 4 t) (iblk W c 5 t) (iblk W c 6 t) _ _ _ _ Set.univ _)
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        iintro ⟨H3, H4, H5, H6, H7, H8, HS0, HS1⟩
        isplitl [Hot HS0 HS1 Hg]
        · isplitl [Hot]; · iexact Hot
          isplitl [HS0]; · iexact HS0
          isplitl [HS1]; · iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · rw [Dat.leavesExact_idle _ 7 t (idle7 t h3) (unflushed7 t h3), Dat.leavesExact_idle _ 8 t (idle8 t h3) (unflushed8 t h3), eg, ea]
      iintro ⟨⟨Hot, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid1.coords t) _ _ _ _ _ _ _ _ _ _ _ _ _ _ _ _ _ _ _ _ _ _ (fun h => h0 ((cond0_iff t).mp h)) ((cond2_iff t).mpr h2) (fun h => h3 ((cond3_iff t).mp h)) (iblk W c 5 t) (iblk W c 6 t) _ _ Set.univ _)
      isplitl [H5]; · iexact H5
      isplitl [H6]; · iexact H6
      isplitl [HS0]; · iexact HS0
      isplitl [HS1]; · iexact HS1
      iintro ⟨H5, H6, HS0, HS1⟩
      isplitl [Hot HS0 HS1 Hg]
      · isplitl [Hot]; · iexact Hot
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat W D c) (defs₀ (F := F)) Variants.none () Set.univ := fun t => by
  rw [bigSep_W1, bigSep_W1, defs₀_row]
  exact triple_restated (sound_body W D c t) rfl .rfl fun _ => .rfl

theorem hin (c : Dev nD) : (iprop(Pipeline.scopedRest spec1 c ∗ (∃ r, prngReg c r)) : sProp 𝕄) ⊢ (dat W D c).Φ 0 :=
  (scoped_eq W c).1
theorem hout (c : Dev nD) : (dat W D c).Φ (Fin.last cfg1.N) ⊢ (iprop(Pipeline.scopedRest spec1 c ∗ (∃ r, prngReg c r)) : sProp 𝕄) :=
  (show Phi W c cfg1.N ⊢ _ from (Phi_any W c _).trans (scoped_eq W c).2)

end Cert.KernelIdeal.Moe
-- ==== Proof.Run.lean ====
/-
# The whole program's run

The three kernels of `main` as regions between the host stretches: the exchanging kernel, the expert kernel and the combining
kernel. `outs` says what the kernels leave in their results; `Leaves` says that it is what their bodies compute. Every fair
execution from any memory then ends with the result of the combining kernel, the arguments as they were, and all
semaphores at zero.
-/
module

public import proofs.«01_k».proof.Proof.ExchangeRegion
public import proofs.«01_k».proof.Proof.CombineRegion
public import proofs.«01_k».proof.Proof.MoeRegion
public import proofs.«01_k».proof.Proof.Gen.KernelIdeal.Regions
public import Idealize.ShloMosaic.Lib.Pipeline.RegionTalk
public import Idealize.ShloMosaic.Lib.Quiescent

@[expose] public section

set_option maxRecDepth 65536

noncomputable section

namespace Cert.KernelIdeal.Run

open Cert.KernelIdeal Cert.KernelIdeal.Gen
open Cert.KernelIdeal.Talk (UU bar bar2 sx vx sr vr sg vg snd rcv proto R₀ R₁ O₀ O₁ O₂ O₃ due lev lv prt prt_prt)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)
open Cert.Pairs (Proto EP ER cell L lvOf)

variable {F : FTy → Type} [FloatOps F]

local notation "𝕄" => MT nD τ sig Unit (Elt F) ℕ UU ℕ

abbrev 𝒱₀ : Variants := Variants.none

/-! ## The expert kernel's arrays -/

section Moe

variable (W : Dev nD → Valuation τ sig (Elt F)) (D : Dev nD → CellTallies nD τ sig Unit)

theorem moe_arrAt_own (c : Dev nD) : (Moe.dat W D c).arrAt 7 cfg1.N = (Moe.state W c 32).own := by
  have hN : (31 : ℕ) < cfg1.N := lt_of_lt_of_eq (by decide) N_1.symm
  have h : (win1_7.blk (⟨31, hN⟩ : Fin cfg1.N)).view.read (Elt F) ((Moe.dat W D c).arrAt 7 cfg1.N) = (Moe.state W c 32).own := by
    rw [show (Moe.dat W D c).arrAt 7 cfg1.N = (Moe.dat W D c).arrAt 7 ((⟨31, hN⟩ : Fin cfg1.N).val + 1) from congrArg _ N_1,
      (Moe.dat W D c).arrAt_succ 7 (⟨31, hN⟩ : Fin cfg1.N), if_pos ((flush1_7 ⟨31, hN⟩).mpr rfl)]
    exact (View.read_write_univ _ _).trans (show (Moe.dat W D c).after 7 (⟨31, hN⟩ : Fin cfg1.N) = _ from Moe.after7 W D c ⟨31, hN⟩)
  exact (Memref.read_access_unit_zero (Elt F) main_v37_0 (off := fun a => win1_7.index (⟨31, hN⟩ : Fin cfg1.N) a * main_v37_0.ty.shape.size a)
    (funext fun a => by fin_cases a <;> rfl) (fun a => by fin_cases a <;> exact Nat.le_refl _) _).symm.trans h

theorem moe_arrAt_other (c : Dev nD) : (Moe.dat W D c).arrAt 8 cfg1.N = (Moe.state W c 32).other := by
  have hN : (31 : ℕ) < cfg1.N := lt_of_lt_of_eq (by decide) N_1.symm
  have h : (win1_8.blk (⟨31, hN⟩ : Fin cfg1.N)).view.read (Elt F) ((Moe.dat W D c).arrAt 8 cfg1.N) = (Moe.state W c 32).other := by
    rw [show (Moe.dat W D c).arrAt 8 cfg1.N = (Moe.dat W D c).arrAt 8 ((⟨31, hN⟩ : Fin cfg1.N).val + 1) from congrArg _ N_1,
      (Moe.dat W D c).arrAt_succ 8 (⟨31, hN⟩ : Fin cfg1.N), if_pos ((flush1_8 ⟨31, hN⟩).mpr rfl)]
    exact (View.read_write_univ _ _).trans (show (Moe.dat W D c).after 8 (⟨31, hN⟩ : Fin cfg1.N) = _ from Moe.after8 W D c ⟨31, hN⟩)
  exact (Memref.read_access_unit_zero (Elt F) main_v37_1 (off := fun a => win1_8.index (⟨31, hN⟩ : Fin cfg1.N) a * main_v37_1.ty.shape.size a)
    (funext fun a => by fin_cases a <;> rfl) (fun a => by fin_cases a <;> exact Nat.le_refl _) _).symm.trans h

end Moe

variable (m : (ℓ : Loc nD τ sig) → Buf (Elt F) ℓ) (outs : Outs (F := F))

/-- What the kernels leave is what their bodies compute. -/
structure Leaves : Prop where
  b : ∀ c, outs 2 main_v5_0 c = Talk.xbAt (V1 m) c
  y : ∀ c, outs 2 main_v5_1 c = Talk.xbAt (V1 m) (prt c)
  g : ∀ c, outs 2 main_v5_2 c = Talk.gAt (V1 m) c
  h : ∀ c, outs 2 main_v5_3 c = Talk.gAt (V1 m) (prt c)
  own : ∀ c, outs 6 main_v37_0 c = (Moe.state (V5 m outs) c 32).own
  other : ∀ c, outs 6 main_v37_1 c = (Moe.state (V5 m outs) c 32).other
  out : ∀ c, outs 7 main_v38 c = Talk.outAt (V6 m outs) c

theorem V2_congr {outs outs' : Outs (F := F)} (h : outs 2 = outs' 2) : V2 m outs = V2 m outs' := by
  funext c; unfold V2; rw [h]
theorem V5_congr {outs outs' : Outs (F := F)} (h : outs 2 = outs' 2) : V5 m outs = V5 m outs' := by
  funext c; unfold V5 V4 V3; rw [V2_congr m h]
theorem V6_congr {outs outs' : Outs (F := F)} (h : outs 2 = outs' 2) (h' : outs 6 = outs' 6) : V6 m outs = V6 m outs' := by
  funext c; unfold V6; rw [V5_congr m h, h']

/-- Contents for every reference. -/
abbrev Fam (F : FTy → Type) : Type := (r : Ref sig .tc) → (c : Dev nD) → Buf (Elt F) ((c : Thread nD τ).loc r)

omit [FloatOps F] in
theorem pick (r : Ref sig .tc) (v : (c : Dev nD) → Buf (Elt F) ((c : Thread nD τ).loc r)) (a : Fam F) :
    ∃ b : Fam F, b r = v ∧ ∀ r', r' ≠ r → b r' = a r' :=
  ⟨Function.update a r v, Function.update_self _ _ _, fun _ h => Function.update_of_ne h _ _⟩

def mk (a b d : Fam F) : Outs (F := F) := fun n => if n = 2 then a else if n = 6 then b else d
omit [FloatOps F] in
theorem mk_2 (a b d : Fam F) : mk a b d 2 = a := if_pos rfl
omit [FloatOps F] in
theorem mk_6 (a b d : Fam F) : mk a b d 6 = b := (if_neg (by decide)).trans (if_pos rfl)
omit [FloatOps F] in
theorem mk_7 (a b d : Fam F) : mk a b d 7 = d := (if_neg (by decide)).trans (if_neg (by decide))

/-- There is such a choice: each kernel starts from what the ones before it leave. -/
theorem exists_leaves : ∃ outs : Outs (F := F), Leaves m outs := by
  obtain ⟨a0, h0, -⟩ := pick main_v5_0 (Talk.xbAt (V1 m)) (fun r c => V1 m c r)
  obtain ⟨a1, h1, k1⟩ := pick main_v5_1 (fun c => Talk.xbAt (V1 m) (prt c)) a0
  obtain ⟨a2, h2, k2⟩ := pick main_v5_2 (Talk.gAt (V1 m)) a1
  obtain ⟨a, h3, k3⟩ := pick main_v5_3 (fun c => Talk.gAt (V1 m) (prt c)) a2
  obtain ⟨b0, h4, -⟩ := pick main_v37_0 (fun c => (Moe.state (V5 m (mk a a a)) c 32).own) a
  obtain ⟨b, h5, k5⟩ := pick main_v37_1 (fun c => (Moe.state (V5 m (mk a a a)) c 32).other) b0
  obtain ⟨d, h6, -⟩ := pick main_v38 (fun c => Talk.outAt (V6 m (mk a b b)) c) a
  have e5 : V5 m (mk a b d) = V5 m (mk a a a) := V5_congr m ((mk_2 a b d).trans (mk_2 a a a).symm)
  have e6 : V6 m (mk a b d) = V6 m (mk a b b) := V6_congr m ((mk_2 a b d).trans (mk_2 a b b).symm) ((mk_6 a b d).trans (mk_6 a b b).symm)
  refine ⟨mk a b d, ?_, ?_, ?_, ?_, ?_, ?_, ?_⟩
  · intro c; rw [mk_2, k3 _ (by decide), k2 _ (by decide), k1 _ (by decide), h0]
  · intro c; rw [mk_2, k3 _ (by decide), k2 _ (by decide), h1]
  · intro c; rw [mk_2, k3 _ (by decide), h2]
  · intro c; rw [mk_2, h3]
  · intro c; rw [mk_6, k5 _ (by decide), h4, e5]
  · intro c; rw [mk_6, h5, e5]
  · intro c; rw [mk_7, h6, e6]

/-! ## The launch -/

instance : Inhabited (Dev nD) := ⟨⟨0, by decide⟩⟩

/-- The three kernels' proof data. -/
def pdats : (p : Fin 3) → (c : Dev nD) → Dat τ (Elt F) Unit ℕ UU ℕ (cfgs p) c
  | ⟨0, _⟩ => Exch.dats (V1 m) (V6 m outs)
  | ⟨1, _⟩ => Moe.dat (V5 m outs) R₀
  | ⟨2, _⟩ => Comb.dats (V1 m) (V6 m outs)

def u₀ : UU := (initOf (Pipeline.cells cfgs cellOf_inj) (Pipeline.launchToks cfgs cellOf_inj), Pairs.u₀ (proto (V1 m) (V6 m outs)))

theorem unscopedSems0_eq (c : Dev nD) : (unscopedSems0 c : sProp 𝕄) = iprop(semVal (cell c bar) 0 ∗ semVal (cell c bar2) 0) := by
  unfold unscopedSems0; rw [bigSep_eq_bigSepL_of_eq [bar, bar2] (by decide) (by decide)]; rfl

/-- What device `c` owes between the items. -/
def owing (c : Dev nD) (O : CellTallies nD τ sig Unit) : sProp 𝕄 := iprop(∃ W, owes (c : Thread nD τ) O W)

/-- What rides along beside the buffers: before the exchanging kernel, before the expert kernel, before the combining
    kernel, at the end. -/
def E : Fin 4 → Dev nD → sProp 𝕄
  | ⟨0, _⟩ => fun c => iprop((∃ r, prngReg c r) ∗ Comb.kept (V1 m) (V6 m outs) c ∗ Exch.kept (V1 m) (V6 m outs) c ∗ owing c (R₀ c + due c))
  | ⟨1, _⟩ => fun c => iprop((∃ r, prngReg c r) ∗ Comb.kept (V1 m) (V6 m outs) c ∗ semVal (cell c bar) 0 ∗ owing c (R₀ c))
  | ⟨2, _⟩ => fun c => iprop((∃ r, prngReg c r) ∗ Comb.kept (V1 m) (V6 m outs) c ∗ semVal (cell c bar) 0 ∗ owing c (R₀ c))
  | ⟨3, _⟩ => fun c => iprop(unscopedSems0 c ∗ owing c 0)

include m outs in
theorem owed_at (s : SemLoc sig) (hs : s ∈ ({bar, vx, vr, vg, bar2, rcv} : Finset (SemLoc sig))) (d c : Dev nD) :
    O₀ d (cell c s) () = if d = (proto (V1 m) (V6 m outs)).payee s c then (proto (V1 m) (V6 m outs)).amt s else 0 := by
  unfold O₀ O₁ O₂ O₃ R₀ R₁
  simp only [Pi.add_apply, Finsupp.add_apply]
  rw [Pairs.tallyAt_cell prt prt_prt, Pairs.tallyAt_cell prt prt_prt, Pairs.tallyAt_cell prt prt_prt, Pairs.tallyAt_cell prt prt_prt,
    Pairs.tallyAt_cell prt prt_prt, Pairs.tallyAt_cell prt prt_prt]
  show _ = if d = Talk.payee s c then Talk.amt s else 0
  simp only [Finset.mem_insert, Finset.mem_singleton] at hs
  rcases hs with rfl | rfl | rfl | rfl | rfl | rfl
  · rw [if_neg (show ¬ rcv = bar by decide), if_neg (show ¬ bar2 = bar by decide), if_neg (show ¬ vg = bar by decide), if_neg (show ¬ vx = bar by decide), if_neg (show ¬ vr = bar by decide), if_pos (show bar = bar from rfl), Talk.payee_bar, Talk.amt_bar]; simp only [zero_add, add_zero]
  · rw [if_neg (show ¬ rcv = vx by decide), if_neg (show ¬ bar2 = vx by decide), if_neg (show ¬ vg = vx by decide), if_pos (show vx = vx from rfl), if_neg (show ¬ vr = vx by decide), if_neg (show ¬ bar = vx by decide), Talk.payee_vx, Talk.amt_vx]; simp only [zero_add, add_zero]
  · rw [if_neg (show ¬ rcv = vr by decide), if_neg (show ¬ bar2 = vr by decide), if_neg (show ¬ vg = vr by decide), if_neg (show ¬ vx = vr by decide), if_pos (show vr = vr from rfl), if_neg (show ¬ bar = vr by decide), Talk.payee_vr, Talk.amt_vr]; simp only [zero_add, add_zero]
  · rw [if_neg (show ¬ rcv = vg by decide), if_neg (show ¬ bar2 = vg by decide), if_pos (show vg = vg from rfl), if_neg (show ¬ vx = vg by decide), if_neg (show ¬ vr = vg by decide), if_neg (show ¬ bar = vg by decide), Talk.payee_vg, Talk.amt_vg]; simp only [zero_add, add_zero]
  · rw [if_neg (show ¬ rcv = bar2 by decide), if_pos (show bar2 = bar2 from rfl), if_neg (show ¬ vg = bar2 by decide), if_neg (show ¬ vx = bar2 by decide), if_neg (show ¬ vr = bar2 by decide), if_neg (show ¬ bar = bar2 by decide), Talk.payee_bar2, Talk.amt_bar2]; simp only [zero_add, add_zero]
  · rw [if_pos (show rcv = rcv from rfl), if_neg (show ¬ bar2 = rcv by decide), if_neg (show ¬ vg = rcv by decide), if_neg (show ¬ vx = rcv by decide), if_neg (show ¬ vr = rcv by decide), if_neg (show ¬ bar = rcv by decide), Talk.payee_rcv, Talk.amt_rcv]; simp only [zero_add, add_zero]

include m outs in
theorem creds (c : Dev nD) :
    (Pipeline.launchCred O₀ c : sProp 𝕄) ⊢ iprop(cred (tallyAt (cell c bar) () 1) ∗ cred (tallyAt (cell c vx) () Talk.NX)
      ∗ cred (tallyAt (cell c vr) () Talk.NR) ∗ cred (tallyAt (cell c vg) () Talk.NG)
      ∗ cred (tallyAt (cell c bar2) () 1) ∗ cred (tallyAt (cell c rcv) () Talk.N)) := by
  refine (Pairs.creds (P := proto (V1 m) (V6 m outs)) {bar, vx, vr, vg, bar2, rcv} (owed_at m outs) c).trans ?_
  rw [bigSep_eq_bigSepL_of_eq [bar, vx, vr, vg, bar2, rcv] (by decide) (by decide)]
  exact BI.Entails.refl _

/-- One device's share of the launch: what rides along before the exchanging kernel. -/
theorem share0 (κ : GSem nD τ sig → ℕ) (ρ : Dev nD → PrngReg) (c : Dev nD) :
    iprop(Pairs.records (proto (V1 m) (V6 m outs)) κ ∗ (owes (c : Thread nD τ) (O₀ c) ∅ ∗ Pipeline.launchCred O₀ c ∗ prngReg c (ρ c)) ∗ Pairs.linear (proto (V1 m) (V6 m outs)) c)
      ⊢ E m outs 0 c := by
  show _ ⊢ iprop((∃ r, prngReg c r) ∗ Comb.kept (V1 m) (V6 m outs) c ∗ Exch.kept (V1 m) (V6 m outs) c ∗ owing c (R₀ c + due c))
  unfold Pairs.linear Comb.kept Exch.kept owing
  rw [Talk.bigSep_live, Talk.bigSep_inner, Talk.bigSep_all, show (proto (V1 m) (V6 m outs)).payee = Talk.payee from rfl,
    Talk.payee_bar, Talk.payee_sx, Talk.payee_vx, Talk.payee_sr, Talk.payee_vr, Talk.payee_sg, Talk.payee_vg, Talk.payee_bar2, Talk.payee_snd, Talk.payee_rcv]
  iintro ⟨#HR, ⟨Ho, Hc, Hp⟩, ⟨Hb, Hb2⟩, ⟨o1, o2, o3, o4, o5, o6, o7, o8⟩, ⟨t0, t1, t2, t3, t4, t5, t6, t7, t8, t9⟩⟩
  ihave Hc := (creds m outs c) $$ Hc
  icases Hc with ⟨c1, c2, c3, c4, c5, c6⟩
  isplitl [Hp]; · iexists _; iexact Hp
  isplitl [Hb2 o7 o8 t7 t8 t9 c5 c6]
  · isplitl [Hb2 o7 o8 t7 t8 t9]
    · iexists κ
      isplitr; · iexact HR
      isplitl [Hb2]; · iexact Hb2
      isplitl [o7 o8]; · isplitl [o7] <;> iassumption
      isplitl [t7]; · iexact t7
      isplitl [t8] <;> iassumption
    isplitl [c5] <;> iassumption
  isplitl [Hb o1 o2 o3 o4 o5 o6 t0 t1 t2 t3 t4 t5 t6 c1 c2 c3 c4]
  · isplitl [Hb o1 o2 o3 o4 o5 o6 t0 t1 t2 t3 t4 t5 t6]
    · iexists κ
      isplitr; · iexact HR
      isplitl [Hb]; · iexact Hb
      isplitl [o1 o2 o3 o4 o5 o6]
      · isplitl [o1]; · iexact o1
        isplitl [o2]; · iexact o2
        isplitl [o3]; · iexact o3
        isplitl [o4]; · iexact o4
        isplitl [o5] <;> iassumption
      isplitl [t0]; · iexact t0
      isplitl [t1]; · iexact t1
      isplitl [t2]; · iexact t2
      isplitl [t3]; · iexact t3
      isplitl [t4]; · iexact t4
      isplitl [t5] <;> iassumption
    isplitl [c1]; · iexact c1
    isplitl [c2]; · iexact c2
    isplitl [c3] <;> iassumption
  · iexists _; rw [← Talk.O₀_eq]; iexact Ho

theorem split0 (ρ : Dev nD → PrngReg) (c : Dev nD) :
    iprop(unscopedSems0 c ∗ owes (c : Thread nD τ) (O₀ c) ∅ ∗ Pipeline.launchCred O₀ c ∗ prngReg c (ρ c)
        ∗ Pairs.park (BI.own (ER (Pairs.u₀ (proto (V1 m) (V6 m outs))))) c)
      ⊢ (iprop((bigSep (proto (V1 m) (V6 m outs)).live fun s => (semVal (cell c s) 0 : sProp 𝕄))
        ∗ (owes (c : Thread nD τ) (O₀ c) ∅ ∗ Pipeline.launchCred O₀ c ∗ prngReg c (ρ c))
        ∗ Pairs.park (BI.own (ER (Pairs.u₀ (proto (V1 m) (V6 m outs))))) c) : sProp 𝕄) := by
  rw [Talk.bigSep_live, unscopedSems0_eq]
  iintro ⟨Hu, Ho, Hc, Hp, Hk⟩
  isplitl [Hu]; · iexact Hu
  isplitl [Ho Hc Hp]
  · isplitl [Ho]; · iexact Ho
    isplitl [Hc] <;> iassumption
  iexact Hk

theorem launch (ρ : Dev nD → PrngReg) :
    iprop((bigSep Finset.univ fun c : Dev nD => iprop(unscopedSems0 c ∗ owes (c : Thread nD τ) (O₀ c) ∅ ∗ Pipeline.launchCred O₀ c ∗ prngReg c (ρ c)
        ∗ Pairs.park (BI.own (ER (Pairs.u₀ (proto (V1 m) (V6 m outs))))) c)) ∗ levAts L lv)
      ⊢ (|={Set.univ}=> bigSep Finset.univ (E m outs 0) : sProp 𝕄) := by
  have hsplit : (bigSep Finset.univ fun c : Dev nD => iprop(unscopedSems0 c ∗ owes (c : Thread nD τ) (O₀ c) ∅ ∗ Pipeline.launchCred O₀ c ∗ prngReg c (ρ c)
        ∗ Pairs.park (BI.own (ER (Pairs.u₀ (proto (V1 m) (V6 m outs))))) c) : sProp 𝕄)
      ⊢ iprop((bigSep Finset.univ fun c : Dev nD => bigSep (proto (V1 m) (V6 m outs)).live fun s => (semVal (cell c s) 0 : sProp 𝕄))
        ∗ (bigSep Finset.univ fun c : Dev nD => iprop(owes (c : Thread nD τ) (O₀ c) ∅ ∗ Pipeline.launchCred O₀ c ∗ prngReg c (ρ c)))
        ∗ bigSep Finset.univ fun c : Dev nD => Pairs.park (BI.own (ER (Pairs.u₀ (proto (V1 m) (V6 m outs))))) c) := by
    rw [← bigSep_sep', ← bigSep_sep']
    exact bigSep_mono fun c _ => split0 m outs ρ c
  have hjoin : iprop((bigSep Finset.univ fun c : Dev nD => iprop(owes (c : Thread nD τ) (O₀ c) ∅ ∗ Pipeline.launchCred O₀ c ∗ prngReg c (ρ c)))
        ∗ bigSep Finset.univ fun c : Dev nD => Pairs.linear (proto (V1 m) (V6 m outs)) c)
      ⊢ (bigSep Finset.univ fun c : Dev nD => iprop((owes (c : Thread nD τ) (O₀ c) ∅ ∗ Pipeline.launchCred O₀ c ∗ prngReg c (ρ c)) ∗ Pairs.linear (proto (V1 m) (V6 m outs)) c) : sProp 𝕄) :=
    Entails.of_eq (bigSep_sep' ..).symm
  iintro ⟨H, -⟩
  ihave H := hsplit $$ H
  icases H with ⟨Hu, Hx, Hk⟩
  ihave Hk := (Pairs.bigSep_park _).1 $$ Hk
  imod (Pairs.deal (proto (V1 m) (V6 m outs))) $$ [Hu Hk] with ⟨%κ, #HR, Hl⟩
  · isplitl [Hu] <;> iassumption
  imodintro
  iapply (Pairs.bigSep_with_persistent (R := Pairs.records (proto (V1 m) (V6 m outs)) κ) (S := Finset.univ)
    (Φ := fun c : Dev nD => iprop((owes (c : Thread nD τ) (O₀ c) ∅ ∗ Pipeline.launchCred O₀ c ∗ prngReg c (ρ c)) ∗ Pairs.linear (proto (V1 m) (V6 m outs)) c))
    (Ψ := E m outs 0) fun c _ => share0 m outs κ ρ c)
  isplitr; · iexact HR
  iapply hjoin
  isplitl [Hx] <;> iassumption

/-! ## The kernels as regions -/

/-- The buffers no window of a kernel is cut from. -/
abbrev rest {gr n : ℕ} (win : Fin n → Pipeline.WinSpec sig gr) : Finset (DevRef τ sig) := Pipeline.ucRefs τ sig \ Pipeline.arrRefs win

theorem mem_of_rest {gr n : ℕ} (win : Fin n → Pipeline.WinSpec sig gr) (w : Fin n) {b : DevRef τ sig} (hb : b ∈ rest win) :
    b ≠ Proc.devRef .tc (Pipeline.arrRef win w) := fun h =>
  (Finset.mem_sdiff.mp hb).2 (Finset.mem_map.mpr ⟨Pipeline.arrRef win w, Finset.mem_image.mpr ⟨w, Finset.mem_univ _, rfl⟩, h.symm⟩)

theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)
theorem arrs2 : Pipeline.arrRefs (τ := τ) spec2 ⊆ Pipeline.ucRefs τ sig := Pipeline.arrRefs_sub_ucRefs spec2 (by decide)

theorem L_of_pos {n : ℕ} {O : CellTallies nD τ sig Unit} (h : Pairs.Above lev n O) (g : GSem nD τ sig) (i : Unit) (hg : 0 < O g i) :
    i ∈ L g ∧ n < lv g i := by
  obtain ⟨h1, h2⟩ := h g i hg
  exact ⟨by rw [show L g = {()} from if_pos h1]; exact Finset.mem_singleton_self _, h2⟩

theorem L_mem (c : Dev nD) (sm : SemLoc sig) : () ∈ L (cell c sm : GSem nD τ sig) := by rw [Pairs.L_tc]; exact Finset.mem_singleton_self _

/-- The staging semaphores are at level 0. -/
theorem stage0 : ∀ (w : Fin 6) (s : Fin (win0 w).nbuf), lev (.dma ((win0 w).sem s)) = 0 := by decide
theorem stage1 : ∀ (w : Fin 9) (s : Fin (win1 w).nbuf), lev (.dma ((win1 w).sem s)) = 0 := by decide
theorem stage2 : ∀ (w : Fin 3) (s : Fin (win2 w).nbuf), lev (.dma ((win2 w).sem s)) = 0 := by decide

variable (hl : Leaves m outs)

include hl in
theorem rest0 (c : Dev nD) (b : DevRef τ sig) (hb : b ∈ rest spec0) : V2 m outs c b = V1 m c b := by
  simp only [V2]
  rw [Function.update_of_ne (mem_of_rest spec0 5 hb), Function.update_of_ne (mem_of_rest spec0 4 hb), Function.update_of_ne (mem_of_rest spec0 3 hb),
    Function.update_of_ne (mem_of_rest spec0 2 hb)]

theorem rest1 (c : Dev nD) (b : DevRef τ sig) (hb : b ∈ rest spec1) : V6 m outs c b = V5 m outs c b := by
  simp only [V6]
  rw [Function.update_of_ne (mem_of_rest spec1 8 hb), Function.update_of_ne (mem_of_rest spec1 7 hb)]

theorem rest2 (c : Dev nD) (b : DevRef τ sig) (hb : b ∈ rest spec2) : V7 m outs c b = V6 m outs c b := by
  simp only [V7]
  rw [Function.update_of_ne (mem_of_rest spec2 2 hb)]

theorem V2_at0 (c : Dev nD) : V2 m outs c main_v5_0 = outs 2 main_v5_0 c := by
  simp only [V2]
  rw [Function.update_of_ne (StableHlo.devRef_ne_of_ne (by decide)), Function.update_of_ne (StableHlo.devRef_ne_of_ne (by decide)),
    Function.update_of_ne (StableHlo.devRef_ne_of_ne (by decide)), Function.update_self]
theorem V2_at1 (c : Dev nD) : V2 m outs c main_v5_1 = outs 2 main_v5_1 c := by
  simp only [V2]
  rw [Function.update_of_ne (StableHlo.devRef_ne_of_ne (by decide)), Function.update_of_ne (StableHlo.devRef_ne_of_ne (by decide)), Function.update_self]
theorem V2_at2 (c : Dev nD) : V2 m outs c main_v5_2 = outs 2 main_v5_2 c := by
  simp only [V2]
  rw [Function.update_of_ne (StableHlo.devRef_ne_of_ne (by decide)), Function.update_self]
theorem V2_at3 (c : Dev nD) : V2 m outs c main_v5_3 = outs 2 main_v5_3 c := by
  simp only [V2]; rw [Function.update_self]
theorem V6_at0 (c : Dev nD) : V6 m outs c main_v37_0 = outs 6 main_v37_0 c := by
  simp only [V6]; rw [Function.update_of_ne (StableHlo.devRef_ne_of_ne (by decide)), Function.update_self]
theorem V6_at1 (c : Dev nD) : V6 m outs c main_v37_1 = outs 6 main_v37_1 c := by
  simp only [V6]; rw [Function.update_self]
theorem V7_at0 (c : Dev nD) : V7 m outs c main_v38 = outs 7 main_v38 c := by
  simp only [V7]; rw [Function.update_self]

include hl in
theorem arrays0 (c : Dev nD) : ∀ w : Fin 6, (Exch.dats (V1 m) (V6 m outs) c).arrAt w cfg0.N = V2 m outs c (Proc.devRef .tc (Pipeline.arrRef spec0 w))
  | ⟨0, _⟩ => (Exch.arrAt_x (V1 m) (V6 m outs) c).trans (V2_of m outs c main_arg0 (by decide)).symm
  | ⟨1, _⟩ => (Exch.arrAt_r (V1 m) (V6 m outs) c).trans (V2_of m outs c main_arg1 (by decide)).symm
  | ⟨2, _⟩ => (Exch.arrAt_b (V1 m) (V6 m outs) c).trans ((V2_at0 m outs c).trans (hl.b c)).symm
  | ⟨3, _⟩ => (Exch.arrAt_y (V1 m) (V6 m outs) c).trans ((V2_at1 m outs c).trans (hl.y c)).symm
  | ⟨4, _⟩ => (Exch.arrAt_g (V1 m) (V6 m outs) c).trans ((V2_at2 m outs c).trans (hl.g c)).symm
  | ⟨5, _⟩ => (Exch.arrAt_h (V1 m) (V6 m outs) c).trans ((V2_at3 m outs c).trans (hl.h c)).symm

theorem ins1 (c : Dev nD) (w : Fin 9) (h : (cfg1.win w).isOut = false) (hr : Pipeline.arrRef spec1 w ∉ ([main_v37_0, main_v37_1] : List (Ref sig .tc))) :
    (Moe.dat (V5 m outs) R₀ c).arrAt w cfg1.N = V6 m outs c (Proc.devRef .tc (Pipeline.arrRef spec1 w)) :=
  ((Moe.dat (V5 m outs) R₀ c).arrAt_in w h _).trans (V6_of m outs c _ hr).symm

include hl in
theorem arrays1 (c : Dev nD) : ∀ w : Fin 9, (Moe.dat (V5 m outs) R₀ c).arrAt w cfg1.N = V6 m outs c (Proc.devRef .tc (Pipeline.arrRef spec1 w))
  | ⟨0, _⟩ => ins1 m outs c 0 rfl (by decide)
  | ⟨1, _⟩ => ins1 m outs c 1 rfl (by decide)
  | ⟨2, _⟩ => ins1 m outs c 2 rfl (by decide)
  | ⟨3, _⟩ => ins1 m outs c 3 rfl (by decide)
  | ⟨4, _⟩ => ins1 m outs c 4 rfl (by decide)
  | ⟨5, _⟩ => ins1 m outs c 5 rfl (by decide)
  | ⟨6, _⟩ => ins1 m outs c 6 rfl (by decide)
  | ⟨7, _⟩ => (moe_arrAt_own (V5 m outs) R₀ c).trans ((V6_at0 m outs c).trans (hl.own c)).symm
  | ⟨8, _⟩ => (moe_arrAt_other (V5 m outs) R₀ c).trans ((V6_at1 m outs c).trans (hl.other c)).symm

include hl in
theorem arrays2 (c : Dev nD) : ∀ w : Fin 3, (Comb.dats (V1 m) (V6 m outs) c).arrAt w cfg2.N = V7 m outs c (Proc.devRef .tc (Pipeline.arrRef spec2 w))
  | ⟨0, _⟩ => (Comb.arrAt_a (V1 m) (V6 m outs) c).trans (V7_of m outs c main_v37_0 (by decide)).symm
  | ⟨1, _⟩ => (Comb.arrAt_b (V1 m) (V6 m outs) c).trans (V7_of m outs c main_v37_1 (by decide)).symm
  | ⟨2, _⟩ => (Comb.arrAt_o (V1 m) (V6 m outs) c).trans ((V7_at0 m outs c).trans (hl.out c)).symm

/-- The exchanging kernel: it pays what is due and leaves its barrier at zero. -/
def R0 : RegionSeg (pcfgs (F := F)) adm (pdats m outs) () defs₀ 𝒱₀ L lv 0 :=
  RegionSeg.ofTalk (pcfgs (F := F)) adm (pdats m outs) () defs₀ 𝒱₀ L lv 0 Talk.osem Exch.ownSemFacts ∅ (rest spec0) (Finset.empty_subset _)
    launch0.toP rfl (fun c => (Exch.body_obligation (V1 m) (V6 m outs) c).loose) R₀ due (fun c => Talk.O₀_eq c) (fun _ => rfl) (fun _ => rfl)
    (Exch.share_eq (V1 m) (V6 m outs)) (V1 m) (V2 m outs) (fun c b hb => rest0 m outs hl c b (Finset.mem_sdiff.mp hb).1)
    (Exch.kept (V1 m) (V6 m outs)) (fun c => semVal (cell c bar) 0) (Exch.start (V1 m) (V6 m outs)) (fun c => semVal (cell c bar) 0)
    (Exch.opened (V1 m) (V6 m outs)) (fun c => Exch.entry (V1 m) (V6 m outs) c (V1 m c)) (fun c => Exch.exit (V1 m) (V6 m outs) c (V2 m outs c))
    (fun c => fupd_intro) (fun _ => 0)
    ⟨fun c w s => L_mem c _, fun c w s => Nat.le_of_eq (stage0 w s),
      fun c t g i hg => by
        rcases t with ⟨_ | _, ht⟩
        · exact L_of_pos (Talk.above_O₀ c) g i hg
        · exact L_of_pos (Talk.above_R₀' 0 (by decide) c) g i hg⟩
    (Comb.kept (V1 m) (V6 m outs)) (fun c w => by fin_cases w <;> rfl) (arrays0 m outs hl)

/-- The expert kernel: what the combining kernel will pay stays owed. -/
def R1 : RegionSeg (pcfgs (F := F)) adm (pdats m outs) () defs₀ 𝒱₀ L lv 1 :=
  RegionSeg.ofHeld (pcfgs (F := F)) adm (pdats m outs) () defs₀ 𝒱₀ L lv 1 R₀ (fun c => iprop(∃ r, prngReg c r)) (fun c => iprop(∃ r, prngReg c r))
    launch1.toP rfl (fun c => (Moe.body_obligation (V5 m outs) R₀ c).loose) (fun _ _ => rfl) (fun _ => rfl)
    (fun c w => by show (Moe.dat (V5 m outs) R₀ c).share w = fullShare; unfold Dat.share; split <;> rfl)
    (fun c => Moe.hin (V5 m outs) R₀ c) (fun c => Moe.hout (V5 m outs) R₀ c) (fun _ => 0)
    ⟨fun c w s => L_mem c _, fun c w s => Nat.le_of_eq (stage1 w s), fun c g i hg => L_of_pos (Talk.above_R₀' 0 (by decide) c) g i hg⟩
    (fun c => iprop(StableHlo.held (c : Thread nD τ) (rest spec1) (V5 m outs c) ∗ Comb.kept (V1 m) (V6 m outs) c ∗ semVal (cell c bar) 0))
    (V5 m outs) (V6 m outs) (fun c w => rfl) (arrays1 m outs hl)

/-- The combining kernel: it pays the rest and leaves its barrier at zero. -/
def R2 : RegionSeg (pcfgs (F := F)) adm (pdats m outs) () defs₀ 𝒱₀ L lv 2 :=
  RegionSeg.ofTalk (pcfgs (F := F)) adm (pdats m outs) () defs₀ 𝒱₀ L lv 2 Talk.osem2 Comb.ownSemFacts ∅ (rest spec2) (Finset.empty_subset _)
    launch2.toP rfl (fun c => (Comb.body_obligation (V1 m) (V6 m outs) c).loose) (fun _ => 0) R₀ (fun c => (zero_add _).symm) (fun _ => rfl) (fun _ => rfl)
    (Comb.share_eq (V1 m) (V6 m outs)) (V6 m outs) (V7 m outs) (fun c b hb => rest2 m outs c b (Finset.mem_sdiff.mp hb).1)
    (Comb.kept (V1 m) (V6 m outs)) (fun c => semVal (cell c bar2) 0) (Comb.start (V1 m) (V6 m outs)) (fun c => semVal (cell c bar2) 0)
    (Comb.opened (V1 m) (V6 m outs)) (fun c => Comb.entry (V1 m) (V6 m outs) c (V6 m outs c)) (fun c => Comb.exit (V1 m) (V6 m outs) c (V7 m outs c))
    (fun c => fupd_intro) (fun _ => 0)
    ⟨fun c w s => L_mem c _, fun c w s => Nat.le_of_eq (stage2 w s),
      fun c t g i hg => by
        rcases t with ⟨_ | _, ht⟩
        · exact L_of_pos (Talk.above_R₀' 0 (by decide) c) g i hg
        · exact L_of_pos (Pairs.above_zero lev 0) g i hg⟩
    (fun c => semVal (cell c bar) 0) (fun c w => by fin_cases w <;> rfl) (arrays2 m outs hl)

/-! ### Entering and leaving them -/

theorem pre0 (c : Dev nD) : iprop(StableHlo.held (c : Thread nD τ) (Pipeline.ucRefs τ sig) (V1 m c) ∗ E m outs 0 c) ⊢ (R0 m outs hl).pre c := by
  show iprop(StableHlo.held (c : Thread nD τ) (Pipeline.ucRefs τ sig) (V1 m c) ∗ (∃ r, prngReg c r) ∗ Comb.kept (V1 m) (V6 m outs) c ∗ Exch.kept (V1 m) (V6 m outs) c ∗ owing c (R₀ c + due c))
    ⊢ (iprop(StableHlo.held (c : Thread nD τ) (Pipeline.arrRefs spec0) (V1 m c) ∗ (∃ r, prngReg c r)
      ∗ (StableHlo.held (c : Thread nD τ) (rest spec0) (V1 m c) ∗ Comb.kept (V1 m) (V6 m outs) c) ∗ Exch.kept (V1 m) (V6 m outs) c ∗ ∃ Wd, owes (c : Thread nD τ) (R₀ c + due c) Wd) : sProp 𝕄)
  rw [StableHlo.held_sub_split (c : Thread nD τ) arrs0 (V1 m c)]
  unfold owing
  iintro ⟨⟨Ha, Hr⟩, Hp, Hk, He, Ho⟩
  isplitl [Ha]; · iexact Ha
  isplitl [Hp]; · iexact Hp
  isplitl [Hr Hk]; · isplitl [Hr] <;> iassumption
  isplitl [He] <;> iassumption

theorem post0 (c : Dev nD) : (R0 m outs hl).post c ⊢ iprop(StableHlo.held (c : Thread nD τ) (Pipeline.ucRefs τ sig) (V2 m outs c) ∗ E m outs 1 c) := by
  show (iprop(StableHlo.held (c : Thread nD τ) (Pipeline.arrRefs spec0) (V2 m outs c) ∗ (∃ r, prngReg c r)
      ∗ (StableHlo.held (c : Thread nD τ) (rest spec0) (V2 m outs c) ∗ Comb.kept (V1 m) (V6 m outs) c) ∗ semVal (cell c bar) 0 ∗ ∃ Wd, owes (c : Thread nD τ) (R₀ c) Wd) : sProp 𝕄)
    ⊢ iprop(StableHlo.held (c : Thread nD τ) (Pipeline.ucRefs τ sig) (V2 m outs c) ∗ (∃ r, prngReg c r) ∗ Comb.kept (V1 m) (V6 m outs) c ∗ semVal (cell c bar) 0 ∗ owing c (R₀ c))
  rw [StableHlo.held_sub_split (c : Thread nD τ) arrs0 (V2 m outs c)]
  unfold owing
  iintro ⟨Ha, Hp, ⟨Hr, Hk⟩, Hb, Ho⟩
  isplitl [Ha Hr]; · isplitl [Ha] <;> iassumption
  isplitl [Hp]; · iexact Hp
  isplitl [Hk]; · iexact Hk
  isplitl [Hb] <;> iassumption

theorem pre1 (c : Dev nD) : iprop(StableHlo.held (c : Thread nD τ) (Pipeline.ucRefs τ sig) (V5 m outs c) ∗ E m outs 1 c) ⊢ (R1 m outs hl).pre c := by
  show iprop(StableHlo.held (c : Thread nD τ) (Pipeline.ucRefs τ sig) (V5 m outs c) ∗ (∃ r, prngReg c r) ∗ Comb.kept (V1 m) (V6 m outs) c ∗ semVal (cell c bar) 0 ∗ owing c (R₀ c))
    ⊢ (iprop(StableHlo.held (c : Thread nD τ) (Pipeline.arrRefs spec1) (V5 m outs c) ∗ (∃ r, prngReg c r)
      ∗ (StableHlo.held (c : Thread nD τ) (rest spec1) (V5 m outs c) ∗ Comb.kept (V1 m) (V6 m outs) c ∗ semVal (cell c bar) 0) ∗ ∃ Wd, owes (c : Thread nD τ) (R₀ c) Wd) : sProp 𝕄)
  rw [StableHlo.held_sub_split (c : Thread nD τ) arrs1 (V5 m outs c)]
  unfold owing
  iintro ⟨⟨Ha, Hr⟩, Hp, Hk, Hb, Ho⟩
  isplitl [Ha]; · iexact Ha
  isplitl [Hp]; · iexact Hp
  isplitl [Hr Hk Hb]
  · isplitl [Hr]; · iexact Hr
    isplitl [Hk] <;> iassumption
  iexact Ho

theorem post1 (c : Dev nD) : (R1 m outs hl).post c ⊢ iprop(StableHlo.held (c : Thread nD τ) (Pipeline.ucRefs τ sig) (V6 m outs c) ∗ E m outs 2 c) := by
  show (iprop(StableHlo.held (c : Thread nD τ) (Pipeline.arrRefs spec1) (V6 m outs c) ∗ (∃ r, prngReg c r)
      ∗ (StableHlo.held (c : Thread nD τ) (rest spec1) (V5 m outs c) ∗ Comb.kept (V1 m) (V6 m outs) c ∗ semVal (cell c bar) 0) ∗ ∃ Wd, owes (c : Thread nD τ) (R₀ c) Wd) : sProp 𝕄)
    ⊢ iprop(StableHlo.held (c : Thread nD τ) (Pipeline.ucRefs τ sig) (V6 m outs c) ∗ (∃ r, prngReg c r) ∗ Comb.kept (V1 m) (V6 m outs) c ∗ semVal (cell c bar) 0 ∗ owing c (R₀ c))
  rw [StableHlo.held_sub_split (c : Thread nD τ) arrs1 (V6 m outs c), StableHlo.held_congr (c : Thread nD τ) (S := rest spec1) (rest1 m outs c)]
  unfold owing
  iintro ⟨Ha, Hp, ⟨Hr, Hk, Hb⟩, Ho⟩
  isplitl [Ha Hr]; · isplitl [Ha] <;> iassumption
  isplitl [Hp]; · iexact Hp
  isplitl [Hk]; · iexact Hk
  isplitl [Hb] <;> iassumption

theorem pre2 (c : Dev nD) : iprop(StableHlo.held (c : Thread nD τ) (Pipeline.ucRefs τ sig) (V6 m outs c) ∗ E m outs 2 c) ⊢ (R2 m outs hl).pre c := by
  show iprop(StableHlo.held (c : Thread nD τ) (Pipeline.ucRefs τ sig) (V6 m outs c) ∗ (∃ r, prngReg c r) ∗ Comb.kept (V1 m) (V6 m outs) c ∗ semVal (cell c bar) 0 ∗ owing c (R₀ c))
    ⊢ (iprop(StableHlo.held (c : Thread nD τ) (Pipeline.arrRefs spec2) (V6 m outs c) ∗ (∃ r, prngReg c r)
      ∗ (StableHlo.held (c : Thread nD τ) (rest spec2) (V6 m outs c) ∗ semVal (cell c bar) 0) ∗ Comb.kept (V1 m) (V6 m outs) c ∗ ∃ Wd, owes (c : Thread nD τ) (0 + R₀ c) Wd) : sProp 𝕄)
  rw [StableHlo.held_sub_split (c : Thread nD τ) arrs2 (V6 m outs c), zero_add]
  unfold owing
  iintro ⟨⟨Ha, Hr⟩, Hp, Hk, Hb, Ho⟩
  isplitl [Ha]; · iexact Ha
  isplitl [Hp]; · iexact Hp
  isplitl [Hr Hb]; · isplitl [Hr] <;> iassumption
  isplitl [Hk] <;> iassumption

theorem post2 (c : Dev nD) : (R2 m outs hl).post c ⊢ iprop(StableHlo.held (c : Thread nD τ) (Pipeline.ucRefs τ sig) (V7 m outs c) ∗ E m outs 3 c) := by
  show (iprop(StableHlo.held (c : Thread nD τ) (Pipeline.arrRefs spec2) (V7 m outs c) ∗ (∃ r, prngReg c r)
      ∗ (StableHlo.held (c : Thread nD τ) (rest spec2) (V7 m outs c) ∗ semVal (cell c bar) 0) ∗ semVal (cell c bar2) 0 ∗ ∃ Wd, owes (c : Thread nD τ) 0 Wd) : sProp 𝕄)
    ⊢ iprop(StableHlo.held (c : Thread nD τ) (Pipeline.ucRefs τ sig) (V7 m outs c) ∗ unscopedSems0 c ∗ owing c 0)
  rw [StableHlo.held_sub_split (c : Thread nD τ) arrs2 (V7 m outs c), unscopedSems0_eq]
  unfold owing
  iintro ⟨Ha, -, ⟨Hr, Hb⟩, Hb', Ho⟩
  isplitl [Ha Hr]; · isplitl [Ha] <;> iassumption
  isplitl [Hb Hb']; · isplitl [Hb] <;> iassumption
  iexact Ho

/-! ## The run -/

/-- What device `c` ends with: the result, the arguments, the counters of its barriers. -/
def Ends (c : Dev nD) (s : MemSt nD τ sig (Elt F)) : Prop :=
  (s.mem ((c.tc : Thread nD τ).loc main_v38) = outs 7 main_v38 c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ ∀ sm : SemLoc sig, sm.isScoped .tc = false → s.sem ((c.tc : Thread nD τ), sm) = 0

theorem reads (c : Dev nD) (s' : Phys nD τ sig (Elt F)) :
    iprop((StableHlo.held (c : Thread nD τ) (Pipeline.ucRefs τ sig) (V7 m outs c) ∗ unscopedSems0 c) ∗ SI s')
      ⊢ (|={Set.univ}=> iprop(⌜Ends m outs c s'.mem⌝ ∗ SI s') : sProp 𝕄) := by
  unfold StableHlo.held
  iintro ⟨⟨Hh, Hu⟩, HSI⟩
  ihave Hr := (pointsTo_read_all (Pipeline.ucRefs τ sig) (fun b => ((c : Thread nD τ).1, b)) (V7 m outs c) s') $$ [Hh HSI]
  · isplitl [Hh] <;> iassumption
  icases Hr with ⟨%h, HSI⟩
  imod (Pipeline.unscopedSems0_read (X := unscopedSems0 c) (c := c) fupd_intro s') $$ [Hu HSI] with ⟨%hu, HSI⟩
  · isplitl [Hu] <;> iassumption
  imodintro
  isplitr
  · ipureintro
    exact ⟨⟨(h (Proc.devRef .tc main_v38) (Finset.mem_filter.mpr ⟨StableHlo.devRef_mem_tcRefs main_v38, by decide⟩)).trans (V7_at0 m outs c),
      (h (Proc.devRef .tc main_arg0) (Finset.mem_filter.mpr ⟨StableHlo.devRef_mem_tcRefs main_arg0, by decide⟩)).trans (V7_main_arg0 m outs c),
      (h (Proc.devRef .tc main_arg1) (Finset.mem_filter.mpr ⟨StableHlo.devRef_mem_tcRefs main_arg1, by decide⟩)).trans (V7_main_arg1 m outs c),
      (h (Proc.devRef .tc main_arg2) (Finset.mem_filter.mpr ⟨StableHlo.devRef_mem_tcRefs main_arg2, by decide⟩)).trans (V7_main_arg2 m outs c),
      (h (Proc.devRef .tc main_arg3) (Finset.mem_filter.mpr ⟨StableHlo.devRef_mem_tcRefs main_arg3, by decide⟩)).trans (V7_main_arg3 m outs c)⟩, hu⟩
  · iexact HSI

theorem E3 (c : Dev nD) : iprop(StableHlo.held (c : Thread nD τ) (Pipeline.ucRefs τ sig) (V7 m outs c) ∗ E m outs 3 c)
    ⊢ (iprop((StableHlo.held (c : Thread nD τ) (Pipeline.ucRefs τ sig) (V7 m outs c) ∗ unscopedSems0 c) ∗ ∃ W, owes (c : Thread nD τ) (0 : CellTallies nD τ sig Unit) W) : sProp 𝕄) := by
  show iprop(StableHlo.held (c : Thread nD τ) (Pipeline.ucRefs τ sig) (V7 m outs c) ∗ unscopedSems0 c ∗ owing c 0) ⊢ _
  unfold owing
  iintro ⟨Hh, Hu, Ho⟩
  isplitl [Hh Hu]; · isplitl [Hh] <;> iassumption
  iexact Ho

include hl in
set_option backward.isDefEq.respectTransparency.types false in
/-- From any memory with zero counters every fair execution on the sixteen devices ends; every device then holds the result
    and its arguments as they were, and every counter is zero. -/
theorem run_main (ρ : Dev nD → PrngReg) :
    θ_run defs (onTc (τ := τ) (main (F := F))) ⟨m, fun _ => 0, ρ⟩ (fun r => (∀ c, Ends m outs c r.2) ∧ r.2.sem = fun _ => 0) := by
  refine Pipeline.θ_run_regions_kit_dev_sems (pcfgs (F := F)) adm (pdats m outs) () cellOf_inj EP defs₀ 𝒱₀ L lv m ρ main
    (segs m outs 𝒱₀ L lv (E m outs) () (pdats m outs) (R0 m outs hl) (R1 m outs hl) (R2 m outs hl))
    (fun c Q => by
      rewrite [main_chain c, Seg.run_eq_chain,
        show (segs m outs 𝒱₀ L lv (E m outs) () (pdats m outs) (R0 m outs hl) (R1 m outs hl) (R2 m outs hl) c).map Seg.prog = [
          StableHlo.seq (hostOps0 c),
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) O₀ Pairs.L_of_ne
    (Pairs.park (BI.own (ER (Pairs.u₀ (proto (V1 m) (V6 m outs)))))) (u₀ m outs)
    (by
      unfold u₀
      iintro Hu
      ihave H := (ownU_pair _ _) $$ Hu
      icases H with ⟨HP, HX⟩
      imodintro
      isplitl [HP]; · iexact HP
      iapply (Pairs.bigSep_park _).2
      iexact HX)
    (T₀ := fun c => iprop(StableHlo.held (c : Thread nD τ) (Pipeline.ucRefs τ sig) (V0 m c) ∗ E m outs 0 c))
    (Tₙ := fun c => iprop(StableHlo.held (c : Thread nD τ) (Pipeline.ucRefs τ sig) (V7 m outs c) ∗ unscopedSems0 c))
    (hch := fun c => ⟨.rfl, pre0 m outs hl c, post0 m outs hl c, .rfl, .rfl, pre1 m outs hl c, (post1 m outs hl c).trans (pre2 m outs hl c),
      (post2 m outs hl c).trans (E3 m outs c)⟩)
    (hinit := ?_) (QY := Ends m outs) (hfin := reads m outs) (hQ := fun s h hs => ⟨h, sem_eq_zero hs fun c => (h c).2⟩)
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ Pairs.park (BI.own (ER (Pairs.u₀ (proto (V1 m) (V6 m outs))))) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c)
            ∗ Pairs.park (BI.own (ER (Pairs.u₀ (proto (V1 m) (V6 m outs))))) c)) : sProp 𝕄) := by
    rw [← bigSep_sep']
    exact bigSep_mono fun c _ => by rw [← Pipeline.unscopedBufs_held (Ix := Unit) (Name := ℕ) (U := UU) (Lvl := ℕ) c (V0 m c)]; exact BI.Entails.refl _
  have hjoin : iprop((bigSep Finset.univ fun c : Dev nD => StableHlo.held (c : Thread nD τ) (Pipeline.ucRefs τ sig) (V0 m c)) ∗ bigSep Finset.univ (E m outs 0))
      ⊢ (bigSep Finset.univ fun c : Dev nD => iprop(StableHlo.held (c : Thread nD τ) (Pipeline.ucRefs τ sig) (V0 m c) ∗ E m outs 0 c) : sProp 𝕄) :=
    Entails.of_eq (bigSep_sep' ..).symm
  iintro ⟨H, Hla⟩
  ihave H' := hsplit $$ H
  icases H' with ⟨Hh, Hr⟩
  imod (launch m outs ρ) $$ [Hr Hla] with HE
  · isplitl [Hr]; · iexact Hr
    iexact Hla
  imodintro
  iapply hjoin
  isplitl [Hh] <;> iassumption

end Cert.KernelIdeal.Run

end
-- ==== Proof.Frames.lean ====
/-
# The runs of the three programs

The kernel as printed and its ideal form end with their arguments unchanged and every counter at zero; so does the reference.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Frames

open Cert.KernelIdeal Cert.KernelIdeal.Gen
open Idealize.ShloMosaic Idealize.ShloMosaic.TcCoe Idealize.SL.Sem

/-- The kernel ends with its arguments unchanged and all semaphores at zero, for any float values. -/
theorem frame_any {F : FTy → Type} [FloatOps F] (m : (ℓ : Loc nD τ sig) → Buf (Elt F) ℓ) (ρ : Dev nD → PrngReg) :
    θ_run defs (onTc main) { mem := m, sem := fun _ => 0, prng := ρ } (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  obtain ⟨outs, hl⟩ := Run.exists_leaves m
  exact (θ_run defs _ _).mono (fun r h => ⟨fun c => (h.1 c).1.2, h.2⟩) (Run.run_main (F := F) m outs hl ρ)

theorem frame_ideal : Cert.quiescent_KernelIdeal := fun m ρ _ => frame_any (F := Ideal) m ρ

set_option maxHeartbeats 8000000 in
/-- The program as printed and its ideal form have the same bodies. -/
theorem bodies {F : FTy → Type} [FloatOps F] : (Cert.Kernel.defs₀ (F := F)) = defs₀ (F := F) := by
  unfold Cert.Kernel.defs₀ defs₀
  refine congrArg (Defs.onTc (nD := 16) (τ := Topo.v7x) (sig := Cert.Kernel.sig) (Λ := Cert.Kernel.Λ₀)) (funext fun l => funext fun a => ?_)
  match l, a with
  | 0, (t, s) => rfl
  | 1, (t, s) => rfl
  | 2, (t, s) => rfl

/-- And so the same table of bodies. -/
theorem tables {F : FTy → Type} [FloatOps F] : (Cert.Kernel.defs (F := F)) = defs (F := F) :=
  congrArg (Pipeline.defs (pcfgs (F := F))) bodies

set_option maxHeartbeats 8000000 in
theorem frame_kernel : Cert.quiescent_Kernel := fun m ρ _ => by
  rw [tables]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Frames

end
-- ==== Proof.Spec.lean ====
/-
# The mixture of experts, token by token

What the layer computes for one token, as sums over the experts and over the units of the hidden layer: each token's two
best experts and their weights, the order in which an expert takes its tokens, and which of them it still has room for.
Then the facts about lists and sums that turn a sorted list of tokens, read and written with one-hot products, into the
choice of the first 320 tokens.
-/
module

public import Idealize.ShloMosaic.PureOps.ShapeOps
public import Idealize.ShloMosaic.PureOps.Ideal
public import Idealize.ShloMosaic.Lib.SortFacts

@[expose] public section

noncomputable section

namespace Cert.Spec

open Idealize.ShloMosaic

/-! ## A token's experts -/

/-- The two experts of the largest gates, of equal gates the first. -/
def best (g : Fin 16 → EReal) (i : Fin 2) : Fin 16 :=
  sortedFrom (fun k k' => FloatOps.cmpfTotal (F := Ideal) (φ := .f32) .gt (g k) (g k') == 1#1) ⟨i.val, by have := i.isLt; omega⟩

/-- The largest of the two gates. -/
def top (g : Fin 16 → EReal) : EReal := Finset.univ.fold max (Ideal.ofBits .f32 0xFF800000#32) fun k => g (best g k)

/-- A chosen expert's weight. -/
def soft (g : Fin 16 → EReal) (i : Fin 2) : EReal :=
  Ideal.div (Ideal.exp (g (best g i) - top g)) (∑ k, Ideal.exp (g (best g k) - top g))

/-- Choice `i` of a token is expert `b`. -/
def picks (g : Fin 16 → EReal) (b : Fin 16) (i : Fin 2) : Prop := best g i = b
instance (g : Fin 16 → EReal) (b : Fin 16) (i : Fin 2) : Decidable (picks g b i) := inferInstanceAs (Decidable (best g i = b))

/-- A token uses expert `b`. -/
def uses (g : Fin 16 → EReal) (b : Fin 16) : Prop := ∃ i, picks g b i
instance (g : Fin 16 → EReal) (b : Fin 16) : Decidable (uses g b) := inferInstanceAs (Decidable (∃ i, picks g b i))

/-- The weight a token gives expert `b`. -/
def weight (g : Fin 16 → EReal) (b : Fin 16) : EReal := ∑ i, if picks g b i then soft g i else 0

theorem weight_unused (g : Fin 16 → EReal) (b : Fin 16) (h : ¬ uses g b) : weight g b = 0 := by
  unfold weight
  refine Finset.sum_eq_zero fun i _ => if_neg fun hi => h ⟨i, hi⟩

/-- When expert `b` takes token `t`: it takes the tokens of its own half first. -/
def turn (b : Fin 16) (t : Fin 2048) : ℕ := if b.val < 8 then t.val else (t.val + 1024) % 2048

/-- Expert `b` serves token `t`: the token uses it, and fewer than 320 that do come before. -/
def served (G : Fin 2048 → Fin 16 → EReal) (b : Fin 16) (t : Fin 2048) : Prop :=
  uses (G t) b ∧ (Finset.univ.filter fun t' => uses (G t') b ∧ turn b t' < turn b t).card < 320
instance (G : Fin 2048 → Fin 16 → EReal) (b : Fin 16) (t : Fin 2048) : Decidable (served G b t) :=
  inferInstanceAs (Decidable (_ ∧ _))

/-- An expert that at most 320 tokens use serves every one of them. -/
theorem served_of_few (G : Fin 2048 → Fin 16 → EReal) (b : Fin 16) (t : Fin 2048) (h : (Finset.univ.filter fun t' => uses (G t') b).card ≤ 320) (hu : uses (G t) b) : served G b t := by
  refine ⟨hu, lt_of_lt_of_le (Finset.card_lt_card (Finset.ssubset_iff_of_subset ?_ |>.mpr ⟨t, ?_, ?_⟩)) h⟩
  · intro t' ht'
    simp only [Finset.mem_filter, Finset.mem_univ, true_and] at ht' ⊢
    exact ht'.1
  · simp only [Finset.mem_filter, Finset.mem_univ, true_and]
    exact hu
  · simp only [Finset.mem_filter, Finset.mem_univ, true_and, lt_irrefl, and_false, not_false_eq_true]

/-- What an expert with the weights `A`, `B` makes of a token. -/
def apply (A : Fin 1024 → Fin 4096 → EReal) (B : Fin 4096 → Fin 1024 → EReal) (x : Fin 1024 → EReal) (d : Fin 1024) : EReal :=
  ∑ f, max (∑ k, x k * A k f) 0 * B f d

/-! ## The order of a device -/

/-- The token at position `s` of the order of the devices of half `h`, whose own tokens come first. -/
def glob (h : ℕ) (s : Fin 2048) : Fin 2048 := ⟨(s.val + 1024 * h) % 2048, Nat.mod_lt _ (by omega)⟩

theorem turn_glob (h : ℕ) (hh : h < 2) (b : Fin 16) (hb : b.val / 8 = h) (s : Fin 2048) : turn b (glob h s) = s.val := by
  unfold turn glob
  have := s.isLt
  have := b.isLt
  split
  · rename_i h8; obtain rfl : h = 0 := by omega
    show (s.val + 1024 * 0) % 2048 = s.val; omega
  · rename_i h8; obtain rfl : h = 1 := by omega
    show ((s.val + 1024 * 1) % 2048 + 1024) % 2048 = s.val; omega

theorem glob_glob (h : ℕ) (hh : h < 2) (s : Fin 2048) : glob h (glob h s) = s := by
  refine Fin.ext ?_
  show ((s.val + 1024 * h) % 2048 + 1024 * h) % 2048 = s.val
  have := s.isLt
  omega

/-- How many of the positions before `s` are marked. -/
def rank (U : Fin 2048 → Bool) (s : Fin 2048) : ℕ := (Finset.univ.filter fun s' => U s' = true ∧ s' < s).card

theorem rank_eq (G : Fin 2048 → Fin 16 → EReal) (h : ℕ) (hh : h < 2) (b : Fin 16) (hb : b.val / 8 = h) (s : Fin 2048) :
    rank (fun s => decide (uses (G (glob h s)) b)) s
      = (Finset.univ.filter fun t' => uses (G t') b ∧ turn b t' < turn b (glob h s)).card := by
  unfold rank
  refine Finset.card_bij (fun s' _ => glob h s') ?_ ?_ ?_
  · intro s' hs'
    simp only [Finset.mem_filter, Finset.mem_univ, true_and, decide_eq_true_eq] at hs' ⊢
    rw [turn_glob h hh b hb, turn_glob h hh b hb]
    exact hs'
  · intro a _ a' _ e
    rw [← glob_glob h hh a, e, glob_glob h hh]
  · intro t' ht'
    simp only [Finset.mem_filter, Finset.mem_univ, true_and, decide_eq_true_eq] at ht'
    refine ⟨glob h t', ?_, glob_glob h hh t'⟩
    simp only [Finset.mem_filter, Finset.mem_univ, true_and, decide_eq_true_eq, glob_glob h hh t']
    refine ⟨ht'.1, ?_⟩
    have h2 := ht'.2
    rw [turn_glob h hh b hb, ← glob_glob h hh t', turn_glob h hh b hb] at h2
    exact h2

/-! ## Sorting the marked positions to the front -/

theorem insertBefore_marks {ι : Type} (U : ι → Bool) (a : ι) (ha : U a = false) (l l' : List ι) (hl : ∀ b ∈ l, U b = true) (hl' : ∀ b ∈ l', U b = false) :
    insertBefore (fun k k' => U k && !U k') a (l ++ l') = l ++ a :: l' := by
  induction l with
  | nil =>
    cases l' with
    | nil => rfl
    | cons b l' => simp [insertBefore, hl' b (by simp)]
  | cons b l ih =>
    have hb : U b = true := hl b (by simp)
    simp only [List.cons_append, insertBefore, hb, ha, Bool.not_false, Bool.and_self, if_true]
    rw [ih fun b hb => hl b (by simp [hb])]

/-- The marked come first, each part in its order. -/
theorem stableSort_marks {ι : Type} (U : ι → Bool) (l : List ι) :
    stableSort (fun k k' => U k && !U k') l = l.filter U ++ l.filter fun k => !U k := by
  induction l with
  | nil => rfl
  | cons a l ih =>
    unfold stableSort
    rw [ih]
    cases ha : U a with
    | false =>
      rw [insertBefore_marks U a ha _ _ (fun b hb => (List.mem_filter.mp hb).2) (fun b hb => by simpa using (List.mem_filter.mp hb).2)]
      simp [List.filter_cons, ha]
    | true =>
      have : ∀ m : List ι, insertBefore (fun k k' => U k && !U k') a m = a :: m := fun m => by
        cases m <;> simp [insertBefore, ha]
      rw [this]
      simp [List.filter_cons, ha]

theorem length_marks (U : Fin 2048 → Bool) (s : Fin 2048) : (((List.finRange 2048).take s.val).filter U).length = rank U s := by
  have hnd : (((List.finRange 2048).take s.val).filter U).Nodup := ((List.nodup_finRange 2048).sublist (List.take_sublist _ _)).filter _
  rw [← List.toFinset_card_of_nodup hnd]
  unfold rank
  congr 1
  ext a
  simp only [List.mem_toFinset, List.mem_filter, Finset.mem_filter, Finset.mem_univ, true_and]
  rw [and_comm]
  refine and_congr_right fun _ => ?_
  rw [List.mem_take_iff_getElem]
  constructor
  · rintro ⟨i, hi, rfl⟩
    simp only [List.length_finRange] at hi
    rw [List.getElem_finRange]
    exact Fin.lt_def.mpr (by simpa using lt_of_lt_of_le hi (min_le_left _ _))
  · intro h
    refine ⟨a.val, by simp only [List.length_finRange]; have := a.isLt; have := Fin.lt_def.mp h; omega, ?_⟩
    rw [List.getElem_finRange]; rfl

/-- A marked position's place after the sort is its rank. -/
theorem sorted_rank (U : Fin 2048 → Bool) (s : Fin 2048) (hs : U s = true) (h : rank U s < 2048) :
    sortedFrom (fun k k' => U k && !U k') ⟨rank U s, h⟩ = s := by
  unfold sortedFrom
  have key : sortPositions 2048 (fun k k' => U k && !U k')
      = ((List.finRange 2048).take s.val).filter U ++ s :: (((List.finRange 2048).drop (s.val + 1)).filter U ++ (List.finRange 2048).filter fun k => !U k) := by
    unfold sortPositions
    rw [stableSort_marks]
    have e : List.finRange 2048 = (List.finRange 2048).take s.val ++ s :: (List.finRange 2048).drop (s.val + 1) := by
      conv_lhs => rw [← List.take_append_drop s.val (List.finRange 2048)]
      congr 1
      rw [List.drop_eq_getElem_cons (by simp)]
      congr 1
      simp
    conv_lhs => lhs; rw [e, List.filter_append, List.filter_cons, if_pos hs]
    rw [List.append_assoc, List.cons_append]
  show (sortPositions 2048 _)[rank U s]'(by rw [length_sortPositions]; exact h) = s
  simp only [key]
  rw [List.getElem_append_right (by rw [length_marks])]
  simp only [length_marks, Nat.sub_self, List.getElem_cons_zero]

theorem rank_lt (U : Fin 2048 → Bool) (s : Fin 2048) : rank U s < 2048 := by
  rw [← length_marks]
  refine lt_of_le_of_lt (List.length_filter_le _ _) ?_
  rw [List.length_take]
  exact lt_of_le_of_lt (min_le_left _ _) s.isLt

theorem sorted_iff (U : Fin 2048 → Bool) (s p : Fin 2048) (hs : U s = true) :
    sortedFrom (fun k k' => U k && !U k') p = s ↔ p.val = rank U s := by
  constructor
  · intro h
    have := sortedFrom_injective _ (h.trans (sorted_rank U s hs (rank_lt U s)).symm)
    exact congrArg Fin.val this
  · intro h
    rw [show p = ⟨rank U s, rank_lt U s⟩ from Fin.ext h]
    exact sorted_rank U s hs _

/-! ## Reading and writing by one-hot products -/

/-- One if the two agree, else zero. -/
def same (a b : ℕ) : EReal := if a = b then 1 else 0

/-- The sum over the 320 places of an expert's list picks the token's own value, if the token is marked and has a place. -/
theorem sum_places (U : Fin 2048 → Bool) (w : EReal) (s : Fin 2048) (hw : U s = false → w = 0) (y : Fin 2048 → EReal) :
    ∑ p : Fin 320, same (sortedFrom (fun k k' => U k && !U k') ⟨p.val, by have := p.isLt; omega⟩).val s.val * w
        * y (sortedFrom (fun k k' => U k && !U k') ⟨p.val, by have := p.isLt; omega⟩)
      = (if U s = true ∧ rank U s < 320 then w else 0) * y s := by
  by_cases hs : U s = true
  · by_cases hr : rank U s < 320
    · rw [if_pos ⟨hs, hr⟩, Finset.sum_eq_single (⟨rank U s, hr⟩ : Fin 320)]
      · rw [sorted_rank U s hs]
        simp [same]
      · intro p _ hp
        have : ¬ sortedFrom (fun k k' => U k && !U k') ⟨p.val, by have := p.isLt; omega⟩ = s := fun h =>
          hp (Fin.ext ((sorted_iff U s _ hs).mp h))
        rw [same, if_neg fun h => this (Fin.ext h), zero_mul, zero_mul]
      · intro h; exact absurd (Finset.mem_univ _) h
    · rw [if_neg fun h => hr h.2, zero_mul]
      refine Finset.sum_eq_zero fun p _ => ?_
      have : ¬ sortedFrom (fun k k' => U k && !U k') ⟨p.val, by have := p.isLt; omega⟩ = s := fun h => by
        have := (sorted_iff U s _ hs).mp h
        have := p.isLt
        simp only at *
        omega
      rw [same, if_neg fun h => this (Fin.ext h), zero_mul, zero_mul]
  · rw [if_neg fun h => hs h.1, zero_mul, hw (by simpa using hs)]
    exact Finset.sum_eq_zero fun p _ => by rw [mul_zero, zero_mul]

/-- Reading a row of the two halves by one-hot products. -/
theorem sum_rows (q : Fin 2048) (x : Fin 2048 → EReal) :
    ∑ i : Fin 1024, same q.val i.val * x ⟨i.val, by have := i.isLt; omega⟩ + ∑ i : Fin 1024, same q.val (1024 + i.val) * x ⟨1024 + i.val, by have := i.isLt; omega⟩ = x q := by
  by_cases h : q.val < 1024
  · rw [Finset.sum_eq_single (⟨q.val, h⟩ : Fin 1024), Finset.sum_eq_zero, add_zero]
    · simp [same]
    · intro i _; rw [same, if_neg (by omega), zero_mul]
    · intro i _ hi; rw [same, if_neg fun e => hi (Fin.ext e.symm), zero_mul]
    · intro h; exact absurd (Finset.mem_univ _) h
  · have hq := q.isLt
    rw [Finset.sum_eq_zero, zero_add, Finset.sum_eq_single (⟨q.val - 1024, by omega⟩ : Fin 1024)]
    · rw [same, if_pos (by show q.val = 1024 + (q.val - 1024); omega), one_mul]
      congr 1
      exact Fin.ext (by show 1024 + (q.val - 1024) = q.val; omega)
    · intro i _ hi; rw [same, if_neg fun e => hi (Fin.ext (by show i.val = q.val - 1024; omega)), zero_mul]
    · intro h; exact absurd (Finset.mem_univ _) h
    · intro i _; have := i.isLt; rw [same, if_neg (by omega), zero_mul]

end Cert.Spec
-- ==== Proof.TopTwo.lean ====
/-
# The two largest gates and their weights

The stable selection of a row's two largest entries, and the normalized exponentials of what it selects, at an index. The
shapes are both programs', so the same facts serve both.
-/
module

public import proofs.«01_k».proof.Proof.Spec
public import proofs.«01_k».proof.Proof.Gen.ReferenceIdeal
public import Idealize.ShloMosaic.Lib.Tactic.CleanTypes
public import Idealize.ShloMosaic.Lib.Pointwise

@[expose] public section

set_option maxRecDepth 65536

noncomputable section

namespace Cert.TopTwo

open Cert.ReferenceIdeal Cert.ReferenceIdeal.Gen
open Idealize.ShloMosaic Idealize.ShloMosaic.TcCoe

def wide (i : Fin 2) : Fin 16 := ⟨i.val, by have := i.isLt; omega⟩

theorem along_at (t : Fin 2048) (a k : Fin 16) : (ix2 t a : S2048x16.Idx).along 1 k = ix2 t k := by
  funext b
  unfold Shape.Idx.along
  fin_cases b
  · exact Function.update_of_ne (by decide) _ _
  · exact Function.update_self _ _ _

theorem slice_at {α : Type} (v : S2048x16.Idx → α) (h : S2048x16.Slices (fun _ => 0) S2048x2) (t : Fin 2048) (i : Fin 2) :
    extractStridedSlice S2048x2 (fun _ => 0) v h (ix2 t i) = v (ix2 t (wide i)) := by
  unfold extractStridedSlice
  congr 1
  funext a
  refine Fin.ext ?_
  fin_cases a <;> simp [ix2, wide]

/-- The position on its axis. -/
def place : IVec S2048x16 32 := fun i => if hd : 1 < S2048x16.rank then iotaInDim S2048x16 32 ⟨1, hd⟩ i else 0#32

theorem place_at (t : Fin 2048) (k : Fin 16) : place (ix2 t k) = BitVec.ofNat 32 k.val := by
  unfold place
  rw [dif_pos (by decide)]
  rfl

/-- The order of the gates of a row. -/
def before (g : FVec Ideal S2048x16 .f32) (t : Fin 2048) (k k' : Fin 16) : Bool :=
  FloatOps.cmpfTotal (F := Ideal) (φ := .f32) .gt (g (ix2 t k)) (g (ix2 t k')) == 1#1

theorem sort_fst (g : FVec Ideal S2048x16 .f32) (t : Fin 2048) (a : Fin 16) :
    (Host.sort2 S2048x16 1 (fun l r => FloatOps.cmpfTotal (F := Ideal) (φ := .f32) .gt l.1 r.1) g place).1 (ix2 t a) = g (ix2 t (sortedFrom (before g t) a)) := by
  unfold Host.sort2
  rw [dif_pos (by decide)]
  refine (congrArg g (along_at t a _)).trans (congrArg (fun B => g (ix2 t (sortedFrom (n := 16) B a))) ?_)
  funext k k'
  exact congrArg₂ (fun u v => FloatOps.cmpfTotal (F := Ideal) (φ := .f32) .gt u v == 1#1) (congrArg g (along_at t a k)) (congrArg g (along_at t a k'))

theorem sort_snd (g : FVec Ideal S2048x16 .f32) (t : Fin 2048) (a : Fin 16) :
    (Host.sort2 S2048x16 1 (fun l r => FloatOps.cmpfTotal (F := Ideal) (φ := .f32) .gt l.1 r.1) g place).2 (ix2 t a) = BitVec.ofNat 32 (sortedFrom (before g t) a).val := by
  unfold Host.sort2
  rw [dif_pos (by decide)]
  refine (congrArg place (along_at t a _)).trans ((place_at t _).trans (congrArg (fun B => BitVec.ofNat 32 (sortedFrom (n := 16) B a).val) ?_))
  funext k k'
  exact congrArg₂ (fun u v => FloatOps.cmpfTotal (F := Ideal) (φ := .f32) .gt u v == 1#1) (congrArg g (along_at t a k)) (congrArg g (along_at t a k'))

/-- The values selected. -/
theorem fst_at (g : FVec Ideal S2048x16 .f32) (h : S2048x16.Slices (fun _ => 0) S2048x2) (t : Fin 2048) (i : Fin 2) :
    (Host.topK S2048x2 1 (FloatOps.cmpfTotal (F := Ideal) (φ := .f32) .gt) g h).1 (ix2 t i) = g (ix2 t (Cert.Spec.best (fun k => g (ix2 t k)) i)) :=
  (slice_at (Host.sort2 S2048x16 1 (fun l r => FloatOps.cmpfTotal (F := Ideal) (φ := .f32) .gt l.1 r.1) g place).1 h t i).trans (sort_fst g t (wide i))

/-- The experts selected. -/
theorem snd_at (g : FVec Ideal S2048x16 .f32) (h : S2048x16.Slices (fun _ => 0) S2048x2) (t : Fin 2048) (i : Fin 2) :
    (Host.topK S2048x2 1 (FloatOps.cmpfTotal (F := Ideal) (φ := .f32) .gt) g h).2 (ix2 t i) = BitVec.ofNat 32 (Cert.Spec.best (fun k => g (ix2 t k)) i).val :=
  (slice_at (Host.sort2 S2048x16 1 (fun l r => FloatOps.cmpfTotal (F := Ideal) (φ := .f32) .gt l.1 r.1) g place).2 h t i).trans (sort_snd g t (wide i))

/-- The selected values, exponentiated and divided by their sum. -/
def softv (v : FVec Ideal S2048x2 .f32) : FVec Ideal S2048x2 .f32 :=
  Host.divf (Host.exp (subf v (broadcastInDim S2048x2 ![0, 1] facts.bcast_S2048x1_S2048x2_0_1 (broadcastInDim S2048x1 ![0] facts.bcast_S2048_S2048x1_0 (Host.reduce FloatOps.maximumf v (constant S_ .f32 0xFF800000#32) facts.reducesTo_S2048x2_S2048_d1 facts.h_S_)))))
    (broadcastInDim S2048x2 ![0, 1] facts.bcast_S2048x1_S2048x2_0_1 (broadcastInDim S2048x1 ![0] facts.bcast_S2048_S2048x1_0 (Host.reduceAdd (Host.exp (subf v (broadcastInDim S2048x2 ![0, 1] facts.bcast_S2048x1_S2048x2_0_1 (broadcastInDim S2048x1 ![0] facts.bcast_S2048_S2048x1_0 (Host.reduce FloatOps.maximumf v (constant S_ .f32 0xFF800000#32) facts.reducesTo_S2048x2_S2048_d1 facts.h_S_))))) (constant S_ .f32 0x00000000#32) facts.reducesTo_S2048x2_S2048_d1 facts.h_S_)))

theorem softv_at (v : FVec Ideal S2048x2 .f32) (t : Fin 2048) (i : Fin 2) : softv v (ix2 t i) =
    Ideal.div (Ideal.exp (v (ix2 t i) - Finset.fold max (Ideal.ofBits FTy.f32 0xFF800000#32) (fun x => v (ix2 t x)) Finset.univ))
      (∑ x, Ideal.exp (v (ix2 t x) - Finset.fold max (Ideal.ofBits FTy.f32 0xFF800000#32) (fun x => v (ix2 t x)) Finset.univ)) := by
  unfold softv
  clean_types
  pointwise

/-- The weights. -/
theorem soft_at (g : FVec Ideal S2048x16 .f32) (h : S2048x16.Slices (fun _ => 0) S2048x2) (t : Fin 2048) (i : Fin 2) :
    softv (Host.topK S2048x2 1 (FloatOps.cmpfTotal (F := Ideal) (φ := .f32) .gt) g h).1 (ix2 t i) = Cert.Spec.soft (fun k => g (ix2 t k)) i := by
  rw [softv_at]
  simp only [fst_at]
  rfl

end Cert.TopTwo
-- ==== Proof.Marks.lean ====
/-
# One-bit words that stand for propositions
-/
module

public import Idealize.ShloMosaic.PureOps.Ideal
public import Idealize.ShloMosaic.Lib.Pointwise
public import Idealize.ShloMosaic.Lib.IdealHost

@[expose] public section

noncomputable section

namespace Cert.Bits

open Idealize.ShloMosaic

/-- The one-bit word of a proposition. -/
def bit (p : Prop) [Decidable p] : BitVec 1 := if p then 1#1 else 0#1

theorem bit_congr {p q : Prop} [Decidable p] [Decidable q] (h : p ↔ q) : bit p = bit q := by
  unfold bit
  by_cases hp : p
  · rw [if_pos hp, if_pos (h.mp hp)]
  · rw [if_neg hp, if_neg fun hq => hp (h.mpr hq)]

theorem ofBool_decide (p : Prop) [Decidable p] : BitVec.ofBool (decide p) = bit p := by
  unfold bit
  by_cases hp : p <;> simp [hp]

theorem cmpi_eq (a b : ℕ) (ha : a < 2 ^ 32) (hb : b < 2 ^ 32) : IntOp.cmpi .eq (BitVec.ofNat 32 a) (BitVec.ofNat 32 b) = bit (a = b) := by
  rw [← ofBool_decide]
  show BitVec.ofBool (BitVec.ofNat 32 a == BitVec.ofNat 32 b) = _
  congr 1
  rw [beq_eq_decide]
  refine decide_eq_decide.mpr ⟨fun h => ?_, fun h => by rw [h]⟩
  have := congrArg BitVec.toNat h
  rwa [BitVec.toNat_ofNat, BitVec.toNat_ofNat, Nat.mod_eq_of_lt ha, Nat.mod_eq_of_lt hb] at this

theorem toInt_eq (a : ℕ) (ha : a < 2 ^ 31) : (BitVec.ofNat 32 a).toInt = a := by
  rw [BitVec.toInt_eq_toNat_of_lt (by rw [BitVec.toNat_ofNat]; omega), BitVec.toNat_ofNat, Nat.mod_eq_of_lt (by omega)]

theorem cmpi_slt (a b : ℕ) (ha : a < 2 ^ 31) (hb : b < 2 ^ 31) : IntOp.cmpi .slt (BitVec.ofNat 32 a) (BitVec.ofNat 32 b) = bit (a < b) := by
  rw [← ofBool_decide]
  show BitVec.ofBool ((BitVec.ofNat 32 a).slt (BitVec.ofNat 32 b)) = _
  congr 1
  rw [BitVec.slt]
  refine decide_eq_decide.mpr ?_
  rw [toInt_eq a ha, toInt_eq b hb]
  omega

theorem select_bit {α : Type} (p : Prop) [Decidable p] (a b : α) : Scalar.select (bit p) a b = if p then a else b := by
  unfold bit
  by_cases hp : p
  · rw [if_pos hp, if_pos hp]; rfl
  · rw [if_neg hp, if_neg hp]; rfl

theorem and_bit (p q : Prop) [Decidable p] [Decidable q] : IntOp.andi (bit p) (bit q) = bit (p ∧ q) := by
  unfold bit
  by_cases hp : p <;> by_cases hq : q <;> simp [hp, hq, IntOp.andi]

theorem fold_bit (p : Fin 2 → Prop) [DecidablePred p] : Finset.fold IntOp.ori (0#1) (fun x => bit (p x)) Finset.univ = bit (∃ i, p i) := by
  rw [show (Finset.univ : Finset (Fin 2)) = {0, 1} from rfl, Finset.fold_insert (by decide), Finset.fold_singleton]
  unfold bit
  by_cases h0 : p 0 <;> by_cases h1 : p 1 <;> simp [h0, h1, IntOp.ori, Fin.exists_fin_two]

/-- Ones summed over what a proposition holds of count it. -/
theorem sum_bits {n : ℕ} (p : Fin n → Prop) [DecidablePred p] : ∑ x, (if p x then (1 : EReal) else 0) = ((Finset.univ.filter p).card : EReal) := by
  rw [Finset.sum_ite, Finset.sum_const_zero, add_zero, Finset.sum_const, nsmul_one]

theorem bits_320 : Ideal.ofBits .f32 0x43A00000#32 = ((320 : ℕ) : EReal) := by
  rw [show ((320 : ℕ) : EReal) = ((320 : ℝ) : EReal) by norm_cast]
  simp [Ideal.ofBits, Ideal.ieee, -EReal.coe_mul]; norm_num

theorem room (k : ℕ) : BitVec.ofBool (decide ((k : EReal) < Ideal.ofBits FTy.f32 0x43A00000#32)) = bit (k < 320) := by
  rw [ofBool_decide, bits_320]
  exact bit_congr (by exact_mod_cast Iff.rfl)

end Cert.Bits
-- ==== Proof.HostStages.lean ====
/-
# The kernel's choice of tokens, stage by stage

Between its exchange and its experts the kernel lists, for each of a device's eight experts, the tokens that use it, and the
weight each token gives it. Here every step of that is read at an index.
-/
module

public import proofs.«01_k».proof.Proof.TopTwo
public import proofs.«01_k».proof.Proof.Marks
public import proofs.«01_k».proof.Proof.Gen.KernelIdeal

@[expose] public section

set_option maxRecDepth 65536

noncomputable section

namespace Cert.HostStages

open Cert.KernelIdeal Cert.KernelIdeal.Gen Cert.Bits
open Idealize.ShloMosaic Idealize.ShloMosaic.TcCoe

/-- The numbers of the eight experts of a device whose half is the word `k`. -/
def numbers (k : IVec S_ 32) : IVec S8 32 := addi (broadcastInDim S8 ![] bcast_S_S8 (muli k (constantI S_ 32 8#32))) (iotaInDim S8 32 0)

theorem numbers_word (k : IVec S_ 32) (e : Fin 8) : numbers k (ix1 e) = IntOp.addi (IntOp.muli (k ix0) 8#32) (BitVec.ofNat 32 e.val) := by
  unfold numbers
  clean_types
  pointwise

/-- The half a device is in, as the program computes it. -/
def halfWord (w : BitVec 32) : IVec S_ 32 := id (Host.remui (Host.divui (constantI S_ 32 w) (constantI S_ 32 8#32)) (constantI S_ 32 2#32))

theorem halfWord_at (w : BitVec 32) : halfWord w ix0 = IntOp.remui .host (IntOp.divui .host w 8#32) 2#32 := by
  rfl

theorem number_word : ∀ (c : Fin 16) (e : Fin 8), IntOp.addi (IntOp.muli (IntOp.remui .host (IntOp.divui .host (BitVec.ofNat 32 c.val) 8#32) 2#32) 8#32) (BitVec.ofNat 32 e.val) = BitVec.ofNat 32 (8 * (c.val / 8) + e.val) := by
  decide +kernel

/-- The expert at place `e` of the half `h`. -/
def expertNo (h : ℕ) (hh : h < 2) (e : Fin 8) : Fin 16 := ⟨8 * h + e.val, by have := e.isLt; omega⟩

/-- Which choice of which token is which expert. -/
def mask (ix : IVec S2048x2 32) (n : IVec S8 32) : IVec S8x2048x2 1 :=
  cmpi .eq (broadcastInDim S8x2048x2 ![0, 1, 2] bcast_S1x2048x2_S8x2048x2_0_1_2 (broadcastInDim S1x2048x2 ![1, 2] bcast_S2048x2_S1x2048x2_1_2 ix))
    (broadcastInDim S8x2048x2 ![0, 1, 2] bcast_S8x1x1_S8x2048x2_0_1_2 (broadcastInDim S8x1x1 ![0] bcast_S8_S8x1x1_0 n))

theorem mask_word (ix : IVec S2048x2 32) (n : IVec S8 32) (e : Fin 8) (s : Fin 2048) (i : Fin 2) :
    mask ix n (ix3 e s i) = IntOp.cmpi .eq (ix (ix2 s i)) (n (ix1 e)) := by
  unfold mask
  clean_types
  pointwise

theorem mask_at (g : FVec Ideal S2048x16 .f32) (ix : IVec S2048x2 32) (n : IVec S8 32) (b : Fin 8 → Fin 16)
    (hix : ∀ s i, ix (ix2 s i) = BitVec.ofNat 32 (Cert.Spec.best (fun k => g (ix2 s k)) i).val) (hn : ∀ e, n (ix1 e) = BitVec.ofNat 32 (b e).val) (e : Fin 8) (s : Fin 2048) (i : Fin 2) :
    mask ix n (ix3 e s i) = bit (Cert.Spec.picks (fun k => g (ix2 s k)) (b e) i) := by
  rw [mask_word, hix, hn, cmpi_eq _ _ (by have := (Cert.Spec.best (fun k => g (ix2 s k)) i).isLt; omega) (by have := (b e).isLt; omega)]
  exact bit_congr Fin.ext_iff.symm

/-- Which token uses which expert, negated: what the lists are sorted by. -/
def unused (k : IVec S8x2048x2 1) : IVec S8x2048 1 := noti (Host.reduce IntOp.ori k (constantI S_ 1 0#1) reducesTo_S8x2048x2_S8x2048_d2 h_S_)

theorem unused_at (k : IVec S8x2048x2 1) (e : Fin 8) (s : Fin 2048) (p : Fin 2 → Prop) [DecidablePred p] (hk : ∀ i, k (ix3 e s i) = bit (p i)) :
    unused k (ix2 e s) = ~~~ bit (∃ i, p i) := by
  unfold unused
  clean_types
  pointwise
  simp only [hk, fold_bit p]
  first | done | rfl

theorem float_bit (p : Prop) [Decidable p] : (((bit p).toNat : ℝ) : EReal) = if p then 1 else 0 := by
  unfold bit
  by_cases hp : p <;> simp [hp]

/-- The weight a token gives an expert. -/
def weights (k : IVec S8x2048x2 1) (w : FVec Ideal S2048x2 .f32) : FVec Ideal S8x2048 .f32 :=
  Host.reduceAdd (mulf (broadcastInDim S8x2048x2 ![0, 1, 2] bcast_S1x2048x2_S8x2048x2_0_1_2 (broadcastInDim S1x2048x2 ![1, 2] bcast_S2048x2_S1x2048x2_1_2 w)) (uitofp .f32 k))
    (constant S_ .f32 0x00000000#32) reducesTo_S8x2048x2_S8x2048_d2 h_S_

theorem weights_at (k : IVec S8x2048x2 1) (w : FVec Ideal S2048x2 .f32) (e : Fin 8) (s : Fin 2048) (p : Fin 2 → Prop) [DecidablePred p] (hk : ∀ i, k (ix3 e s i) = bit (p i)) :
    weights k w (ix2 e s) = ∑ i, if p i then w (ix2 s i) else 0 := by
  have hf : ∀ i, (FloatOps.uitofp .f32 (bit (p i)) : Ideal .f32) = (if p i then 1 else 0 : EReal) := fun i => float_bit (p i)
  unfold weights
  clean_types
  pointwise
  simp only [hk, hf, mul_ite, mul_one, mul_zero]

/-- The tokens of each expert, those that use it first. -/
def order (u : IVec S8x2048 1) : IVec S8x2048 32 := (Host.sort2 S8x2048 1 comparator_i1_i32_d1 u (iotaInDim S8x2048 32 1)).2

theorem along_at (e : Fin 8) (a k : Fin 2048) : (ix2 e a : S8x2048.Idx).along 1 k = ix2 e k := by
  funext b
  unfold Shape.Idx.along
  fin_cases b
  · exact Function.update_of_ne (by decide) _ _
  · exact Function.update_self _ _ _

theorem before_bits (p q : Bool) : (IntOp.cmpi .ult (~~~ bit (p = true)) (~~~ bit (q = true)) == 1#1) = (p && !q) := by
  cases p <;> cases q <;> decide

theorem order_at (u : IVec S8x2048 1) (e : Fin 8) (U : Fin 2048 → Bool) (hu : ∀ s, u (ix2 e s) = ~~~ bit (U s = true)) (a : Fin 2048) :
    order u (ix2 e a) = BitVec.ofNat 32 (sortedFrom (fun k k' => U k && !U k') a).val := by
  unfold order Host.sort2
  rw [dif_pos (by decide)]
  refine (congrArg (iotaInDim S8x2048 32 1) (along_at e a _)).trans ?_
  show BitVec.ofNat 32 _ = _
  refine congrArg (fun B => BitVec.ofNat 32 (sortedFrom (n := 2048) B a).val) ?_
  funext k k'
  refine Eq.trans ?_ (before_bits (U k) (U k'))
  refine congrArg₂ (fun u v => IntOp.cmpi .ult u v == 1#1) ((congrArg u (along_at e a k)).trans (hu k)) ((congrArg u (along_at e a k')).trans (hu k'))

/-- The first 320 of each list, as a column and as a row. -/
def column (v : IVec S8x2048 32) : IVec S8x320x1 32 := broadcastInDim S8x320x1 ![0, 1] bcast_S8x320_S8x320x1_0_1 (extractStridedSlice S8x320 ![0, 0] v slices_S8x2048_S8x320_0_0)
def line (v : IVec S8x2048 32) : IVec S8x1x320 32 := broadcastInDim S8x1x320 ![0, 2] bcast_S8x320_S8x1x320_0_2 (extractStridedSlice S8x320 ![0, 0] v slices_S8x2048_S8x320_0_0)

def early (p : Fin 320) : Fin 2048 := ⟨p.val, by have := p.isLt; omega⟩

theorem slice_at (v : IVec S8x2048 32) (h : S8x2048.Slices ![0, 0] S8x320) (e : Fin 8) (p : Fin 320) : extractStridedSlice S8x320 ![0, 0] v h (ix2 e p) = v (ix2 e (early p)) := by
  unfold extractStridedSlice
  congr 1
  funext a
  refine Fin.ext ?_
  fin_cases a <;> simp [ix2, early]

theorem column_at (v : IVec S8x2048 32) (e : Fin 8) (p : Fin 320) : column v (ix3 e p 0) = v (ix2 e (early p)) := by
  refine Eq.trans ?_ (slice_at v slices_S8x2048_S8x320_0_0 e p)
  unfold column
  generalize extractStridedSlice S8x320 ![0, 0] v slices_S8x2048_S8x320_0_0 = x
  clean_types
  pointwise

theorem line_at (v : IVec S8x2048 32) (e : Fin 8) (p : Fin 320) : line v (ix3 e 0 p) = v (ix2 e (early p)) := by
  refine Eq.trans ?_ (slice_at v slices_S8x2048_S8x320_0_0 e p)
  unfold line
  generalize extractStridedSlice S8x320 ![0, 0] v slices_S8x2048_S8x320_0_0 = x
  clean_types
  pointwise

def thick (w : FVec Ideal S8x2048 .f32) : FVec Ideal S8x2048x1 .f32 := broadcastInDim S8x2048x1 ![0, 1] bcast_S8x2048_S8x2048x1_0_1 w

theorem thick_at (w : FVec Ideal S8x2048 .f32) (e : Fin 8) (s : Fin 2048) : thick w (ix3 e s 0) = w (ix2 e s) := by
  unfold thick
  clean_types
  pointwise

/-- The gates of both halves, the device's own first. -/
def both (a b : FVec Ideal S1024x16 .f32) : FVec Ideal S2048x16 .f32 := concatenate S2048x16 0 [⟨S1024x16, a⟩, ⟨S1024x16, b⟩] concatenates_S1024x16_S1024x16_S2048x16_d0

theorem both_at (a b : FVec Ideal S1024x16 .f32) (s : Fin 2048) (k : Fin 16) :
    both a b (ix2 s k) = if h : s.val < 1024 then a (ix2 ⟨s.val, h⟩ k) else b (ix2 ⟨s.val - 1024, by have := s.isLt; omega⟩ k) := by
  unfold both
  clean_types
  pointwise

def tops (g : FVec Ideal S2048x16 .f32) : FVec Ideal S2048x2 .f32 := (Host.topK S2048x2 1 (FloatOps.cmpfTotal .gt) g sliceFits_S2048x16_S2048x2).1
def names (g : FVec Ideal S2048x16 .f32) : IVec S2048x2 32 := (Host.topK S2048x2 1 (FloatOps.cmpfTotal .gt) g sliceFits_S2048x16_S2048x2).2

theorem soft_tops (g : FVec Ideal S2048x16 .f32) (s : Fin 2048) (i : Fin 2) : Cert.TopTwo.softv (tops g) (ix2 s i) = Cert.Spec.soft (fun k => g (ix2 s k)) i :=
  Cert.TopTwo.soft_at g sliceFits_S2048x16_S2048x2 s i
theorem names_at (g : FVec Ideal S2048x16 .f32) (s : Fin 2048) (i : Fin 2) : names g (ix2 s i) = BitVec.ofNat 32 (Cert.Spec.best (fun k => g (ix2 s k)) i).val :=
  Cert.TopTwo.snd_at g sliceFits_S2048x16_S2048x2 s i

/-- The tokens that use an expert. -/
def uses (g : FVec Ideal S2048x16 .f32) (b : Fin 16) (s : Fin 2048) : Bool := decide (Cert.Spec.uses (fun k => g (ix2 s k)) b)

theorem lists_at (g : FVec Ideal S2048x16 .f32) (n : IVec S8 32) (b : Fin 8 → Fin 16) (hn : ∀ e, n (ix1 e) = BitVec.ofNat 32 (b e).val) (e : Fin 8) (a : Fin 2048) :
    order (unused (mask (names g) n)) (ix2 e a) = BitVec.ofNat 32 (sortedFrom (fun k k' => uses g (b e) k && !uses g (b e) k') a).val := by
  refine order_at _ e (uses g (b e)) (fun s => ?_) a
  refine (unused_at (mask (names g) n) e s (fun i => Cert.Spec.picks (fun k => g (ix2 s k)) (b e) i) (mask_at g (names g) n b (names_at g) hn e s)).trans ?_
  exact congrArg (fun v => ~~~ v) (bit_congr (show (∃ i, _) ↔ uses g (b e) s = true from (decide_eq_true_iff (p := Cert.Spec.uses (fun k => g (ix2 s k)) (b e))).symm))

theorem given_at (g : FVec Ideal S2048x16 .f32) (n : IVec S8 32) (b : Fin 8 → Fin 16) (hn : ∀ e, n (ix1 e) = BitVec.ofNat 32 (b e).val) (e : Fin 8) (s : Fin 2048) :
    weights (mask (names g) n) (Cert.TopTwo.softv (tops g)) (ix2 e s) = Cert.Spec.weight (fun k => g (ix2 s k)) (b e) := by
  refine (weights_at (mask (names g) n) (Cert.TopTwo.softv (tops g)) e s (fun i => Cert.Spec.picks (fun k => g (ix2 s k)) (b e) i) (mask_at g (names g) n b (names_at g) hn e s)).trans ?_
  unfold Cert.Spec.weight
  refine Finset.sum_congr rfl fun i _ => ?_
  rw [soft_tops]

end Cert.HostStages
-- ==== Proof.Halves.lean ====
/-
# Blocks of the two halves

Sixteen devices lie on a mesh of 2 × 2 × 4. An array cut along the first mesh axis has two blocks: devices 0 to 7 hold the
first, devices 8 to 15 the second one. Here the blocks are read element by element.
-/
module

public import Idealize.ShloMosaic.Lib.LayoutAt
public import Idealize.ShloMosaic.Lib.Pointwise.Tactic

@[expose] public section

noncomputable section

namespace Cert.Halves

open Idealize.ShloMosaic

variable {α : Type}

/-- Which half device `c` holds. -/
abbrev half (c : Fin 16) : ℕ := c.val / 8

theorem meshLin_half (c : Fin 16) : Layout.meshLin [2, 2, 4] c.val [0] = half c := by revert c; decide

theorem half_lt (c : Fin 16) : half c < 2 := by have := c.isLt; unfold half; omega

/-- One half of the rows of a matrix. -/
def rows {N : ℕ} (c : Fin 16) (v : (⟨2, ![2048, N]⟩ : Shape).Idx → α) : (⟨2, ![1024, N]⟩ : Shape).Idx → α := fun i =>
  v (ix2 ⟨half c * 1024 + (i 0).val, by have := half_lt c; have h : (i 0).val < 1024 := (i 0).isLt; omega⟩ (i 1))

/-- One half of the sixteen columns of a matrix. -/
def cols (c : Fin 16) (v : (⟨2, ![1024, 16]⟩ : Shape).Idx → α) : (⟨2, ![1024, 8]⟩ : Shape).Idx → α := fun i =>
  v (ix2 (i 0) ⟨half c * 8 + (i 1).val, by have := half_lt c; have h : (i 1).val < 8 := (i 1).isLt; omega⟩)

/-- A device's block of an array cut by rows is its half of the rows. -/
theorem blockN_rows {N : ℕ} (c : Fin 16) (v : (⟨2, ![2048, N]⟩ : Shape).Idx → α)
    (h₁ : ∀ b : Fin 2, ∀ i ∈ (![[0], []] : Fin 2 → List ℕ) b, 0 < [2, 2, 4].getD i 0)
    (h₂ : Layout.TilesN ⟨2, ![1024, N]⟩ ⟨2, ![2048, N]⟩ fun b => Layout.cutSize [2, 2, 4] ((![[0], []] : Fin 2 → List ℕ) b)) :
    Layout.blockN ⟨2, ![1024, N]⟩ ⟨2, ![2048, N]⟩ (Layout.meshBlock [2, 2, 4] ![[0], []] c h₁) v h₂ = rows c v := by
  funext i
  rw [Layout.blockN_apply]
  unfold rows
  congr 1
  funext b
  match b with
  | ⟨0, _⟩ => exact Fin.ext (by rw [Layout.TilesN.idx_val]; exact congrArg (fun k => k * 1024 + (i 0).val) (meshLin_half c))
  | ⟨1, _⟩ => exact Fin.ext (by rw [Layout.TilesN.idx_val]; show 0 * N + (i 1).val = (i 1).val; omega)

/-- A device's block of an array cut by columns is its half of the columns. -/
theorem blockN_cols (c : Fin 16) (v : (⟨2, ![1024, 16]⟩ : Shape).Idx → α)
    (h₁ : ∀ b : Fin 2, ∀ i ∈ (![[], [0]] : Fin 2 → List ℕ) b, 0 < [2, 2, 4].getD i 0)
    (h₂ : Layout.TilesN ⟨2, ![1024, 8]⟩ ⟨2, ![1024, 16]⟩ fun b => Layout.cutSize [2, 2, 4] ((![[], [0]] : Fin 2 → List ℕ) b)) :
    Layout.blockN ⟨2, ![1024, 8]⟩ ⟨2, ![1024, 16]⟩ (Layout.meshBlock [2, 2, 4] ![[], [0]] c h₁) v h₂ = cols c v := by
  funext i
  rw [Layout.blockN_apply]
  unfold cols
  congr 1
  funext b
  match b with
  | ⟨0, _⟩ => exact Fin.ext (by rw [Layout.TilesN.idx_val]; show 0 * 1024 + (i 0).val = (i 0).val; omega)
  | ⟨1, _⟩ => exact Fin.ext (by rw [Layout.TilesN.idx_val]; exact congrArg (fun k => k * 8 + (i 1).val) (meshLin_half c))

/-- One half of sixteen matrices. -/
def experts {P Q : ℕ} (c : Fin 16) (v : (⟨3, ![16, P, Q]⟩ : Shape).Idx → α) : (⟨3, ![8, P, Q]⟩ : Shape).Idx → α := fun i =>
  v (ix3 ⟨half c * 8 + (i 0).val, by have := half_lt c; have h : (i 0).val < 8 := (i 0).isLt; omega⟩ (i 1) (i 2))

/-- A device's block of sixteen matrices is its half of them. -/
theorem blockN_experts {P Q : ℕ} (c : Fin 16) (v : (⟨3, ![16, P, Q]⟩ : Shape).Idx → α)
    (h₁ : ∀ b : Fin 3, ∀ i ∈ (![[0], [], []] : Fin 3 → List ℕ) b, 0 < [2, 2, 4].getD i 0)
    (h₂ : Layout.TilesN ⟨3, ![8, P, Q]⟩ ⟨3, ![16, P, Q]⟩ fun b => Layout.cutSize [2, 2, 4] ((![[0], [], []] : Fin 3 → List ℕ) b)) :
    Layout.blockN ⟨3, ![8, P, Q]⟩ ⟨3, ![16, P, Q]⟩ (Layout.meshBlock [2, 2, 4] ![[0], [], []] c h₁) v h₂ = experts c v := by
  funext i
  rw [Layout.blockN_apply]
  unfold experts
  congr 1
  funext b
  match b with
  | ⟨0, _⟩ => exact Fin.ext (by rw [Layout.TilesN.idx_val]; exact congrArg (fun k => k * 8 + (i 0).val) (meshLin_half c))
  | ⟨1, _⟩ => exact Fin.ext (by rw [Layout.TilesN.idx_val]; show 0 * P + (i 1).val = (i 1).val; omega)
  | ⟨2, _⟩ => exact Fin.ext (by rw [Layout.TilesN.idx_val]; show 0 * Q + (i 2).val = (i 2).val; omega)

end Cert.Halves

end
-- ==== Proof.HostValue.lean ====
/-
# What the experts' kernel is given

The arrays the experts' kernel reads, as the host operations before it leave them: the lists of tokens as the stages of
HostStages.lean of the gates of both halves, the weights likewise, tokens and expert matrices as they were.
-/
module

public import proofs.«01_k».proof.Proof.HostStages
public import proofs.«01_k».proof.Proof.Run
public import proofs.«01_k».proof.Proof.Halves

@[expose] public section

set_option maxRecDepth 65536

noncomputable section

namespace Cert.KernelIdeal.Run

open Cert.KernelIdeal Cert.KernelIdeal.Gen Cert.HostStages
open Idealize.ShloMosaic Idealize.ShloMosaic.TcCoe Idealize.ShloMosaic.StableHlo

variable (m : (ℓ : Loc nD τ sig) → Buf (Elt Ideal) ℓ) (outs : Outs (F := Ideal)) (c : Dev nD)

/-- The gates of both halves, device `c`'s own first. -/
def gates2 : FVec Ideal S2048x16 .f32 := both (outs 2 main_v5_2 c) (outs 2 main_v5_3 c)

theorem V1_half : V1 m c main_v4 = halfWord (Dev.word c) := by
  unfold V1 hostOps0
  after_results_simp
  try rfl

theorem V2_half : V2 m outs c main_v4 = halfWord (Dev.word c) := (V2_of m outs c main_v4 (by decide)).trans (V1_half m c)

theorem V3_unused : V3 m outs c main_v31 = unused (mask (names (gates2 outs c)) (numbers (halfWord (Dev.word c)))) := by
  unfold V3 hostOps1
  after_results_simp
  rw [V2_at2, V2_at3, V2_half]
  rfl

theorem V3_given : V3 m outs c main_v29 = weights (mask (names (gates2 outs c)) (numbers (halfWord (Dev.word c)))) (Cert.TopTwo.softv (tops (gates2 outs c))) := by
  unfold V3 hostOps1
  after_results_simp
  rw [V2_at2, V2_at3, V2_half]
  rfl

theorem V4_order : V4 m outs c main_v32 = order (unused (mask (names (gates2 outs c)) (numbers (halfWord (Dev.word c))))) := by
  rw [← V3_unused m outs c]
  unfold V4
  simp only [hostOps1_1, TRef.binary, TRef.nullary, TRef.ternary, TRef.unary, TRef.toBuf, TRef.ofBuf, cast_eq]
  after_results_simp
  rfl

theorem V5_column : V5 m outs c main_v34 = column (order (unused (mask (names (gates2 outs c)) (numbers (halfWord (Dev.word c)))))) := by
  rw [← V4_order m outs c]
  unfold V5 hostOps1_2
  after_results_simp
  rfl

theorem V5_line : V5 m outs c main_v35 = line (order (unused (mask (names (gates2 outs c)) (numbers (halfWord (Dev.word c)))))) := by
  rw [← V4_order m outs c]
  unfold V5 hostOps1_2
  after_results_simp
  rfl

theorem V5_thick : V5 m outs c main_v36 = thick (weights (mask (names (gates2 outs c)) (numbers (halfWord (Dev.word c)))) (Cert.TopTwo.softv (tops (gates2 outs c)))) := by
  rw [← V3_given m outs c, ← V4_of m outs c main_v29 (by decide)]
  unfold V5 hostOps1_2
  after_results_simp
  rfl

theorem V5_kept (r : Ref sig .tc) (h : r ∉ hostOps1_2_W) (h' : r ∉ hostOps1_1_W) (h'' : r ∉ hostOps1_W) : V5 m outs c r = V2 m outs c r :=
  (V5_of m outs c r h).trans ((V4_of m outs c r h').trans (V3_of m outs c r h''))

theorem V5_own : V5 m outs c main_v5_0 = outs 2 main_v5_0 c := (V5_kept m outs c main_v5_0 (by decide) (by decide) (by decide)).trans (V2_at0 m outs c)
theorem V5_other : V5 m outs c main_v5_1 = outs 2 main_v5_1 c := (V5_kept m outs c main_v5_1 (by decide) (by decide) (by decide)).trans (V2_at1 m outs c)
theorem V5_arg2 : V5 m outs c main_arg2 = m ((c : Thread nD τ).loc main_arg2) :=
  (V5_kept m outs c main_arg2 (by decide) (by decide) (by decide)).trans ((V2_of m outs c main_arg2 (by decide)).trans (V1_of m c main_arg2 (by decide)))
theorem V5_arg3 : V5 m outs c main_arg3 = m ((c : Thread nD τ).loc main_arg3) :=
  (V5_kept m outs c main_arg3 (by decide) (by decide) (by decide)).trans ((V2_of m outs c main_arg3 (by decide)).trans (V1_of m c main_arg3 (by decide)))

/-- The expert at place `e` of device `c`. -/
def no (e : Fin 8) : Fin 16 := expertNo (Cert.Halves.half c) (Cert.Halves.half_lt c) e

theorem numbers_at (e : Fin 8) : numbers (halfWord (Dev.word c)) (ix1 e) = BitVec.ofNat 32 (no c e).val := by
  rw [numbers_word, halfWord_at]
  exact number_word c e

/-- The token at place `a` of the list of expert `e`. -/
def listed (e : Fin 8) (a : Fin 2048) : Fin 2048 := sortedFrom (fun k k' => uses (gates2 outs c) (no c e) k && !uses (gates2 outs c) (no c e) k') a

theorem column_listed (e : Fin 8) (p : Fin 320) : (V5 m outs c main_v34 : IVec S8x320x1 32) (ix3 e p 0) = BitVec.ofNat 32 (listed outs c e (early p)).val := by
  refine (congrFun (V5_column m outs c) _).trans ((column_at _ e p).trans ?_)
  exact lists_at _ _ (no c) (numbers_at c) e (early p)
theorem line_listed (e : Fin 8) (p : Fin 320) : (V5 m outs c main_v35 : IVec S8x1x320 32) (ix3 e 0 p) = BitVec.ofNat 32 (listed outs c e (early p)).val := by
  refine (congrFun (V5_line m outs c) _).trans ((line_at _ e p).trans ?_)
  exact lists_at _ _ (no c) (numbers_at c) e (early p)
theorem thick_given (e : Fin 8) (s : Fin 2048) : (V5 m outs c main_v36 : FVec Ideal S8x2048x1 .f32) (ix3 e s 0) = Cert.Spec.weight (fun k => gates2 outs c (ix2 s k)) (no c e) := by
  refine (congrFun (V5_thick m outs c) _).trans ((thick_at _ e s).trans ?_)
  exact given_at _ _ (no c) (numbers_at c) e s

end Cert.KernelIdeal.Run
-- ==== Proof.RefStages.lean ====
/-
# The reference's stages at an index

The reference's result as a composition of its stages, and each stage at an index.
-/
module

public import proofs.«01_k».proof.Proof.TopTwo
public import proofs.«01_k».proof.Proof.Marks
public import proofs.«01_k».proof.Proof.Gen.ReferenceIdeal.Run

@[expose] public section

set_option maxRecDepth 65536

noncomputable section

namespace Cert.RefStages

open Cert.ReferenceIdeal Cert.ReferenceIdeal.Gen Cert.TopTwo Cert.Bits
open Idealize.ShloMosaic Idealize.ShloMosaic.TcCoe

/-- Which choice of which token is which expert. -/
def mask (ix : IVec S2048x2 32) : IVec S16x2048x2 1 :=
  cmpi .eq (broadcastInDim S16x2048x2 ![0, 1, 2] bcast_S1x2048x2_S16x2048x2_0_1_2 (broadcastInDim S1x2048x2 ![1, 2] bcast_S2048x2_S1x2048x2_1_2 ix))
    (broadcastInDim S16x2048x2 ![0, 1, 2] bcast_S16x1x1_S16x2048x2_0_1_2 (broadcastInDim S16x1x1 ![0] bcast_S16_S16x1x1_0 (iotaInDim S16 32 0)))

theorem mask_word (ix : IVec S2048x2 32) (e : Fin 16) (t : Fin 2048) (i : Fin 2) :
    mask ix (ix3 e t i) = IntOp.cmpi .eq (ix (ix2 t i)) (BitVec.ofNat 32 e.val) := by
  unfold mask
  clean_types
  pointwise

theorem mask_at (g : FVec Ideal S2048x16 .f32) (ix : IVec S2048x2 32) (hix : ∀ t i, ix (ix2 t i) = BitVec.ofNat 32 (Cert.Spec.best (fun k => g (ix2 t k)) i).val) (e : Fin 16) (t : Fin 2048) (i : Fin 2) :
    mask ix (ix3 e t i) = bit (Cert.Spec.picks (fun k => g (ix2 t k)) e i) := by
  rw [mask_word, hix, cmpi_eq _ _ (by have := (Cert.Spec.best (fun k => g (ix2 t k)) i).isLt; omega) (by have := e.isLt; omega)]
  exact bit_congr Fin.ext_iff.symm

/-- Which token uses which expert. -/
def used (k : IVec S16x2048x2 1) : IVec S16x2048 1 := Host.reduce IntOp.ori k (constantI S_ 1 0#1) reducesTo_S16x2048x2_S16x2048_d2 h_S_

theorem used_at (k : IVec S16x2048x2 1) (e : Fin 16) (t : Fin 2048) (p : Fin 2 → Prop) [DecidablePred p] (hk : ∀ i, k (ix3 e t i) = bit (p i)) :
    used k (ix2 e t) = bit (∃ i, p i) := by
  unfold used
  clean_types
  pointwise
  simp only [hk]
  exact fold_bit p

/-- The weight a token gives an expert. -/
def weights (k : IVec S16x2048x2 1) (w : FVec Ideal S2048x2 .f32) : FVec Ideal S16x2048 .f32 :=
  Host.reduceAdd (select k (broadcastInDim S16x2048x2 ![0, 1, 2] bcast_S1x2048x2_S16x2048x2_0_1_2 (broadcastInDim S1x2048x2 ![1, 2] bcast_S2048x2_S1x2048x2_1_2 w))
    (broadcastInDim S16x2048x2 ![] bcast_S_S16x2048x2 (constant S_ .f32 0x00000000#32))) (constant S_ .f32 0x00000000#32) reducesTo_S16x2048x2_S16x2048_d2 h_S_

theorem weights_at (k : IVec S16x2048x2 1) (w : FVec Ideal S2048x2 .f32) (e : Fin 16) (t : Fin 2048) (p : Fin 2 → Prop) [DecidablePred p] (hk : ∀ i, k (ix3 e t i) = bit (p i)) :
    weights k w (ix2 e t) = ∑ i, if p i then w (ix2 t i) else 0 := by
  unfold weights
  clean_types
  pointwise
  simp only [hk, select_bit]

def div2048 : IVec S_ 32 := select (cmpi .eq (constantI S_ 32 2048#32) (constantI S_ 32 0#32)) (constantI S_ 32 1#32) (constantI S_ 32 2048#32)
def rem2048 : IVec S1x2048 32 :=
  Host.remsi (addi (broadcastInDim S1x2048 ![1] bcast_S2048_S1x2048_1 (iotaInDim S2048 32 0)) (broadcastInDim S1x2048 ![] bcast_S_S1x2048 (constantI S_ 32 1024#32))) (broadcastInDim S1x2048 ![] bcast_S_S1x2048 div2048)
/-- When an expert takes a token. -/
def turns : IVec S16x2048 32 :=
  select (broadcastInDim S16x2048 ![0, 1] bcast_S16x1_S16x2048_0_1 (cmpi .slt (broadcastInDim S16x1 ![0] bcast_S16_S16x1_0 (iotaInDim S16 32 0)) (broadcastInDim S16x1 ![] bcast_S_S16x1 (constantI S_ 32 8#32))))
    (broadcastInDim S16x2048 ![0, 1] bcast_S1x2048_S16x2048_0_1 (broadcastInDim S1x2048 ![1] bcast_S2048_S1x2048_1 (iotaInDim S2048 32 0)))
    (broadcastInDim S16x2048 ![0, 1] bcast_S1x2048_S16x2048_0_1 (select (andi (cmpi .ne (cmpi .slt rem2048 (broadcastInDim S1x2048 ![] bcast_S_S1x2048 (constantI S_ 32 0#32))) (broadcastInDim S1x2048 ![] bcast_S_S1x2048 (cmpi .slt div2048 (constantI S_ 32 0#32)))) (cmpi .ne rem2048 (broadcastInDim S1x2048 ![] bcast_S_S1x2048 (constantI S_ 32 0#32))))
      (addi rem2048 (broadcastInDim S1x2048 ![] bcast_S_S1x2048 div2048)) rem2048))

theorem div_at : div2048 ix0 = 2048#32 := by
  rfl
theorem rem_at (t : Fin 2048) : rem2048 (ix2 0 t) = IntOp.remsi .host (IntOp.addi (BitVec.ofNat 32 t.val) 1024#32) 2048#32 := by
  unfold rem2048
  clean_types
  pointwise [div_at]
theorem rem_word : ∀ t : Fin 2048, IntOp.remsi .host (IntOp.addi (BitVec.ofNat 32 t.val) 1024#32) 2048#32 = BitVec.ofNat 32 ((t.val + 1024) % 2048) := by decide +kernel
theorem turn_word : ∀ t : Fin 2048, Scalar.select
        (IntOp.andi
          (IntOp.cmpi .ne (IntOp.cmpi .slt (BitVec.ofNat 32 ((t.val + 1024) % 2048)) 0#32) (IntOp.cmpi .slt 2048#32 0#32))
          (IntOp.cmpi .ne (BitVec.ofNat 32 ((t.val + 1024) % 2048)) 0#32))
        (IntOp.addi (BitVec.ofNat 32 ((t.val + 1024) % 2048)) 2048#32) (BitVec.ofNat 32 ((t.val + 1024) % 2048)) = BitVec.ofNat 32 ((t.val + 1024) % 2048) := by decide +kernel
theorem half_word : ∀ e : Fin 16, IntOp.cmpi .slt (BitVec.ofNat 32 e.val) 8#32 = bit (e.val < 8) := by decide +kernel
theorem turns_at (e : Fin 16) (t : Fin 2048) : turns (ix2 e t) = BitVec.ofNat 32 (Cert.Spec.turn e t) := by
  unfold turns
  clean_types
  pointwise [rem_at, div_at]
  rw [rem_word, turn_word, half_word, select_bit]
  unfold Cert.Spec.turn
  split <;> rfl

/-- How many of the tokens that use an expert it takes before a token. -/
def counts (u : IVec S16x2048 1) (n : IVec S16x2048 32) : FVec Ideal S16x2048 .f32 :=
  Host.reduceAdd ((select (andi (broadcastInDim S16x2048x2048 ![0, 1, 2] bcast_S16x1x2048_S16x2048x2048_0_1_2 (broadcastInDim S16x1x2048 ![0, 2] bcast_S16x2048_S16x1x2048_0_2 u))
      (cmpi .slt (broadcastInDim S16x2048x2048 ![0, 1, 2] bcast_S16x1x2048_S16x2048x2048_0_1_2 (broadcastInDim S16x1x2048 ![0, 2] bcast_S16x2048_S16x1x2048_0_2 n)) (broadcastInDim S16x2048x2048 ![0, 1, 2] bcast_S16x2048x1_S16x2048x2048_0_1_2 (broadcastInDim S16x2048x1 ![0, 1] bcast_S16x2048_S16x2048x1_0_1 n))))
      (broadcastInDim S16x2048x2048 ![] bcast_S_S16x2048x2048 (constant S_ .f32 0x3F800000#32)) (broadcastInDim S16x2048x2048 ![] bcast_S_S16x2048x2048 (constant S_ .f32 0x00000000#32)))) (constant S_ .f32 0x00000000#32) reducesTo_S16x2048x2048_S16x2048_d2 h_S_

theorem counts_at (u : IVec S16x2048 1) (n : IVec S16x2048 32) (e : Fin 16) (t : Fin 2048)
    (p : Fin 2048 → Prop) [DecidablePred p] (hp : ∀ t, u (ix2 e t) = bit (p t)) (q : Fin 2048 → ℕ) (hq : ∀ t, n (ix2 e t) = BitVec.ofNat 32 (q t)) (hb : ∀ t, q t < 2048) :
    counts u n (ix2 e t) = ((Finset.univ.filter fun t' => p t' ∧ q t' < q t).card : EReal) := by
  have hc : ∀ t', IntOp.cmpi .slt (BitVec.ofNat 32 (q t')) (BitVec.ofNat 32 (q t)) = bit (q t' < q t) := fun t' =>
    cmpi_slt _ _ (by have := hb t'; omega) (by have := hb t; omega)
  unfold counts
  clean_types
  pointwise
  simp only [hp, hq, hc, and_bit, select_bit]
  exact sum_bits _

/-- The weights of the tokens an expert serves. -/
def kept (u : IVec S16x2048 1) (n w : FVec Ideal S16x2048 .f32) : FVec Ideal S16x2048 .f32 :=
  select (andi u (cmpf .olt n (broadcastInDim S16x2048 ![] bcast_S_S16x2048 (constant S_ .f32 0x43A00000#32)))) w (broadcastInDim S16x2048 ![] bcast_S_S16x2048 (constant S_ .f32 0x00000000#32))

theorem kept_at (u : IVec S16x2048 1) (n w : FVec Ideal S16x2048 .f32) (e : Fin 16) (t : Fin 2048)
    (p : Prop) [Decidable p] (hp : u (ix2 e t) = bit p) (k : ℕ) (hk : n (ix2 e t) = (k : EReal)) :
    kept u n w (ix2 e t) = if p ∧ k < 320 then w (ix2 e t) else 0 := by
  unfold kept
  clean_types
  pointwise
  rw [hp, hk, room, and_bit, select_bit]

/-- What each expert makes of each token. -/
def made (X : FVec Ideal S2048x1024 .f32) (A : FVec Ideal S16x1024x4096 .f32) (B : FVec Ideal S16x4096x1024 .f32) : FVec Ideal S16x2048x1024 .f32 :=
  Host.dotGeneral dot_S16x2048x4096_S16x4096x1024_S16x2048x1024_2_1_1_2_0_0 none
    (maximumf (transpose S16x2048x4096 [0, 2, 1] (Host.dotGeneral dot_S16x1024x4096_S2048x1024_S16x4096x2048_1_1_02_0_n_n none A X) transposes_S16x4096x2048_S16x2048x4096_0_2_1) (broadcastInDim S16x2048x4096 ![] bcast_S_S16x2048x4096 (constant S_ .f32 0x00000000#32))) B

theorem made_at (X : FVec Ideal S2048x1024 .f32) (A : FVec Ideal S16x1024x4096 .f32) (B : FVec Ideal S16x4096x1024 .f32) (e : Fin 16) (t : Fin 2048) (d : Fin 1024) :
    made X A B (ix3 e t d) = Cert.Spec.apply (fun k f => A (ix3 e k f)) (fun f d => B (ix3 e f d)) (fun k => X (ix2 t k)) d := by
  unfold made
  clean_types
  pointwise
  unfold Cert.Spec.apply
  simp only [mul_comm (A _)]

def total (w : FVec Ideal S16x2048 .f32) (y : FVec Ideal S16x2048x1024 .f32) : FVec Ideal S2048x1024 .f32 :=
  Host.reduceAdd (mulf (broadcastInDim S16x2048x1024 ![0, 1, 2] bcast_S16x2048x1_S16x2048x1024_0_1_2 (broadcastInDim S16x2048x1 ![0, 1] bcast_S16x2048_S16x2048x1_0_1 w)) y) (constant S_ .f32 0x00000000#32) reducesTo_S16x2048x1024_S2048x1024_d0 h_S_

theorem total_at (w : FVec Ideal S16x2048 .f32) (y : FVec Ideal S16x2048x1024 .f32) (t : Fin 2048) (d : Fin 1024) : total w y (ix2 t d) = ∑ e : Fin 16, w (ix2 e t) * y (ix3 e t d) := by
  unfold total
  clean_types
  pointwise

def gates (X : FVec Ideal S2048x1024 .f32) (R : FVec Ideal S1024x16 .f32) : FVec Ideal S2048x16 .f32 :=
  Host.dotGeneral dot_S2048x1024_S1024x16_S2048x16_1_0_0_1_n_n none X R
def tops (g : FVec Ideal S2048x16 .f32) : FVec Ideal S2048x2 .f32 := (Host.topK S2048x2 1 (FloatOps.cmpfTotal .gt) g sliceFits_S2048x16_S2048x2).1
def names (g : FVec Ideal S2048x16 .f32) : IVec S2048x2 32 := (Host.topK S2048x2 1 (FloatOps.cmpfTotal .gt) g sliceFits_S2048x16_S2048x2).2

theorem res_eq (m : (ℓ : Loc nD τ sig) → Buf (Elt Ideal) ℓ) (c : Dev nD) :
    Cert.ReferenceIdeal.Value.res_main_v53 m c
      = total (kept (used (mask (names (gates (m ((c.tc : Thread nD τ).loc main_arg0)) (m ((c.tc : Thread nD τ).loc main_arg1))))))
          (counts (used (mask (names (gates (m ((c.tc : Thread nD τ).loc main_arg0)) (m ((c.tc : Thread nD τ).loc main_arg1)))))) turns)
          (weights (mask (names (gates (m ((c.tc : Thread nD τ).loc main_arg0)) (m ((c.tc : Thread nD τ).loc main_arg1))))) (softv (tops (gates (m ((c.tc : Thread nD τ).loc main_arg0)) (m ((c.tc : Thread nD τ).loc main_arg1)))))))
          (made (m ((c.tc : Thread nD τ).loc main_arg0)) (m ((c.tc : Thread nD τ).loc main_arg2)) (m ((c.tc : Thread nD τ).loc main_arg3))) := by
  unfold Cert.ReferenceIdeal.Value.res_main_v53
  rfl

theorem gates_at (X : FVec Ideal S2048x1024 .f32) (R : FVec Ideal S1024x16 .f32) (t : Fin 2048) (b : Fin 16) :
    gates X R (ix2 t b) = ∑ k : Fin 1024, X (ix2 t k) * R (ix2 k b) := by
  unfold gates
  clean_types
  pointwise

theorem soft_tops (g : FVec Ideal S2048x16 .f32) (t : Fin 2048) (i : Fin 2) : softv (tops g) (ix2 t i) = Cert.Spec.soft (fun k => g (ix2 t k)) i :=
  soft_at g sliceFits_S2048x16_S2048x2 t i

/-- The stages' composition at an index. -/
theorem composed_at (g : FVec Ideal S2048x16 .f32) (X : FVec Ideal S2048x1024 .f32) (A : FVec Ideal S16x1024x4096 .f32) (B : FVec Ideal S16x4096x1024 .f32) (t : Fin 2048) (d : Fin 1024) :
    total (kept (used (mask (names g))) (counts (used (mask (names g))) turns) (weights (mask (names g)) (softv (tops g)))) (made X A B) (ix2 t d)
      = ∑ e : Fin 16, (if Cert.Spec.served (fun t k => g (ix2 t k)) e t then Cert.Spec.weight (fun k => g (ix2 t k)) e else 0)
          * Cert.Spec.apply (fun k f => A (ix3 e k f)) (fun f d => B (ix3 e f d)) (fun k => X (ix2 t k)) d := by
  have hm := mask_at g (names g) (fun t i => snd_at g _ t i)
  have hu : ∀ e t, used (mask (names g)) (ix2 e t) = bit (Cert.Spec.uses (fun k => g (ix2 t k)) e) := fun e t =>
    (used_at (mask (names g)) e t (fun i => Cert.Spec.picks (fun k => g (ix2 t k)) e i) (hm e t)).trans (bit_congr (show (∃ i, _) ↔ Cert.Spec.uses (fun k => g (ix2 t k)) e from Iff.rfl))
  have hn : ∀ (e : Fin 16) (t : Fin 2048), Cert.Spec.turn e t < 2048 := fun e t => by unfold Cert.Spec.turn; have := t.isLt; split <;> omega
  have hw : ∀ e : Fin 16, weights (mask (names g)) (softv (tops g)) (ix2 e t) = Cert.Spec.weight (fun k => g (ix2 t k)) e := fun e => by
    refine (weights_at (mask (names g)) (softv (tops g)) e t (fun i => Cert.Spec.picks (fun k => g (ix2 t k)) e i) (hm e t)).trans ?_
    unfold Cert.Spec.weight
    refine Finset.sum_congr rfl fun i _ => ?_
    rw [soft_tops]
  rw [total_at]
  refine Finset.sum_congr rfl fun e _ => ?_
  refine congrArg₂ (· * ·) ?_ (made_at X A B e t d)
  refine (kept_at _ _ _ e t _ (hu e t) _ (counts_at _ _ e t _ (hu e) _ (turns_at e) (hn e))).trans ?_
  rw [hw e]
  exact if_congr (show _ ↔ Cert.Spec.served (fun t k => g (ix2 t k)) e t from Iff.rfl) rfl rfl

/-- The reference's result at an index. -/
theorem res_at (m : (ℓ : Loc nD τ sig) → Buf (Elt Ideal) ℓ) (c : Dev nD) (X : FVec Ideal S2048x1024 .f32) (R : FVec Ideal S1024x16 .f32) (A : FVec Ideal S16x1024x4096 .f32) (B : FVec Ideal S16x4096x1024 .f32)
    (hX : m ((c.tc : Thread nD τ).loc main_arg0) = X) (hR : m ((c.tc : Thread nD τ).loc main_arg1) = R) (hA : m ((c.tc : Thread nD τ).loc main_arg2) = A) (hB : m ((c.tc : Thread nD τ).loc main_arg3) = B)
    (t : Fin 2048) (d : Fin 1024) :
    (Cert.ReferenceIdeal.Value.res_main_v53 m c : FVec Ideal S2048x1024 .f32) (ix2 t d)
      = ∑ e : Fin 16, (if Cert.Spec.served (fun t k => gates X R (ix2 t k)) e t then Cert.Spec.weight (fun k => gates X R (ix2 t k)) e else 0)
          * Cert.Spec.apply (fun k f => A (ix3 e k f)) (fun f d => B (ix3 e f d)) (fun k => X (ix2 t k)) d := by
  subst hX hR hA hB
  rw [res_eq]
  exact composed_at _ _ _ _ t d

/-- Where no expert is chosen by more than 320 tokens, the limit leaves nothing out: every token gets both its experts. -/
theorem res_of_few (m : (ℓ : Loc nD τ sig) → Buf (Elt Ideal) ℓ) (c : Dev nD) (X : FVec Ideal S2048x1024 .f32) (R : FVec Ideal S1024x16 .f32) (A : FVec Ideal S16x1024x4096 .f32) (B : FVec Ideal S16x4096x1024 .f32)
    (hX : m ((c.tc : Thread nD τ).loc main_arg0) = X) (hR : m ((c.tc : Thread nD τ).loc main_arg1) = R) (hA : m ((c.tc : Thread nD τ).loc main_arg2) = A) (hB : m ((c.tc : Thread nD τ).loc main_arg3) = B)
    (few : ∀ e : Fin 16, (Finset.univ.filter fun t => Cert.Spec.uses (fun k => gates X R (ix2 t k)) e).card ≤ 320) (t : Fin 2048) (d : Fin 1024) :
    (Cert.ReferenceIdeal.Value.res_main_v53 m c : FVec Ideal S2048x1024 .f32) (ix2 t d)
      = ∑ e : Fin 16, Cert.Spec.weight (fun k => gates X R (ix2 t k)) e * Cert.Spec.apply (fun k f => A (ix3 e k f)) (fun f d => B (ix3 e f d)) (fun k => X (ix2 t k)) d := by
  have hs : ∀ e : Fin 16, (if Cert.Spec.served (fun t k => gates X R (ix2 t k)) e t then Cert.Spec.weight (fun k => gates X R (ix2 t k)) e else 0) = Cert.Spec.weight (fun k => gates X R (ix2 t k)) e := fun e => by
    by_cases h : Cert.Spec.served (fun t k => gates X R (ix2 t k)) e t
    · rw [if_pos h]
    · rw [if_neg h]
      exact (Cert.Spec.weight_unused (fun k => gates X R (ix2 t k)) e fun hu => h (Cert.Spec.served_of_few (fun t k => gates X R (ix2 t k)) e t (few e) hu)).symm
  have h := res_at m c X R A B hX hR hA hB t d
  simp only [hs] at h
  exact h

end Cert.RefStages
-- ==== Proof.Exchanged.lean ====
/-
# What the exchange leaves, in terms of the whole arrays

Every device's arguments are its halves of four whole arrays. After the exchange it holds all tokens and all gates, its own
half first.
-/
module

public import proofs.«01_k».proof.Proof.HostValue
public import proofs.«01_k».proof.Proof.RefStages

@[expose] public section

set_option maxRecDepth 65536

noncomputable section

namespace Cert.KernelIdeal.Run

open Cert.KernelIdeal Cert.KernelIdeal.Gen Cert.HostStages Cert.Halves
open Cert.KernelIdeal.Talk (prt xstg rstg xbAt gAt join joined)
open Idealize.ShloMosaic Idealize.ShloMosaic.TcCoe Idealize.ShloMosaic.StableHlo
open Cert.Spec (glob)

theorem half_prt (c : Dev nD) : half (prt c) = 1 - half c := by revert c; decide
theorem half_eq (c : Dev nD) : half c = if c.val < 8 then 0 else 1 := by revert c; decide

/-- The arguments of every device are its halves of the whole arrays. -/
structure Given (m : (ℓ : Loc nD τ sig) → Buf (Elt Ideal) ℓ) (X : FVec Ideal (⟨2, ![2048, 1024]⟩ : Shape) .f32) (R : FVec Ideal (⟨2, ![1024, 16]⟩ : Shape) .f32)
    (A : FVec Ideal (⟨3, ![16, 1024, 4096]⟩ : Shape) .f32) (B : FVec Ideal (⟨3, ![16, 4096, 1024]⟩ : Shape) .f32) : Prop where
  x : ∀ c : Dev nD, m ((c : Thread nD τ).loc main_arg0) = rows c X
  r : ∀ c : Dev nD, m ((c : Thread nD τ).loc main_arg1) = cols c R
  a : ∀ c : Dev nD, m ((c : Thread nD τ).loc main_arg2) = experts c A
  b : ∀ c : Dev nD, m ((c : Thread nD τ).loc main_arg3) = experts c B

theorem xstg_read {F : FTy → Type} [FloatOps F] (V : Dev nD → Valuation τ sig (Elt F)) (c : Dev nD) : xstg V c = V c main_arg0 :=
  Memref.read_access_unit_zero (Elt F) main_arg0 (off := fun a => win0_0.index (0 : Fin 1) a * main_arg0.ty.shape.size a)
    (funext fun a => by fin_cases a <;> decide) (fun a => by fin_cases a <;> decide) _
theorem rstg_read {F : FTy → Type} [FloatOps F] (V : Dev nD → Valuation τ sig (Elt F)) (c : Dev nD) : rstg V c = V c main_arg1 :=
  Memref.read_access_unit_zero (Elt F) main_arg1 (off := fun a => win0_1.index (0 : Fin 1) a * main_arg1.ty.shape.size a)
    (funext fun a => by fin_cases a <;> decide) (fun a => by fin_cases a <;> decide) _

/-- The two halves of the router joined in the order of the devices are the router. -/
theorem joined_router (c : Dev nD) (w : FVec Ideal (⟨2, ![1024, 16]⟩ : Shape) .f32) :
    (if c.val < 8 then join (k0_pay2 (F := Ideal) (cols c w)) (k0_pay3 (cols (prt c) w)) else join (k0_pay4 (cols (prt c) w)) (k0_pay5 (cols c w))) = w := by
  have h2 : ∀ v : FVec Ideal S1024x8 .f32, k0_pay2 v = v := fun v => by funext j; idx_vars j; unfold k0_pay2; pointwise
  have h3 : ∀ v : FVec Ideal S1024x8 .f32, k0_pay3 v = v := fun v => by funext j; idx_vars j; unfold k0_pay3; pointwise
  have h4 : ∀ v : FVec Ideal S1024x8 .f32, k0_pay4 v = v := fun v => by funext j; idx_vars j; unfold k0_pay4; pointwise
  have h5 : ∀ v : FVec Ideal S1024x8 .f32, k0_pay5 v = v := fun v => by funext j; idx_vars j; unfold k0_pay5; pointwise
  rw [h2, h3, h4, h5]
  have key : ∀ d e : Dev nD, half d = 0 → half e = 1 → join (F := Ideal) (cols d w) (cols e w) = w := fun d e hd he => by
    funext y
    idx_vars y
    unfold join
    split
    · rename_i h
      have h1 := h 1
      have h1' : 8 ≤ y1.val := h1.1
      unfold cols
      congr 1
      congr 1
      exact Fin.ext (by show half e * 8 + (y1.val - 8) = y1.val; omega)
    · rename_i h
      unfold cols
      congr 1
      congr 1
      exact Fin.ext (by show half d * 8 + (y1.val - 0) = y1.val; omega)
  have hh := half_prt c
  have he := half_eq c
  split
  · rename_i h; rw [if_pos h] at he; exact key _ _ he (by omega)
  · rename_i h; rw [if_neg h] at he; exact key _ _ (by omega) he

theorem cast_at (v : FVec Ideal S1024x1024 .f32) (i k : Fin 1024) : k0_pay1 (F := Ideal) v (ix2 i k) = v (ix2 i k) := by
  unfold k0_pay1
  clean_types
  pointwise

theorem product_at (v : FVec Ideal S1024x1024 .f32) (w : FVec Ideal S1024x16 .f32) (i : Fin 1024) (b : Fin 16) :
    k0_pay6 (F := Ideal) v w (ix2 i b) = ∑ k : Fin 1024, v (ix2 i k) * w (ix2 k b) := by
  unfold k0_pay6
  clean_types
  pointwise

/-- Row `i` of the half of device `c`. -/
def row (c : Dev nD) (i : Fin 1024) : Fin 2048 := ⟨half c * 1024 + i.val, by have := half_lt c; have := i.isLt; omega⟩

theorem rows_at {N : ℕ} {α : Type} (c : Dev nD) (v : (⟨2, ![2048, N]⟩ : Shape).Idx → α) (i : Fin 1024) (k : Fin N) : rows c v (ix2 i k) = v (ix2 (row c i) k) := rfl

theorem glob_low (c : Dev nD) (s : Fin 2048) (h : s.val < 1024) : glob (half c) s = row c ⟨s.val, h⟩ := by
  refine Fin.ext ?_
  show (s.val + 1024 * half c) % 2048 = half c * 1024 + s.val
  have := half_lt c
  omega
theorem glob_high (c : Dev nD) (s : Fin 2048) (h : ¬ s.val < 1024) : glob (half c) s = row (prt c) ⟨s.val - 1024, by have := s.isLt; omega⟩ := by
  refine Fin.ext ?_
  show (s.val + 1024 * half c) % 2048 = half (prt c) * 1024 + (s.val - 1024)
  have := half_lt c
  have := s.isLt
  rw [half_prt]
  omega

variable (m : (ℓ : Loc nD τ sig) → Buf (Elt Ideal) ℓ) (outs : Outs (F := Ideal)) (hl : Leaves m outs)
variable {X : FVec Ideal (⟨2, ![2048, 1024]⟩ : Shape) .f32} {R : FVec Ideal (⟨2, ![1024, 16]⟩ : Shape) .f32}
  {A : FVec Ideal (⟨3, ![16, 1024, 4096]⟩ : Shape) .f32} {B : FVec Ideal (⟨3, ![16, 4096, 1024]⟩ : Shape) .f32} (hg : Given m X R A B)

include hg in
theorem xstg_given (c : Dev nD) : xstg (V1 m) c = rows c X := (xstg_read (V1 m) c).trans ((V1_of m c main_arg0 (by decide)).trans (hg.x c))
include hg in
theorem rstg_given (c : Dev nD) : rstg (V1 m) c = cols c R := (rstg_read (V1 m) c).trans ((V1_of m c main_arg1 (by decide)).trans (hg.r c))

include hg in
theorem token_at (c : Dev nD) (i k : Fin 1024) : xbAt (V1 m) c (ix2 i k) = X (ix2 (row c i) k) := by
  unfold xbAt
  rw [xstg_given m hg]
  exact cast_at (rows c X) i k

include hg in
theorem gate_at (c : Dev nD) (i : Fin 1024) (b : Fin 16) : gAt (V1 m) c (ix2 i b) = Cert.RefStages.gates X R (ix2 (row c i) b) := by
  have hj : joined (V1 m) c = R := by
    unfold joined
    rw [rstg_given m hg, rstg_given m hg]
    exact joined_router c R
  unfold gAt
  rw [xstg_given m hg, hj]
  exact (product_at (rows c X) R i b).trans (Cert.RefStages.gates_at X R (row c i) b).symm

include hl hg in
theorem gates2_at (c : Dev nD) (s : Fin 2048) (b : Fin 16) : gates2 outs c (ix2 s b) = Cert.RefStages.gates X R (ix2 (glob (half c) s) b) := by
  unfold gates2
  rw [both_at, hl.g, hl.h]
  split
  · rename_i h; rw [glob_low c s h]; exact gate_at m hg c _ b
  · rename_i h; rw [glob_high c s h]; exact gate_at m hg (prt c) _ b

include hl hg in
theorem own_at (c : Dev nD) (i k : Fin 1024) : (V5 m outs c main_v5_0 : FVec Ideal S1024x1024 .bf16) (ix2 i k) = X (ix2 (glob (half c) ⟨i.val, by have := i.isLt; omega⟩) k) := by
  rw [V5_own, hl.b, glob_low c ⟨i.val, by have := i.isLt; omega⟩ i.isLt]
  exact token_at m hg c i k

include hl hg in
theorem other_at (c : Dev nD) (i k : Fin 1024) : (V5 m outs c main_v5_1 : FVec Ideal S1024x1024 .bf16) (ix2 i k) = X (ix2 (glob (half c) ⟨1024 + i.val, by have := i.isLt; omega⟩) k) := by
  rw [V5_other, hl.y, glob_high c ⟨1024 + i.val, by have := i.isLt; omega⟩ (by show ¬ 1024 + i.val < 1024; omega)]
  refine (token_at m hg (prt c) i k).trans ?_
  refine congrArg X (congrArg₂ ix2 (congrArg (row (prt c)) (Fin.ext ?_)) rfl)
  show i.val = 1024 + i.val - 1024
  omega

theorem experts_at {P Q : ℕ} (c : Dev nD) (v : FVec Ideal (⟨3, ![16, P, Q]⟩ : Shape) .f32) (e : Fin 8) (k : Fin P) (f : Fin Q) : experts c v (ix3 e k f) = v (ix3 (no c e) k f) := by
  unfold experts no expertNo
  refine congrArg v (congrArg (fun b => ix3 b k f) (Fin.ext ?_))
  show half c * 8 + e.val = 8 * half c + e.val
  omega

include hg in
theorem first_at (c : Dev nD) (e : Fin 8) (k : Fin 1024) (f : Fin 4096) : (V5 m outs c main_arg2 : FVec Ideal S8x1024x4096 .f32) (ix3 e k f) = A (ix3 (no c e) k f) := by
  rw [V5_arg2, hg.a]
  exact experts_at c A e k f
include hg in
theorem second_at (c : Dev nD) (e : Fin 8) (f : Fin 4096) (d : Fin 1024) : (V5 m outs c main_arg3 : FVec Ideal S8x4096x1024 .f32) (ix3 e f d) = B (ix3 (no c e) f d) := by
  rw [V5_arg3, hg.b]
  exact experts_at c B e f d

end Cert.KernelIdeal.Run
-- ==== Proof.MoePay.lean ====
/-
# What the expert kernel computes at an index

Each value the expert kernel writes, as a formula over the values it reads, in exact arithmetic; and the blocks it reads,
as entries of the arrays they are blocks of.
-/
module

public import proofs.«01_k».proof.Proof.MoeRegion
public import Idealize.ShloMosaic.Lib.Tactic.CleanTypes
public import Idealize.ShloMosaic.Lib.Pointwise
public import Idealize.ShloMosaic.Lib.Pipeline.ValueKit

@[expose] public section

set_option maxRecDepth 65536

noncomputable section

namespace Cert.KernelIdeal.Moe

open Cert.KernelIdeal Cert.KernelIdeal.Gen
open Idealize.ShloMosaic Idealize.ShloMosaic.TcCoe

/-- One if the two words agree, else zero. -/
def hot (a b : BitVec 32) : EReal := if a = b then 1 else 0

theorem hot_eq (a b : BitVec 32) : FloatOps.sitofp (F := Ideal) FTy.f32 (BitVec.setWidth 32 (IntOp.cmpi .eq a b)) = hot a b := by
  unfold hot
  show (((BitVec.setWidth 32 (IntOp.cmpi .eq a b)).toInt : ℝ) : EReal) = _
  by_cases h : a = b
  · rw [if_pos h, show IntOp.cmpi .eq a b = 1#1 from by simp [IntOp.cmpi, h]]
    norm_num
  · rw [if_neg h, show IntOp.cmpi .eq a b = 0#1 from by show BitVec.ofBool (a == b) = 0#1; rw [beq_false_of_ne h]; rfl]
    norm_num

theorem pay1_at (v25 : Vec Ideal S1x320x1 .i32) (v33 v37 : Vec Ideal S1024x1024 .bf16) (p : Fin 320) (d : Fin 1024) :
    k1_pay1 (F := Ideal) v25 v33 v37 (ix2 p d) = ∑ x : Fin 1024, hot (v25 (ix3 0 p 0)) (BitVec.ofNat 32 x.val) * v33 (ix2 x d)
      + ∑ x : Fin 1024, hot (v25 (ix3 0 p 0)) (BitVec.ofNat 32 (1024 + x.val)) * v37 (ix2 x d) := by
  unfold k1_pay1
  clean_types
  pointwise
  simp only [hot_eq]

theorem pay2_at (v3 : Vec Ideal S320x1024 .bf16) (v4 v11 : Vec Ideal S1x1024x1024 .f32) (p : Fin 320) (d : Fin 1024) :
    k1_pay2 (F := Ideal) v3 v4 v11 (ix2 p d) = ∑ f : Fin 1024, max (∑ k : Fin 1024, v3 (ix2 p k) * v4 (ix3 0 k f)) 0 * v11 (ix3 0 f d) := by
  unfold k1_pay2
  clean_types
  pointwise

theorem pay3_at (v3 : Vec Ideal S320x1024 .bf16) (v4 v11 : Vec Ideal S1x1024x1024 .f32) (p : Fin 320) (d : Fin 1024) :
    k1_pay3 (F := Ideal) v3 v4 v11 (ix2 p d) = ∑ f : Fin 1024, max (∑ k : Fin 1024, v3 (ix2 p k) * v4 (ix3 0 k f)) 0 * v11 (ix3 0 f d) := by
  unfold k1_pay3
  clean_types
  pointwise [pay2_at]

theorem pay4_at (v3 : Vec Ideal S320x1024 .bf16) (v4 v11 : Vec Ideal S1x1024x1024 .f32) (v24 : Vec Ideal S320x1024 .f32) (p : Fin 320) (d : Fin 1024) :
    k1_pay4 (F := Ideal) v3 v4 v11 v24 (ix2 p d) = v24 (ix2 p d) + ∑ f : Fin 1024, max (∑ k : Fin 1024, v3 (ix2 p k) * v4 (ix3 0 k f)) 0 * v11 (ix3 0 f d) := by
  unfold k1_pay4
  clean_types
  pointwise [pay2_at]

theorem pay6_at (v24 : Vec Ideal S320x1024 .f32) (v27 : Vec Ideal S1x1x320 .i32) (v34 : Vec Ideal S1x1024x1 .f32) (t : Fin 1024) (d : Fin 1024) :
    k1_pay6 (F := Ideal) v24 v27 v34 (ix2 t d) = ∑ p : Fin 320, hot (v27 (ix3 0 0 p)) (BitVec.ofNat 32 t.val) * v34 (ix3 0 t 0) * v24 (ix2 p d) := by
  unfold k1_pay6 k1_pay5
  clean_types
  pointwise
  simp only [hot_eq]

theorem pay7_at (v24 : Vec Ideal S320x1024 .f32) (v27 : Vec Ideal S1x1x320 .i32) (v34 : Vec Ideal S1x1024x1 .f32) (t : Fin 1024) (d : Fin 1024) :
    k1_pay7 (F := Ideal) v24 v27 v34 (ix2 t d) = ∑ p : Fin 320, hot (v27 (ix3 0 0 p)) (BitVec.ofNat 32 (t.val + 1024)) * v34 (ix3 0 t 0) * v24 (ix2 p d) := by
  have e : IntOp.addi (BitVec.ofNat 32 t.val) 1024#32 = BitVec.ofNat 32 (t.val + 1024) := (BitVec.ofNat_add t.val 1024).symm
  unfold k1_pay7 k1_pay5
  clean_types
  pointwise
  simp only [hot_eq, e]

theorem pay8_at (v24 : Vec Ideal S320x1024 .f32) (v27 : Vec Ideal S1x1x320 .i32) (v34 : Vec Ideal S1x1024x1 .f32) (t : Fin 1024) (d : Fin 1024) :
    k1_pay8 (F := Ideal) v24 v27 v34 (ix2 t d) = ∑ p : Fin 320, hot (v27 (ix3 0 0 p)) (BitVec.ofNat 32 t.val) * v34 (ix3 0 t 0) * v24 (ix2 p d) := by
  unfold k1_pay8
  clean_types
  pointwise [pay6_at]
theorem pay9_at (v24 : Vec Ideal S320x1024 .f32) (v27 : Vec Ideal S1x1x320 .i32) (v34 : Vec Ideal S1x1024x1 .f32) (t : Fin 1024) (d : Fin 1024) :
    k1_pay9 (F := Ideal) v24 v27 v34 (ix2 t d) = ∑ p : Fin 320, hot (v27 (ix3 0 0 p)) (BitVec.ofNat 32 (t.val + 1024)) * v34 (ix3 0 t 0) * v24 (ix2 p d) := by
  unfold k1_pay9
  clean_types
  pointwise [pay7_at]
theorem pay10_at (v24 : Vec Ideal S320x1024 .f32) (v27 : Vec Ideal S1x1x320 .i32) (v34 : Vec Ideal S1x1024x1 .f32) (v61 : Vec Ideal S1024x1024 .bf16) (t : Fin 1024) (d : Fin 1024) :
    k1_pay10 (F := Ideal) v24 v27 v34 v61 (ix2 t d) = v61 (ix2 t d) + ∑ p : Fin 320, hot (v27 (ix3 0 0 p)) (BitVec.ofNat 32 t.val) * v34 (ix3 0 t 0) * v24 (ix2 p d) := by
  unfold k1_pay10
  clean_types
  pointwise [pay6_at]
theorem pay11_at (v24 : Vec Ideal S320x1024 .f32) (v27 : Vec Ideal S1x1x320 .i32) (v34 : Vec Ideal S1x1024x1 .f32) (v61 : Vec Ideal S1024x1024 .bf16) (t : Fin 1024) (d : Fin 1024) :
    k1_pay11 (F := Ideal) v24 v27 v34 v61 (ix2 t d) = v61 (ix2 t d) + ∑ p : Fin 320, hot (v27 (ix3 0 0 p)) (BitVec.ofNat 32 (t.val + 1024)) * v34 (ix3 0 t 0) * v24 (ix2 p d) := by
  unfold k1_pay11
  clean_types
  pointwise [pay7_at]

/-! ## The blocks -/

variable (W : Dev nD → Valuation τ sig (Elt Ideal)) (c : Dev nD) (t : Fin cfg1.N)

theorem index0 : ∀ t : Fin cfg1.N, win1_0.index t = ![0, 0] := by decide +kernel
theorem index1 : ∀ t : Fin cfg1.N, win1_1.index t = ![0, 0] := by decide +kernel
theorem index2 : ∀ t : Fin cfg1.N, win1_2.index t = ![t.val / 4, 0, 0] := by decide +kernel
theorem index3 : ∀ t : Fin cfg1.N, win1_3.index t = ![t.val / 4, 0, 0] := by decide +kernel
theorem index4 : ∀ t : Fin cfg1.N, win1_4.index t = ![t.val / 4, 0, 0] := by decide +kernel
theorem index5 : ∀ t : Fin cfg1.N, win1_5.index t = ![t.val / 4, 0, t.val % 4] := by decide +kernel
theorem index6 : ∀ t : Fin cfg1.N, win1_6.index t = ![t.val / 4, t.val % 4, 0] := by decide +kernel

/-- The expert of a point, and its block of the hidden layer. -/
def expert (t : Fin cfg1.N) : Fin 8 := ⟨t.val / 4, by have := Nat.lt_of_lt_of_eq t.isLt N_1; omega⟩
/-- Unit `f` of the block of the hidden layer a point works on. -/
def unit (t : Fin cfg1.N) (f : Fin 1024) : Fin 4096 := ⟨t.val % 4 * 1024 + f.val, by have := f.isLt; omega⟩

theorem iblk0 (i d : Fin 1024) : (iblk W c 0 t : Vec Ideal S1024x1024 .bf16) (ix2 i d) = W c main_v5_0 (ix2 i d) := by
  unfold iblk
  blk_simp
  refine congrArg (W c main_v5_0) ?_
  funext a
  refine Fin.ext ?_
  fin_cases a <;> blk_simp [index0] <;> simp [ix2, ix3, expert, unit]
theorem iblk1 (i d : Fin 1024) : (iblk W c 1 t : Vec Ideal S1024x1024 .bf16) (ix2 i d) = W c main_v5_1 (ix2 i d) := by
  unfold iblk
  blk_simp
  refine congrArg (W c main_v5_1) ?_
  funext a
  refine Fin.ext ?_
  fin_cases a <;> blk_simp [index1] <;> simp [ix2, ix3, expert, unit]
theorem iblk2 (p : Fin 320) : (iblk W c 2 t : Vec Ideal S1x320x1 .i32) (ix3 0 p 0) = W c main_v34 (ix3 (expert t) p 0) := by
  unfold iblk
  blk_simp
  refine congrArg (W c main_v34) ?_
  funext a
  refine Fin.ext ?_
  fin_cases a <;> blk_simp [index2] <;> simp [ix2, ix3, expert, unit]
theorem iblk3 (p : Fin 320) : (iblk W c 3 t : Vec Ideal S1x1x320 .i32) (ix3 0 0 p) = W c main_v35 (ix3 (expert t) 0 p) := by
  unfold iblk
  blk_simp
  refine congrArg (W c main_v35) ?_
  funext a
  refine Fin.ext ?_
  fin_cases a <;> blk_simp [index3] <;> simp [ix2, ix3, expert, unit]
theorem iblk4 (s : Fin 2048) : (iblk W c 4 t : Vec Ideal S1x2048x1 .f32) (ix3 0 s 0) = W c main_v36 (ix3 (expert t) s 0) := by
  unfold iblk
  blk_simp
  refine congrArg (W c main_v36) ?_
  funext a
  refine Fin.ext ?_
  fin_cases a <;> blk_simp [index4] <;> simp [ix2, ix3, expert, unit]
theorem iblk5 (k f : Fin 1024) : (iblk W c 5 t : Vec Ideal S1x1024x1024 .f32) (ix3 0 k f) = W c main_arg2 (ix3 (expert t) k (unit t f)) := by
  unfold iblk
  blk_simp
  refine congrArg (W c main_arg2) ?_
  funext a
  refine Fin.ext ?_
  fin_cases a <;> blk_simp [index5] <;> simp [ix2, ix3, expert, unit]
theorem iblk6 (f d : Fin 1024) : (iblk W c 6 t : Vec Ideal S1x1024x1024 .f32) (ix3 0 f d) = W c main_arg3 (ix3 (expert t) (unit t f) d) := by
  unfold iblk
  blk_simp
  refine congrArg (W c main_arg3) ?_
  funext a
  refine Fin.ext ?_
  fin_cases a <;> blk_simp [index6] <;> simp [ix2, ix3, expert, unit]

theorem rowsOwn_at (x : Vec Ideal S1x2048x1 .f32) (r : Fin 1024) : rowsOwn x (ix3 0 r 0) = x (ix3 0 ⟨r.val, by have := r.isLt; omega⟩ 0) := by
  unfold rowsOwn
  congr 1
  funext a
  refine Fin.ext ?_
  fin_cases a <;> simp [ix3]
theorem rowsOther_at (x : Vec Ideal S1x2048x1 .f32) (r : Fin 1024) : rowsOther x (ix3 0 r 0) = x (ix3 0 ⟨r.val + 1024, by have := r.isLt; omega⟩ 0) := by
  unfold rowsOther
  congr 1
  funext a
  refine Fin.ext ?_
  fin_cases a <;> simp [ix3, Nat.add_comm]

end Cert.KernelIdeal.Moe
-- ==== Proof.MoeValue.lean ====
/-
# What the expert kernel leaves

Its two results as sums over the experts, the places in an expert's list and the units of the hidden layer.
-/
module

public import proofs.«01_k».proof.Proof.MoePay
public import Idealize.ShloMosaic.Lib.Pointwise.Sums

@[expose] public section

set_option maxRecDepth 65536

noncomputable section

namespace Cert.KernelIdeal.Moe

open Cert.KernelIdeal Cert.KernelIdeal.Gen
open Idealize.ShloMosaic Idealize.ShloMosaic.TcCoe

variable (W : Dev nD → Valuation τ sig (Elt Ideal)) (c : Dev nD)

/-- The token at place `p` of expert `e`'s list. -/
def gath (e : Fin 8) (p : Fin 320) (k : Fin 1024) : EReal :=
  ∑ x : Fin 1024, hot (W c main_v34 (ix3 e p 0)) (BitVec.ofNat 32 x.val) * W c main_v5_0 (ix2 x k)
    + ∑ x : Fin 1024, hot (W c main_v34 (ix3 e p 0)) (BitVec.ofNat 32 (1024 + x.val)) * W c main_v5_1 (ix2 x k)

/-- One unit of the hidden layer, times its row of the second weight matrix. -/
def term (e : Fin 8) (p : Fin 320) (d : Fin 1024) (f : Fin 4096) : EReal :=
  max (∑ k : Fin 1024, gath W c e p k * W c main_arg2 (ix3 e k f)) 0 * W c main_arg3 (ix3 e f d)

/-- One block of the hidden layer. -/
def part (e : Fin 8) (p : Fin 320) (d : Fin 1024) (b : Fin 4) : EReal :=
  ∑ f : Fin 1024, term W c e p d ⟨b.val * 1024 + f.val, by have := f.isLt; have := b.isLt; omega⟩

/-- What expert `e` makes of the token at place `p` of its list. -/
def expertOf (e : Fin 8) (p : Fin 320) (d : Fin 1024) : EReal := ∑ f : Fin 4096, term W c e p d f

theorem parts (e : Fin 8) (p : Fin 320) (d : Fin 1024) :
    part W c e p d 0 + part W c e p d 1 + part W c e p d 2 + part W c e p d 3 = expertOf W c e p d := by
  unfold expertOf part
  rw [Fin.sum_univ_tiles 4 1024 rfl, Fin.sum_univ_four]

def pt (e : Fin 8) (i : Fin 4) : Fin cfg1.N := ⟨4 * e.val + i.val, Nat.lt_of_lt_of_eq (by have := e.isLt; have := i.isLt; omega) N_1.symm⟩
theorem pt_expert (e : Fin 8) (i : Fin 4) : expert (pt e i) = e := Fin.ext (by show (4 * e.val + i.val) / 4 = e.val; have := i.isLt; omega)
theorem pt_mod (e : Fin 8) (i : Fin 4) : (pt e i).val % 4 = i.val := by show (4 * e.val + i.val) % 4 = i.val; have := i.isLt; omega
theorem pt_unit (e : Fin 8) (i : Fin 4) (f : Fin 1024) : unit (pt e i) f = ⟨i.val * 1024 + f.val, by have := f.isLt; have := i.isLt; omega⟩ :=
  Fin.ext (by show (pt e i).val % 4 * 1024 + f.val = _; rw [pt_mod])
theorem pt_succ (e : Fin 8) (i : Fin 4) : state W c (4 * e.val + i.val + 1) = step W c (pt e i) (state W c (4 * e.val + i.val)) := state_succ W c (pt e i)

theorem gathered_first (e : Fin 8) (p : Fin 320) (k : Fin 1024) :
    k1_pay1 (F := Ideal) (iblk W c 2 (pt e 0)) (iblk W c 0 (pt e 0)) (iblk W c 1 (pt e 0)) (ix2 p k) = gath W c e p k := by
  rw [pay1_at]
  simp only [iblk2, iblk0, iblk1, pt_expert]
  rfl

theorem gathered1 (e : Fin 8) : (state W c (4 * e.val + 1)).gathered = k1_pay1 (iblk W c 2 (pt e 0)) (iblk W c 0 (pt e 0)) (iblk W c 1 (pt e 0)) := by
  rw [show 4 * e.val + 1 = 4 * e.val + (0 : Fin 4).val + 1 from rfl, pt_succ]
  exact if_pos (pt_mod e 0)
theorem gathered_next (e : Fin 8) (i : Fin 4) (hi : i.val ≠ 0) : (state W c (4 * e.val + i.val + 1)).gathered = (state W c (4 * e.val + i.val)).gathered := by
  rw [pt_succ]
  exact if_neg (by rw [pt_mod]; exact hi)
theorem gathered2 (e : Fin 8) : (state W c (4 * e.val + 2)).gathered = (state W c (4 * e.val + 1)).gathered := gathered_next W c e 1 (by decide)
theorem gathered3 (e : Fin 8) : (state W c (4 * e.val + 3)).gathered = (state W c (4 * e.val + 2)).gathered := gathered_next W c e 2 (by decide)

theorem part_eq (e : Fin 8) (i : Fin 4) (p : Fin 320) (d : Fin 1024) (g : Vec Ideal S320x1024 .bf16) (hg : ∀ k, g (ix2 p k) = gath W c e p k) :
    ∑ f : Fin 1024, max (∑ k : Fin 1024, g (ix2 p k) * (iblk W c 5 (pt e i) : Vec Ideal S1x1024x1024 .f32) (ix3 0 k f)) 0 * (iblk W c 6 (pt e i) : Vec Ideal S1x1024x1024 .f32) (ix3 0 f d)
      = part W c e p d i := by
  simp only [iblk5, iblk6, pt_expert, pt_unit, hg]
  rfl

theorem acc1 (e : Fin 8) (p : Fin 320) (d : Fin 1024) : (state W c (4 * e.val + 1)).acc (ix2 p d) = part W c e p d 0 := by
  rw [show 4 * e.val + 1 = 4 * e.val + (0 : Fin 4).val + 1 from rfl, pt_succ]
  refine Eq.trans (congrFun (if_pos (pt_mod e 0)) _) ?_
  rw [pay3_at]
  exact part_eq W c e 0 p d _ (gathered_first W c e p)

theorem acc_next (e : Fin 8) (i : Fin 4) (hi : i.val ≠ 0) (p : Fin 320) (d : Fin 1024) (hg : ∀ k, (state W c (4 * e.val + i.val)).gathered (ix2 p k) = gath W c e p k) :
    accAt W c (pt e i) (state W c (4 * e.val + i.val)) (ix2 p d) = (state W c (4 * e.val + i.val)).acc (ix2 p d) + part W c e p d i := by
  refine Eq.trans (congrFun (if_neg (by rw [pt_mod]; exact hi)) _) ?_
  rw [pay4_at]
  exact congrArg _ (part_eq W c e i p d _ hg)

theorem gath1 (e : Fin 8) (p : Fin 320) (k : Fin 1024) : (state W c (4 * e.val + 1)).gathered (ix2 p k) = gath W c e p k := by
  rw [gathered1]; exact gathered_first W c e p k
theorem gath2 (e : Fin 8) (p : Fin 320) (k : Fin 1024) : (state W c (4 * e.val + 2)).gathered (ix2 p k) = gath W c e p k := by
  rw [gathered2]; exact gath1 W c e p k
theorem gath3 (e : Fin 8) (p : Fin 320) (k : Fin 1024) : (state W c (4 * e.val + 3)).gathered (ix2 p k) = gath W c e p k := by
  rw [gathered3]; exact gath2 W c e p k

theorem acc2 (e : Fin 8) (p : Fin 320) (d : Fin 1024) : (state W c (4 * e.val + 2)).acc (ix2 p d) = part W c e p d 0 + part W c e p d 1 := by
  rw [show 4 * e.val + 2 = 4 * e.val + (1 : Fin 4).val + 1 from rfl, pt_succ]
  exact (acc_next W c e 1 (by decide) p d (gath1 W c e p)).trans (congrArg (· + _) (acc1 W c e p d))
theorem acc3 (e : Fin 8) (p : Fin 320) (d : Fin 1024) : (state W c (4 * e.val + 3)).acc (ix2 p d) = part W c e p d 0 + part W c e p d 1 + part W c e p d 2 := by
  rw [show 4 * e.val + 3 = 4 * e.val + (2 : Fin 4).val + 1 from rfl, pt_succ]
  exact (acc_next W c e 2 (by decide) p d (gath2 W c e p)).trans (congrArg (· + _) (acc2 W c e p d))
theorem acc4 (e : Fin 8) (p : Fin 320) (d : Fin 1024) : accAt W c (pt e 3) (state W c (4 * e.val + 3)) (ix2 p d) = expertOf W c e p d :=
  ((acc_next W c e 3 (by decide) p d (gath3 W c e p)).trans (congrArg (· + _) (acc3 W c e p d))).trans (parts W c e p d)

theorem own_next (e : Fin 8) (i : Fin 4) (hi : i.val ≠ 3) : (state W c (4 * e.val + i.val + 1)).own = (state W c (4 * e.val + i.val)).own := by
  rw [pt_succ]
  exact if_neg (by rw [pt_mod]; exact hi)
theorem other_next (e : Fin 8) (i : Fin 4) (hi : i.val ≠ 3) : (state W c (4 * e.val + i.val + 1)).other = (state W c (4 * e.val + i.val)).other := by
  rw [pt_succ]
  exact if_neg (by rw [pt_mod]; exact hi)

/-- What expert `e` adds to token `s` in the order of the device. -/
def adds (e : Fin 8) (s : Fin 2048) (d : Fin 1024) : EReal :=
  ∑ p : Fin 320, hot (W c main_v35 (ix3 e 0 p)) (BitVec.ofNat 32 s.val) * W c main_v36 (ix3 e s 0) * expertOf W c e p d

def low (t : Fin 1024) : Fin 2048 := ⟨t.val, by have := t.isLt; omega⟩
def high (t : Fin 1024) : Fin 2048 := ⟨t.val + 1024, by have := t.isLt; omega⟩

theorem own4 (e : Fin 8) (t d : Fin 1024) :
    (state W c (4 * e.val + 4)).own (ix2 t d) = (if e.val = 0 then adds W c e (low t) d else (state W c (4 * e.val)).own (ix2 t d) + adds W c e (low t) d) := by
  have hs : (state W c (4 * e.val + 3)).own = (state W c (4 * e.val)).own :=
    (own_next W c e 2 (by decide)).trans ((own_next W c e 1 (by decide)).trans (own_next W c e 0 (by decide)))
  have ha : ∀ p : Fin 320, hot ((iblk W c 3 (pt e 3) : Vec Ideal S1x1x320 .i32) (ix3 0 0 p)) (BitVec.ofNat 32 t.val) * (rowsOwn (iblk W c 4 (pt e 3) : Vec Ideal S1x2048x1 .f32)) (ix3 0 t 0) * accAt W c (pt e 3) (state W c (4 * e.val + 3)) (ix2 p d)
      = hot (W c main_v35 (ix3 e 0 p)) (BitVec.ofNat 32 (low t).val) * W c main_v36 (ix3 e (low t) 0) * expertOf W c e p d := fun p => by
    rw [acc4, iblk3, rowsOwn_at, iblk4, pt_expert]; rfl
  rw [show 4 * e.val + 4 = 4 * e.val + (3 : Fin 4).val + 1 from rfl, pt_succ]
  refine Eq.trans (congrFun (if_pos (pt_mod e 3)) _) ?_
  by_cases h0 : e.val = 0
  · rw [if_pos h0]
    refine Eq.trans (congrFun (if_pos (show 4 * e.val + 3 < 4 by omega)) _) ?_
    rw [pay8_at]
    exact Finset.sum_congr rfl fun p _ => ha p
  · rw [if_neg h0]
    refine Eq.trans (congrFun (if_neg (show ¬ 4 * e.val + 3 < 4 by omega)) _) ?_
    rw [pay10_at]
    exact congr (congrArg _ (congrFun hs _)) (Finset.sum_congr rfl fun p _ => ha p)

theorem other4 (e : Fin 8) (t d : Fin 1024) :
    (state W c (4 * e.val + 4)).other (ix2 t d) = (if e.val = 0 then adds W c e (high t) d else (state W c (4 * e.val)).other (ix2 t d) + adds W c e (high t) d) := by
  have hs : (state W c (4 * e.val + 3)).other = (state W c (4 * e.val)).other :=
    (other_next W c e 2 (by decide)).trans ((other_next W c e 1 (by decide)).trans (other_next W c e 0 (by decide)))
  have ha : ∀ p : Fin 320, hot ((iblk W c 3 (pt e 3) : Vec Ideal S1x1x320 .i32) (ix3 0 0 p)) (BitVec.ofNat 32 (t.val + 1024)) * (rowsOther (iblk W c 4 (pt e 3) : Vec Ideal S1x2048x1 .f32)) (ix3 0 t 0) * accAt W c (pt e 3) (state W c (4 * e.val + 3)) (ix2 p d)
      = hot (W c main_v35 (ix3 e 0 p)) (BitVec.ofNat 32 (high t).val) * W c main_v36 (ix3 e (high t) 0) * expertOf W c e p d := fun p => by
    rw [acc4, iblk3, rowsOther_at, iblk4, pt_expert]; rfl
  rw [show 4 * e.val + 4 = 4 * e.val + (3 : Fin 4).val + 1 from rfl, pt_succ]
  refine Eq.trans (congrFun (if_pos (pt_mod e 3)) _) ?_
  by_cases h0 : e.val = 0
  · rw [if_pos h0]
    refine Eq.trans (congrFun (if_pos (show 4 * e.val + 3 < 4 by omega)) _) ?_
    rw [pay9_at]
    exact Finset.sum_congr rfl fun p _ => ha p
  · rw [if_neg h0]
    refine Eq.trans (congrFun (if_neg (show ¬ 4 * e.val + 3 < 4 by omega)) _) ?_
    rw [pay11_at]
    exact congr (congrArg _ (congrFun hs _)) (Finset.sum_congr rfl fun p _ => ha p)

/-- What a device adds to its own tokens. -/
theorem own_final (t d : Fin 1024) : (state W c 32).own (ix2 t d) = ∑ e : Fin 8, adds W c e (low t) d := by
  have h := own4 W c
  rw [Fin.sum_univ_eight]
  rw [show (32 : ℕ) = 4 * (7 : Fin 8).val + 4 from rfl, h 7, if_neg (by decide),
    show 4 * (7 : Fin 8).val = 4 * (6 : Fin 8).val + 4 from rfl, h 6, if_neg (by decide),
    show 4 * (6 : Fin 8).val = 4 * (5 : Fin 8).val + 4 from rfl, h 5, if_neg (by decide),
    show 4 * (5 : Fin 8).val = 4 * (4 : Fin 8).val + 4 from rfl, h 4, if_neg (by decide),
    show 4 * (4 : Fin 8).val = 4 * (3 : Fin 8).val + 4 from rfl, h 3, if_neg (by decide),
    show 4 * (3 : Fin 8).val = 4 * (2 : Fin 8).val + 4 from rfl, h 2, if_neg (by decide),
    show 4 * (2 : Fin 8).val = 4 * (1 : Fin 8).val + 4 from rfl, h 1, if_neg (by decide),
    show 4 * (1 : Fin 8).val = 4 * (0 : Fin 8).val + 4 from rfl, h 0, if_pos (by decide)]

/-- What a device adds to its partner's tokens. -/
theorem other_final (t d : Fin 1024) : (state W c 32).other (ix2 t d) = ∑ e : Fin 8, adds W c e (high t) d := by
  have h := other4 W c
  rw [Fin.sum_univ_eight]
  rw [show (32 : ℕ) = 4 * (7 : Fin 8).val + 4 from rfl, h 7, if_neg (by decide),
    show 4 * (7 : Fin 8).val = 4 * (6 : Fin 8).val + 4 from rfl, h 6, if_neg (by decide),
    show 4 * (6 : Fin 8).val = 4 * (5 : Fin 8).val + 4 from rfl, h 5, if_neg (by decide),
    show 4 * (5 : Fin 8).val = 4 * (4 : Fin 8).val + 4 from rfl, h 4, if_neg (by decide),
    show 4 * (4 : Fin 8).val = 4 * (3 : Fin 8).val + 4 from rfl, h 3, if_neg (by decide),
    show 4 * (3 : Fin 8).val = 4 * (2 : Fin 8).val + 4 from rfl, h 2, if_neg (by decide),
    show 4 * (2 : Fin 8).val = 4 * (1 : Fin 8).val + 4 from rfl, h 1, if_neg (by decide),
    show 4 * (1 : Fin 8).val = 4 * (0 : Fin 8).val + 4 from rfl, h 0, if_pos (by decide)]

end Cert.KernelIdeal.Moe
-- ==== Proof.Whole.lean ====
/-
# The kernel against its reference

Every device's result is its half of the rows of the reference's. What an expert adds to a token on the device that holds it
is what the reference has it add: the list of its first 320 tokens in the device's order holds exactly the tokens it serves.
-/
module

public import proofs.«01_k».proof.Defs
public import proofs.«01_k».proof.Proof.Exchanged
public import proofs.«01_k».proof.Proof.MoeValue

@[expose] public section

set_option maxRecDepth 65536

noncomputable section

namespace Cert.KernelIdeal.Run

open Cert.KernelIdeal Cert.KernelIdeal.Gen Cert.HostStages Cert.Halves
open Cert.KernelIdeal.Talk (prt astg bstg outAt landed)
open Cert.KernelIdeal.Moe (hot gath term expertOf adds low high)
open Idealize.ShloMosaic Idealize.ShloMosaic.TcCoe Idealize.ShloMosaic.StableHlo Idealize.SL.Sem
open Cert.Spec (glob same rank served weight apply)

/-- What expert `b` adds to token `t`. -/
def share (X : FVec Ideal (⟨2, ![2048, 1024]⟩ : Shape) .f32) (R : FVec Ideal (⟨2, ![1024, 16]⟩ : Shape) .f32)
    (A : FVec Ideal (⟨3, ![16, 1024, 4096]⟩ : Shape) .f32) (B : FVec Ideal (⟨3, ![16, 4096, 1024]⟩ : Shape) .f32) (t : Fin 2048) (d : Fin 1024) (b : Fin 16) : EReal :=
  (if served (fun t k => Cert.RefStages.gates X R (ix2 t k)) b t then weight (fun k => Cert.RefStages.gates X R (ix2 t k)) b else 0)
    * apply (fun k f => A (ix3 b k f)) (fun f d => B (ix3 b f d)) (fun k => X (ix2 t k)) d

theorem hot_same (a b : ℕ) (ha : a < 2 ^ 32) (hb : b < 2 ^ 32) : hot (BitVec.ofNat 32 a) (BitVec.ofNat 32 b) = same a b := by
  unfold hot same
  refine if_congr ⟨fun h => ?_, fun h => by rw [h]⟩ rfl rfl
  have := congrArg BitVec.toNat h
  rwa [BitVec.toNat_ofNat, BitVec.toNat_ofNat, Nat.mod_eq_of_lt ha, Nat.mod_eq_of_lt hb] at this

theorem no_half (c : Dev nD) (e : Fin 8) : (no c e).val / 8 = half c := by
  show (8 * half c + e.val) / 8 = half c
  have := e.isLt
  omega

variable (m : (ℓ : Loc nD τ sig) → Buf (Elt Ideal) ℓ) (outs : Outs (F := Ideal)) (hl : Leaves m outs)
variable {X : FVec Ideal (⟨2, ![2048, 1024]⟩ : Shape) .f32} {R : FVec Ideal (⟨2, ![1024, 16]⟩ : Shape) .f32}
  {A : FVec Ideal (⟨3, ![16, 1024, 4096]⟩ : Shape) .f32} {B : FVec Ideal (⟨3, ![16, 4096, 1024]⟩ : Shape) .f32} (hg : Given m X R A B)

include hl hg in
/-- The token gathered for place `p` of an expert's list is the token listed there. -/
theorem gath_at (c : Dev nD) (e : Fin 8) (p : Fin 320) (k : Fin 1024) : gath (V5 m outs) c e p k = X (ix2 (glob (half c) (listed outs c e (early p))) k) := by
  have hq := (listed outs c e (early p)).isLt
  refine Eq.trans ?_ (Cert.Spec.sum_rows (listed outs c e (early p)) fun s => X (ix2 (glob (half c) s) k))
  unfold gath
  refine congrArg₂ (· + ·) (Finset.sum_congr rfl fun i _ => congrArg₂ (· * ·) ?_ (own_at m outs hl hg c i k)) (Finset.sum_congr rfl fun i _ => congrArg₂ (· * ·) ?_ (other_at m outs hl hg c i k))
  · exact (congrArg (fun w => hot w _) (column_listed m outs c e p)).trans (hot_same _ _ (by omega) (by have := i.isLt; omega))
  · exact (congrArg (fun w => hot w _) (column_listed m outs c e p)).trans (hot_same _ _ (by omega) (by have := i.isLt; omega))

include hl hg in
theorem expertOf_at (c : Dev nD) (e : Fin 8) (p : Fin 320) (d : Fin 1024) :
    expertOf (V5 m outs) c e p d = apply (fun k f => A (ix3 (no c e) k f)) (fun f d => B (ix3 (no c e) f d)) (fun k => X (ix2 (glob (half c) (listed outs c e (early p))) k)) d := by
  unfold expertOf term apply
  refine Finset.sum_congr rfl fun f _ => congrArg₂ (· * ·) (congrArg (max · 0) (Finset.sum_congr rfl fun k _ => congrArg₂ (· * ·) ?_ ?_)) ?_
  · exact gath_at m outs hl hg c e p k
  · exact first_at m outs hg c e k f
  · exact second_at m outs hg c e f d

include hl hg in
theorem uses_at (c : Dev nD) (b : Fin 16) (s : Fin 2048) : uses (gates2 outs c) b s = decide (Cert.Spec.uses (fun k => Cert.RefStages.gates X R (ix2 (glob (half c) s) k)) b) := by
  unfold uses
  rw [show (fun k => gates2 outs c (ix2 s k)) = fun k => Cert.RefStages.gates X R (ix2 (glob (half c) s) k) from funext fun k => gates2_at m outs hl hg c s k]

include hl hg in
/-- A token has a place in an expert's list if and only if the expert serves it. -/
theorem place_iff (c : Dev nD) (e : Fin 8) (s : Fin 2048) :
    (uses (gates2 outs c) (no c e) s = true ∧ rank (uses (gates2 outs c) (no c e)) s < 320) ↔ served (fun t k => Cert.RefStages.gates X R (ix2 t k)) (no c e) (glob (half c) s) := by
  rw [show uses (gates2 outs c) (no c e) = fun s => decide (Cert.Spec.uses (fun k => Cert.RefStages.gates X R (ix2 (glob (half c) s) k)) (no c e)) from funext fun s => uses_at m outs hl hg c (no c e) s]
  rw [Cert.Spec.rank_eq (fun t k => Cert.RefStages.gates X R (ix2 t k)) (half c) (half_lt c) (no c e) (no_half c e) s]
  exact and_congr decide_eq_true_iff Iff.rfl

include hl hg in
theorem adds_at (c : Dev nD) (e : Fin 8) (s : Fin 2048) (d : Fin 1024) : adds (V5 m outs) c e s d = share X R A B (glob (half c) s) d (no c e) := by
  have hs := s.isLt
  have hw : uses (gates2 outs c) (no c e) s = false → weight (fun k => Cert.RefStages.gates X R (ix2 (glob (half c) s) k)) (no c e) = 0 := fun h => by
    rw [uses_at m outs hl hg] at h
    exact Cert.Spec.weight_unused _ _ (of_decide_eq_false h)
  have hg2 : weight (fun k => gates2 outs c (ix2 s k)) (no c e) = weight (fun k => Cert.RefStages.gates X R (ix2 (glob (half c) s) k)) (no c e) :=
    congrArg (fun g => weight g (no c e)) (funext fun k => gates2_at m outs hl hg c s k)
  let W := weight (fun k => Cert.RefStages.gates X R (ix2 (glob (half c) s) k)) (no c e)
  let y : Fin 2048 → EReal := fun q => apply (fun k f => A (ix3 (no c e) k f)) (fun f d => B (ix3 (no c e) f d)) (fun k => X (ix2 (glob (half c) q) k)) d
  have key : ∑ p : Fin 320, same (listed outs c e (early p)).val s.val * W * y (listed outs c e (early p))
      = (if uses (gates2 outs c) (no c e) s = true ∧ rank (uses (gates2 outs c) (no c e)) s < 320 then W else 0) * y s :=
    Cert.Spec.sum_places (uses (gates2 outs c) (no c e)) W s hw y
  have e1 : ∀ p : Fin 320, hot (V5 m outs c main_v35 (ix3 e 0 p)) (BitVec.ofNat 32 s.val) = same (listed outs c e (early p)).val s.val := fun p => by
    have hq := (listed outs c e (early p)).isLt
    refine (congrArg (fun w => hot w (BitVec.ofNat 32 s.val)) (line_listed m outs c e p)).trans (hot_same (listed outs c e (early p)).val s.val ?_ ?_) <;> omega
  have e2 : (V5 m outs c main_v36 : FVec Ideal S8x2048x1 .f32) (ix3 e s 0) = W := (thick_given m outs c e s).trans hg2
  refine Eq.trans ?_ (key.trans ?_)
  · unfold adds
    refine Finset.sum_congr rfl fun p _ => congrArg₂ (· * ·) (congrArg₂ (· * ·) ?_ ?_) ?_
    · exact e1 p
    · exact e2
    · exact expertOf_at m outs hl hg c e p d
  · have e3 : (if uses (gates2 outs c) (no c e) s = true ∧ rank (uses (gates2 outs c) (no c e)) s < 320 then W else 0)
        = if served (fun t k => Cert.RefStages.gates X R (ix2 t k)) (no c e) (glob (half c) s) then W else 0 := by
      have hp := place_iff m outs hl hg c e s
      by_cases h : served (fun t k => Cert.RefStages.gates X R (ix2 t k)) (no c e) (glob (half c) s)
      · rw [if_pos h, if_pos (hp.mpr h)]
      · rw [if_neg h, if_neg fun h' => h (hp.mp h')]
    rw [e3]
    rfl

/-- The sixteen experts are those of a device and those of its partner. -/
theorem sum_experts (c : Dev nD) (y : Fin 16 → EReal) : ∑ e : Fin 8, y (no c e) + ∑ e : Fin 8, y (no (prt c) e) = ∑ b : Fin 16, y b := by
  have key : ∀ c d : Dev nD, half c = 0 → half d = 1 → ∑ e : Fin 8, y (no c e) + ∑ e : Fin 8, y (no d e) = ∑ b : Fin 16, y b := fun c d hc hd => by
    rw [show ∑ b : Fin 16, y b = ∑ e : Fin 8, y (Fin.castAdd 8 e) + ∑ e : Fin 8, y (Fin.natAdd 8 e) from Fin.sum_univ_add (a := 8) (b := 8) y]
    refine congrArg₂ (· + ·) (Finset.sum_congr rfl fun e _ => congrArg y (Fin.ext ?_)) (Finset.sum_congr rfl fun e _ => congrArg y (Fin.ext ?_))
    · show 8 * half c + e.val = e.val
      omega
    · show 8 * half d + e.val = 8 + e.val
      omega
  have hh := half_prt c
  rcases (show half c = 0 ∨ half c = 1 by have := half_lt c; omega) with h | h
  · exact key c (prt c) h (by omega)
  · rw [add_comm]; exact key (prt c) c (by omega) h

theorem astg_read {F : FTy → Type} [FloatOps F] (V : Dev nD → Valuation τ sig (Elt F)) (c : Dev nD) : astg V c = V c main_v37_0 :=
  Memref.read_access_unit_zero (Elt F) main_v37_0 (off := fun a => win2_0.index (0 : Fin 1) a * main_v37_0.ty.shape.size a)
    (funext fun a => by fin_cases a <;> decide) (fun a => by fin_cases a <;> decide) _
theorem bstg_read {F : FTy → Type} [FloatOps F] (V : Dev nD → Valuation τ sig (Elt F)) (c : Dev nD) : bstg V c = V c main_v37_1 :=
  Memref.read_access_unit_zero (Elt F) main_v37_1 (off := fun a => win2_1.index (0 : Fin 1) a * main_v37_1.ty.shape.size a)
    (funext fun a => by fin_cases a <;> decide) (fun a => by fin_cases a <;> decide) _

theorem sum_at (a b : FVec Ideal S1024x1024 .bf16) (r d : Fin 1024) : k2_pay1 (F := Ideal) a b (ix2 r d) = a (ix2 r d) + b (ix2 r d) := by
  unfold k2_pay1
  clean_types
  pointwise

include hl hg in
/-- The result of a device at an index. -/
theorem result_at (c : Dev nD) (r d : Fin 1024) : (outs 7 main_v38 c : FVec Ideal S1024x1024 .f32) (ix2 r d) = ∑ b : Fin 16, share X R A B (row c r) d b := by
  have hr := r.isLt
  rw [hl.out]
  unfold outAt landed
  rw [astg_read, bstg_read, V6_at0, V6_at1, hl.own, hl.other]
  refine (sum_at _ _ r d).trans ?_
  rw [Cert.KernelIdeal.Moe.own_final, Cert.KernelIdeal.Moe.other_final, ← sum_experts c]
  have h0 : glob (half c) (low r) = row c r := glob_low c (low r) r.isLt
  have h1 : glob (half (prt c)) (high r) = row c r := by
    refine (glob_high (prt c) (high r) (by show ¬ r.val + 1024 < 1024; omega)).trans ?_
    refine Fin.ext ?_
    show half (prt (prt c)) * 1024 + (r.val + 1024 - 1024) = half c * 1024 + r.val
    rw [Cert.KernelIdeal.Talk.prt_prt]
    omega
  refine congrArg₂ (· + ·) (Finset.sum_congr rfl fun e _ => ?_) (Finset.sum_congr rfl fun e _ => ?_)
  · rw [adds_at m outs hl hg, h0]
  · rw [adds_at m outs hl hg, h1]

/-- In exact arithmetic every device's result is its half of the rows of the reference's. -/
theorem algebraic : Cert.algebraic_KernelIdeal_ReferenceIdeal := fun m ρ m' ρ' _ hag => by
  refine ⟨_, ?_, (θ_run Cert.ReferenceIdeal.defs _ _).mono (fun r h => h 0) (Cert.ReferenceIdeal.Value.run (F := Ideal) m' ρ')⟩
  obtain ⟨outs, hl⟩ := exists_leaves m
  have hg : Given m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    ⟨fun c => (hag c).1.trans (blockN_rows c _ _ _), fun c => (hag c).2.1.trans (blockN_cols c _ _ _),
      fun c => (hag c).2.2.1.trans (blockN_experts c _ _ _), fun c => (hag c).2.2.2.trans (blockN_experts c _ _ _)⟩
  refine (θ_run defs _ _).mono (fun r h c => ⟨(h.1 c).1.1.trans ?_, (h.1 c).1.2⟩) (run_main m outs hl ρ)
  refine Eq.trans ?_ (blockN_rows c _ _ _).symm
  funext j
  idx_vars j
  refine (result_at m outs hl hg c j0 j1).trans ?_
  exact (Cert.RefStages.res_at m' 0 _ _ _ _ rfl rfl rfl rfl (row c j0) j1).symm

end Cert.KernelIdeal.Run
-- ==== Proof.lean ====
/-
# The certificate

The claims of `Cert.Claim`, each from the module that proves it.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Frames
public import proofs.«01_k».proof.Proof.Whole
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Frames.frame_kernel, Cert.Frames.frame_ideal, Cert.Frames.frame_reference, trivial, Cert.KernelIdeal.Run.algebraic⟩

end Cert.Proof

end
